-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_and_few [hPre_distinct_and_few : Cert.Pre_distinct_and_few.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_and_few.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_and_few [hPre_distinct_and_few : Cert.Pre_distinct_and_few.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_and_few.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distinct_and_few [hKernelIdeal : Cert.KernelIdeal.Facts] [hPre_distinct_and_few : Cert.Pre_distinct_and_few.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_and_few m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distinct_and_few [hReferenceIdeal : Cert.ReferenceIdeal.Facts] [hPre_distinct_and_few : Cert.Pre_distinct_and_few.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_and_few m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_distinct_and_few [hKernelIdeal : Cert.KernelIdeal.Facts] [hReferenceIdeal : Cert.ReferenceIdeal.Facts] [hPre_distinct_and_few : Cert.Pre_distinct_and_few.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_and_few m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108_5) = v0 c
          ∧ r.2.mem ((c.tc : Thread Cert.ReferenceIdeal.nD Cert.ReferenceIdeal.τ).loc Cert.ReferenceIdeal.main_v108_6) = v1 c
          ∧ r.2.mem ((c.tc : Thread Cert.ReferenceIdeal.nD Cert.ReferenceIdeal.τ).loc Cert.ReferenceIdeal.main_v108_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distinct_and_few : Cert.Pre_distinct_and_few.Facts),
    quiescent_Kernel (hKernel := hKernel)
    ∧ quiescent_KernelIdeal (hKernelIdeal := hKernelIdeal)
    ∧ quiescent_KernelIdeal_pre_distinct_and_few (hKernelIdeal := hKernelIdeal) (hPre_distinct_and_few := hPre_distinct_and_few)
    ∧ quiescent_ReferenceIdeal (hReferenceIdeal := hReferenceIdeal)
    ∧ quiescent_ReferenceIdeal_pre_distinct_and_few (hReferenceIdeal := hReferenceIdeal) (hPre_distinct_and_few := hPre_distinct_and_few)
    ∧ preserves_Kernel_KernelIdeal
    ∧ algebraic_KernelIdeal_ReferenceIdeal_pre_distinct_and_few (hKernelIdeal := hKernelIdeal) (hReferenceIdeal := hReferenceIdeal) (hPre_distinct_and_few := hPre_distinct_and_few)
-- ==== Pre_distinct_and_few.lean ====
abbrev S1000x4 : Shape := ⟨2, ![1000, 4]⟩
abbrev S1000x81 : Shape := ⟨2, ![1000, 81]⟩
abbrev S1000x320 : Shape := ⟨2, ![1000, 320]⟩
abbrev S_ : Shape := ⟨0, ![]⟩
abbrev S1000 : Shape := ⟨1, ![1000]⟩
abbrev S1000x1 : Shape := ⟨2, ![1000, 1]⟩
abbrev S1000x80 : Shape := ⟨2, ![1000, 80]⟩
abbrev S80000 : Shape := ⟨1, ![80000]⟩
abbrev S81920 : Shape := ⟨1, ![81920]⟩
abbrev S32x2560 : Shape := ⟨2, ![32, 2560]⟩
abbrev S32 : Shape := ⟨1, ![32]⟩
abbrev S1 : Shape := ⟨1, ![1]⟩
abbrev S80000x1 : Shape := ⟨2, ![80000, 1]⟩
abbrev S1x80000 : Shape := ⟨2, ![1, 80000]⟩
abbrev S80000x80000 : Shape := ⟨2, ![80000, 80000]⟩

class Facts : Prop where
  reducesTo_S1000x81_S1000_d1 : S1000x81.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x81_0_1 : S1000x1.BroadcastsInDim S1000x81 (![0, 1] : Fin 2 → Fin S1000x81.rank)
  slices_S1000x81_S1000x80_0_0 : S1000x81.Slices ![0, 0] S1000x80
  shapeCasts_S1000x80_S80000 : S1000x80.ShapeCasts S80000
  bcast_S_S80000 : S_.BroadcastsInDim S80000 (![] : Fin 0 → Fin S80000.rank)
  natLt_1_32 : 1 < 32
  pads_S80000_S81920_019200 : S80000.Pads (![0] : Fin 1 → Nat) ![1920] ![0] S81920
  shapeCasts_S81920_S32x2560 : S81920.ShapeCasts S32x2560
  reducesTo_S32x2560_S32_d1 : S32x2560.ReducesTo [1] S32
  bcast_S_S32 : S_.BroadcastsInDim S32 (![] : Fin 0 → Fin S32.rank)
  reducesTo_S32_S_d0 : S32.ReducesTo [0] S_
  slices_S32_S1_0 : S32.Slices ![0] S1
  shapeCasts_S1_S_ : S1.ShapeCasts S_
  bcast_S80000_S80000x1_0 : S80000.BroadcastsInDim S80000x1 (![0] : Fin 1 → Fin S80000x1.rank)
  bcast_S80000_S1x80000_1 : S80000.BroadcastsInDim S1x80000 (![1] : Fin 1 → Fin S1x80000.rank)
  bcast_S80000x1_S80000x80000_0_1 : S80000x1.BroadcastsInDim S80000x80000 (![0, 1] : Fin 2 → Fin S80000x80000.rank)
  bcast_S1x80000_S80000x80000_0_1 : S1x80000.BroadcastsInDim S80000x80000 (![0, 1] : Fin 2 → Fin S80000x80000.rank)
  reducesTo_S80000x80000_S80000_d1 : S80000x80000.ReducesTo [1] S80000
  reducesTo_S80000_S_d0 : S80000.ReducesTo [0] S_

variable [Facts]

def fn_pad {F : FTy → Type} [FloatOps F] (arg0 : IVec S80000 32) (arg1 : IVec S_ 32) : IVec S81920 32 :=
  let v0 : IVec S_ 32 := id arg1
  let v1 : IVec S81920 32 := (fun x v => pad S81920 ![0] ![1920] ![0] x v pads_S80000_S81920_019200 h_S_) arg0 v0
  v1

def fn_part2 {F : FTy → Type} [FloatOps F] (main_v25 : IVec S_ 1) (main_v36 : IVec S80000 1) : IVec S_ 1 :=
  let main_c_9 : IVec S_ 1 := constantI S_ 1 1#1
  let main_v37 : IVec S_ 1 := (fun x v => Host.reduce IntOp.andi x v reducesTo_S80000_S_d0 h_S_) main_v36 main_c_9
  let main_v38 : IVec S_ 1 := andi main_v25 main_v37
  main_v38

def fn_part1 {F : FTy → Type} [FloatOps F] (main_v12 : FVec F S80000 .f32) (main_v14 : IVec S80000 1) (main_v17 : IVec S32x2560 32) (main_c_3 : IVec S_ 32) : IVec S_ 1 :=
  let main_v18 : IVec S32 32 := (fun x v => Host.reduce IntOp.addi x v reducesTo_S32x2560_S32_d1 h_S_) main_v17 main_c_3
  let main_c_4 : IVec S_ 32 := constantI S_ 32 128#32
  let main_v19 : IVec S32 32 := broadcastInDim S32 ![] bcast_S_S32 main_c_4
  let main_v20 : IVec S32 1 := cmpi .sle main_v18 main_v19
  let main_c_5 : IVec S_ 1 := constantI S_ 1 1#1
  let main_v21 : IVec S_ 1 := (fun x v => Host.reduce IntOp.andi x v reducesTo_S32_S_d0 h_S_) main_v20 main_c_5
  let main_v22 : IVec S1 32 := (extractStridedSlice S1 ![0] · slices_S32_S1_0) main_v18
  let main_v23 : IVec S_ 32 := shapeCast S_ main_v22 shapeCasts_S1_S_
  let main_c_6 : IVec S_ 32 := constantI S_ 32 127#32
  let main_v24 : IVec S_ 1 := cmpi .sle main_v23 main_c_6
  let main_v25 : IVec S_ 1 := andi main_v21 main_v24
  let main_v26 : FVec F S80000x1 .f32 := broadcastInDim S80000x1 ![0] bcast_S80000_S80000x1_0 main_v12
  let main_v27 : FVec F S1x80000 .f32 := broadcastInDim S1x80000 ![1] bcast_S80000_S1x80000_1 main_v12
  let main_v28 : FVec F S80000x80000 .f32 := broadcastInDim S80000x80000 ![0, 1] bcast_S80000x1_S80000x80000_0_1 main_v26
  let main_v29 : FVec F S80000x80000 .f32 := broadcastInDim S80000x80000 ![0, 1] bcast_S1x80000_S80000x80000_0_1 main_v27
  let main_v30 : IVec S80000x80000 1 := cmpf .oeq main_v28 main_v29
  let main_v31 : IVec S80000x80000 32 := (extui 32 · natLt_1_32) main_v30
  let main_c_7 : IVec S_ 32 := constantI S_ 32 0#32
  let main_v32 : IVec S80000 32 := (fun x v => Host.reduce IntOp.addi x v reducesTo_S80000x80000_S80000_d1 h_S_) main_v31 main_c_7
  let main_c_8 : IVec S_ 32 := constantI S_ 32 1#32
  let main_v33 : IVec S80000 32 := broadcastInDim S80000 ![] bcast_S_S80000 main_c_8
  let main_v34 : IVec S80000 1 := cmpi .sle main_v32 main_v33
  let main_v35 : IVec S80000 1 := noti main_v14
  let main_v36 : IVec S80000 1 := ori main_v34 main_v35
  fn_part2 (F := F) main_v25 main_v36

def fn {F : FTy → Type} [FloatOps F] (main_arg0 : FVec F S1000x4 .f32) (main_arg1 : FVec F S1000x81 .f32) (main_arg2 : FVec F S1000x320 .f32) : IVec S_ 1 :=
  let main_cst : FVec F S_ .f32 := constant S_ .f32 0xFF800000#32
  let main_v0 : FVec F S1000 .f32 := (fun x v => Host.reduce FloatOps.maximumf x v reducesTo_S1000x81_S1000_d1 h_S_) main_arg1 main_cst
  let main_cst_0 : FVec F S_ .f32 := constant S_ .f32 0xFF800000#32
  let main_v1 : FVec F S1000 .f32 := broadcastInDim S1000 ![] bcast_S_S1000 main_cst_0
  let main_v2 : FVec F S1000 .f32 := maximumf main_v1 main_v0
  let main_v3 : FVec F S1000x1 .f32 := broadcastInDim S1000x1 ![0] bcast_S1000_S1000x1_0 main_v2
  let main_v4 : FVec F S1000x81 .f32 := broadcastInDim S1000x81 ![0, 1] bcast_S1000x1_S1000x81_0_1 main_v3
  let main_v5 : FVec F S1000x81 .f32 := subf main_arg1 main_v4
  let main_v6 : FVec F S1000x81 .f32 := Host.exp main_v5
  let main_cst_1 : FVec F S_ .f32 := constant S_ .f32 0x00000000#32
  let main_v7 : FVec F S1000 .f32 := (fun x v => Host.reduceAdd x v reducesTo_S1000x81_S1000_d1 h_S_) main_v6 main_cst_1
  let main_v8 : FVec F S1000x1 .f32 := broadcastInDim S1000x1 ![0] bcast_S1000_S1000x1_0 main_v7
  let main_v9 : FVec F S1000x81 .f32 := broadcastInDim S1000x81 ![0, 1] bcast_S1000x1_S1000x81_0_1 main_v8
  let main_v10 : FVec F S1000x81 .f32 := Host.divf main_v6 main_v9
  let main_v11 : FVec F S1000x80 .f32 := (extractStridedSlice S1000x80 ![0, 0] · slices_S1000x81_S1000x80_0_0) main_v10
  let main_v12 : FVec F S80000 .f32 := shapeCast S80000 main_v11 shapeCasts_S1000x80_S80000
  let main_cst_2 : FVec F S_ .f32 := constant S_ .f32 0x3D4CCCCD#32
  let main_v13 : FVec F S80000 .f32 := broadcastInDim S80000 ![] bcast_S_S80000 main_cst_2
  let main_v14 : IVec S80000 1 := cmpf .ogt main_v12 main_v13
  let main_v15 : IVec S80000 32 := (extui 32 · natLt_1_32) main_v14
  let main_c : IVec S_ 32 := constantI S_ 32 0#32
  let main_v16 : IVec S81920 32 := fn_pad (F := F) main_v15 main_c
  let main_v17 : IVec S32x2560 32 := shapeCast S32x2560 main_v16 shapeCasts_S81920_S32x2560
  let main_c_3 : IVec S_ 32 := constantI S_ 32 0#32
  fn_part1 (F := F) main_v12 main_v14 main_v17 main_c_3
-- ==== Kernel.lean ====
abbrev S1000x4 : Shape := ⟨2, ![1000, 4]⟩
abbrev S1000x81 : Shape := ⟨2, ![1000, 81]⟩
abbrev S1000x320 : Shape := ⟨2, ![1000, 320]⟩
abbrev S1000x80x4 : Shape := ⟨3, ![1000, 80, 4]⟩
abbrev S1000x80x1 : Shape := ⟨3, ![1000, 80, 1]⟩
abbrev S1000x80 : Shape := ⟨2, ![1000, 80]⟩
abbrev S5x1024x80 : Shape := ⟨3, ![5, 1024, 80]⟩
abbrev S1000 : Shape := ⟨1, ![1000]⟩
abbrev S1000x1 : Shape := ⟨2, ![1000, 1]⟩
abbrev S1x1000x80 : Shape := ⟨3, ![1, 1000, 80]⟩
abbrev S24x80 : Shape := ⟨2, ![24, 80]⟩
abbrev S1x24x80 : Shape := ⟨3, ![1, 24, 80]⟩
abbrev S409600 : Shape := ⟨1, ![409600]⟩
abbrev S6x32x128 : Shape := ⟨3, ![6, 32, 128]⟩
abbrev S2560 : Shape := ⟨1, ![2560]⟩
abbrev S128 : Shape := ⟨1, ![128]⟩
abbrev S_ : Shape := ⟨0, ![]⟩
abbrev S16 : Shape := ⟨1, ![16]⟩
abbrev S1x1x128 : Shape := ⟨3, ![1, 1, 128]⟩
abbrev S6x128 : Shape := ⟨2, ![6, 128]⟩
abbrev S1x32x128 : Shape := ⟨3, ![1, 32, 128]⟩
abbrev S32x128 : Shape := ⟨2, ![32, 128]⟩
abbrev S1x128 : Shape := ⟨2, ![1, 128]⟩
abbrev S1x100 : Shape := ⟨2, ![1, 100]⟩
abbrev S100 : Shape := ⟨1, ![100]⟩
abbrev S100x1 : Shape := ⟨2, ![100, 1]⟩
abbrev S100x4 : Shape := ⟨2, ![100, 4]⟩

abbrev nBuf : Table → Nat
  | .hbm => 34
  | .local .tc .vmem => 9
  | .local .scVector .vmem => 12
  | _ => 0

abbrev bufTy : (tb : Table) → Fin (nBuf tb) → BufTy
  | .hbm, ⟨0, _⟩ => ⟨S1000x4, .f32⟩
  | .hbm, ⟨1, _⟩ => ⟨S1000x81, .f32⟩
  | .hbm, ⟨2, _⟩ => ⟨S1000x320, .f32⟩
  | .hbm, ⟨3, _⟩ => ⟨S1000x80x4, .f32⟩
  | .hbm, ⟨4, _⟩ => ⟨S1000x80x1, .f32⟩
  | .hbm, ⟨5, _⟩ => ⟨S1000x80, .f32⟩
  | .hbm, ⟨6, _⟩ => ⟨S1000x80x1, .f32⟩
  | .hbm, ⟨7, _⟩ => ⟨S1000x80, .f32⟩
  | .hbm, ⟨8, _⟩ => ⟨S1000x80x1, .f32⟩
  | .hbm, ⟨9, _⟩ => ⟨S1000x80, .f32⟩
  | .hbm, ⟨10, _⟩ => ⟨S1000x80x1, .f32⟩
  | .hbm, ⟨11, _⟩ => ⟨S1000x80, .f32⟩
  | .hbm, ⟨12, _⟩ => ⟨S5x1024x80, .f32⟩
  | .hbm, ⟨13, _⟩ => ⟨S409600, .f32⟩
  | .hbm, ⟨14, _⟩ => ⟨S6x32x128, .f32⟩
  | .hbm, ⟨15, _⟩ => ⟨S6x128, .f32⟩
  | .hbm, ⟨16, _⟩ => ⟨S1x100, .f32⟩
  | .hbm, ⟨17, _⟩ => ⟨S100, .f32⟩
  | .hbm, ⟨18, _⟩ => ⟨S1x100, .f32⟩
  | .hbm, ⟨19, _⟩ => ⟨S100, .f32⟩
  | .hbm, ⟨20, _⟩ => ⟨S1x100, .f32⟩
  | .hbm, ⟨21, _⟩ => ⟨S100, .f32⟩
  | .hbm, ⟨22, _⟩ => ⟨S1x100, .f32⟩
  | .hbm, ⟨23, _⟩ => ⟨S100, .f32⟩
  | .hbm, ⟨24, _⟩ => ⟨S100x1, .f32⟩
  | .hbm, ⟨25, _⟩ => ⟨S100x1, .f32⟩
  | .hbm, ⟨26, _⟩ => ⟨S100x1, .f32⟩
  | .hbm, ⟨27, _⟩ => ⟨S100x1, .f32⟩
  | .hbm, ⟨28, _⟩ => ⟨S100x4, .f32⟩
  | .hbm, ⟨29, _⟩ => ⟨S1x100, .f32⟩
  | .hbm, ⟨30, _⟩ => ⟨S100, .f32⟩
  | .hbm, ⟨31, _⟩ => ⟨S1x100, .f32⟩
  | .hbm, ⟨32, _⟩ => ⟨S100, .f32⟩
  | .hbm, ⟨33, _⟩ => ⟨S100, .i32⟩
  | .local .tc .vmem, ⟨0, _⟩ => ⟨S1000x4, .f32⟩
  | .local .tc .vmem, ⟨1, _⟩ => ⟨S1000x81, .f32⟩
  | .local .tc .vmem, ⟨2, _⟩ => ⟨S1000x80, .f32⟩
  | .local .tc .vmem, ⟨3, _⟩ => ⟨S1000x80, .f32⟩
  | .local .tc .vmem, ⟨4, _⟩ => ⟨S1000x80, .f32⟩
  | .local .tc .vmem, ⟨5, _⟩ => ⟨S1000x80, .f32⟩
  | .local .tc .vmem, ⟨6, _⟩ => ⟨S5x1024x80, .f32⟩
  | .local .tc .vmem, ⟨7, _⟩ => ⟨S6x32x128, .f32⟩
  | .local .tc .vmem, ⟨8, _⟩ => ⟨S6x128, .f32⟩
  | .local .scVector .vmem, ⟨0, _⟩ => ⟨S2560, .f32⟩
  | .local .scVector .vmem, ⟨1, _⟩ => ⟨S2560, .f32⟩
  | .local .scVector .vmem, ⟨2, _⟩ => ⟨S2560, .f32⟩
  | .local .scVector .vmem, ⟨3, _⟩ => ⟨S2560, .f32⟩
  | .local .scVector .vmem, ⟨4, _⟩ => ⟨S2560, .f32⟩
  | .local .scVector .vmem, ⟨5, _⟩ => ⟨S128, .i32⟩
  | .local .scVector .vmem, ⟨6, _⟩ => ⟨S128, .f32⟩
  | .local .scVector .vmem, ⟨7, _⟩ => ⟨S128, .f32⟩
  | .local .scVector .vmem, ⟨8, _⟩ => ⟨S128, .f32⟩
  | .local .scVector .vmem, ⟨9, _⟩ => ⟨S128, .f32⟩
  | .local .scVector .vmem, ⟨10, _⟩ => ⟨S128, .f32⟩
  | .local .scVector .vmem, ⟨11, _⟩ => ⟨S128, .f32⟩
  | _, _ => ⟨S1000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v10_scv : Ref sig .scVector := ⟨.hbm, 13, rfl⟩
abbrev main_v11_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc2_stg0_0 : Ref sig .tc := ⟨.vmem, 7, rfl⟩
abbrev cc2_stg1_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc2_sem0_0 : DmaSem sig := 18
abbrev cc2_sem1_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x81 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1000x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1000x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1000x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x1024x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let v3 : BitVec 32 := Scalar.addi c0_i32 v2
  ![v3.toNat]
@[reducible] def k1_t1_loop : Scf.Loop 32 :=
  let c0_i32_4 : BitVec 32 := 0#32
  let c40_i32 : BitVec 32 := 40#32
  let v23 : BitVec 32 := Scalar.addi c0_i32_4 c40_i32
  let c1_i32_5 : BitVec 32 := 1#32
  ⟨c0_i32_4, v23, c1_i32_5⟩
def k1_off2 (k1_t1 : Fin k1_t1_loop.trips) : Fin 1 → Nat :=
  let c0_i32_4 : BitVec 32 := 0#32
  let c1_i32_5 : BitVec 32 := 1#32
  let arg16 : BitVec 32 := Scf.iv c0_i32_4 c1_i32_5 k1_t1
  let c64_i32_77 : BitVec 32 := 64#32
  let v192 : BitVec 32 := Scalar.muli arg16 c64_i32_77
  let c0_i32_78 : BitVec 32 := 0#32
  let v193 : BitVec 32 := Scalar.addi v192 c0_i32_78
  let v194 : Index := Scalar.indexCast v193
  ![v194.toNat]

def k1_chk1 (v212 : IVec S16 32) : Prop :=
  (∀ a x, ((![v212] : Fin 1 → IVec S16 32) a x).toNat < S128.size a)
theorem k1_idx1_inb : ∀ (v212 : IVec S16 32) (k1_hw1 : k1_chk1 v212), ∀ a x, ((![v212] : Fin 1 → IVec S16 32) a x).toNat < S128.size a := fun v212 k1_hw1 => k1_hw1
def k1_off3 (k1_t1 : Fin k1_t1_loop.trips) : Fin 1 → Nat :=
  let c0_i32_4 : BitVec 32 := 0#32
  let c1_i32_5 : BitVec 32 := 1#32
  let arg16 : BitVec 32 := Scf.iv c0_i32_4 c1_i32_5 k1_t1
  let c64_i32_77 : BitVec 32 := 64#32
  let v192 : BitVec 32 := Scalar.muli arg16 c64_i32_77
  let c16_i32_88 : BitVec 32 := 16#32
  let v224 : BitVec 32 := Scalar.addi v192 c16_i32_88
  let v225 : Index := Scalar.indexCast v224
  ![v225.toNat]

def k1_chk2 (v243 : IVec S16 32) : Prop :=
  (∀ a x, ((![v243] : Fin 1 → IVec S16 32) a x).toNat < S128.size a)
theorem k1_idx2_inb : ∀ (v243 : IVec S16 32) (k1_hw2 : k1_chk2 v243), ∀ a x, ((![v243] : Fin 1 → IVec S16 32) a x).toNat < S128.size a := fun v243 k1_hw2 => k1_hw2
def k1_off4 (k1_t1 : Fin k1_t1_loop.trips) : Fin 1 → Nat :=
  let c0_i32_4 : BitVec 32 := 0#32
  let c1_i32_5 : BitVec 32 := 1#32
  let arg16 : BitVec 32 := Scf.iv c0_i32_4 c1_i32_5 k1_t1
  let c64_i32_77 : BitVec 32 := 64#32
  let v192 : BitVec 32 := Scalar.muli arg16 c64_i32_77
  let c32_i32_101 : BitVec 32 := 32#32
  let v255 : BitVec 32 := Scalar.addi v192 c32_i32_101
  let v256 : Index := Scalar.indexCast v255
  ![v256.toNat]

def k1_chk3 (v274 : IVec S16 32) : Prop :=
  (∀ a x, ((![v274] : Fin 1 → IVec S16 32) a x).toNat < S128.size a)
theorem k1_idx3_inb : ∀ (v274 : IVec S16 32) (k1_hw3 : k1_chk3 v274), ∀ a x, ((![v274] : Fin 1 → IVec S16 32) a x).toNat < S128.size a := fun v274 k1_hw3 => k1_hw3
def k1_off5 (k1_t1 : Fin k1_t1_loop.trips) : Fin 1 → Nat :=
  let c0_i32_4 : BitVec 32 := 0#32
  let c1_i32_5 : BitVec 32 := 1#32
  let arg16 : BitVec 32 := Scf.iv c0_i32_4 c1_i32_5 k1_t1
  let c64_i32_77 : BitVec 32 := 64#32
  let v192 : BitVec 32 := Scalar.muli arg16 c64_i32_77
  let c48_i32_114 : BitVec 32 := 48#32
  let v286 : BitVec 32 := Scalar.addi v192 c48_i32_114
  let v287 : Index := Scalar.indexCast v286
  ![v287.toNat]

def k1_chk4 (v305 : IVec S16 32) : Prop :=
  (∀ a x, ((![v305] : Fin 1 → IVec S16 32) a x).toNat < S128.size a)
theorem k1_idx4_inb : ∀ (v305 : IVec S16 32) (k1_hw4 : k1_chk4 v305), ∀ a x, ((![v305] : Fin 1 → IVec S16 32) a x).toNat < S128.size a := fun v305 k1_hw4 => k1_hw4

def k1_chk5 (v26 : IVec S16 32) : Prop :=
  (∀ a x, ((![v26] : Fin 1 → IVec S16 32) a x).toNat < S2560.size a) ∧
  (∀ a x, ((![v26] : Fin 1 → IVec S16 32) a x).toNat < S2560.size a) ∧
  (∀ a x, ((![v26] : Fin 1 → IVec S16 32) a x).toNat < S2560.size a) ∧
  (∀ a x, ((![v26] : Fin 1 → IVec S16 32) a x).toNat < S2560.size a) ∧
  (∀ a x, ((![v26] : Fin 1 → IVec S16 32) a x).toNat < S2560.size a)
theorem k1_idx5_inb : ∀ (v26 : IVec S16 32) (k1_hw5 : k1_chk5 v26), ∀ a x, ((![v26] : Fin 1 → IVec S16 32) a x).toNat < S2560.size a := fun v26 k1_hw5 => k1_hw5.1
theorem k1_idx6_inb : ∀ (v26 : IVec S16 32) (k1_hw5 : k1_chk5 v26), ∀ a x, ((![v26] : Fin 1 → IVec S16 32) a x).toNat < S2560.size a := fun v26 k1_hw5 => k1_hw5.2.1
theorem k1_idx7_inb : ∀ (v26 : IVec S16 32) (k1_hw5 : k1_chk5 v26), ∀ a x, ((![v26] : Fin 1 → IVec S16 32) a x).toNat < S2560.size a := fun v26 k1_hw5 => k1_hw5.2.2.1
theorem k1_idx8_inb : ∀ (v26 : IVec S16 32) (k1_hw5 : k1_chk5 v26), ∀ a x, ((![v26] : Fin 1 → IVec S16 32) a x).toNat < S2560.size a := fun v26 k1_hw5 => k1_hw5.2.2.2.1
theorem k1_idx9_inb : ∀ (v26 : IVec S16 32) (k1_hw5 : k1_chk5 v26), ∀ a x, ((![v26] : Fin 1 → IVec S16 32) a x).toNat < S2560.size a := fun v26 k1_hw5 => k1_hw5.2.2.2.2

def k1_chk6 (v52 : IVec S16 32) : Prop :=
  (∀ a x, ((![v52] : Fin 1 → IVec S16 32) a x).toNat < S2560.size a) ∧
  (∀ a x, ((![v52] : Fin 1 → IVec S16 32) a x).toNat < S2560.size a) ∧
  (∀ a x, ((![v52] : Fin 1 → IVec S16 32) a x).toNat < S2560.size a) ∧
  (∀ a x, ((![v52] : Fin 1 → IVec S16 32) a x).toNat < S2560.size a) ∧
  (∀ a x, ((![v52] : Fin 1 → IVec S16 32) a x).toNat < S2560.size a)
theorem k1_idx10_inb : ∀ (v52 : IVec S16 32) (k1_hw6 : k1_chk6 v52), ∀ a x, ((![v52] : Fin 1 → IVec S16 32) a x).toNat < S2560.size a := fun v52 k1_hw6 => k1_hw6.1
theorem k1_idx11_inb : ∀ (v52 : IVec S16 32) (k1_hw6 : k1_chk6 v52), ∀ a x, ((![v52] : Fin 1 → IVec S16 32) a x).toNat < S2560.size a := fun v52 k1_hw6 => k1_hw6.2.1
theorem k1_idx12_inb : ∀ (v52 : IVec S16 32) (k1_hw6 : k1_chk6 v52), ∀ a x, ((![v52] : Fin 1 → IVec S16 32) a x).toNat < S2560.size a := fun v52 k1_hw6 => k1_hw6.2.2.1
theorem k1_idx13_inb : ∀ (v52 : IVec S16 32) (k1_hw6 : k1_chk6 v52), ∀ a x, ((![v52] : Fin 1 → IVec S16 32) a x).toNat < S2560.size a := fun v52 k1_hw6 => k1_hw6.2.2.2.1
theorem k1_idx14_inb : ∀ (v52 : IVec S16 32) (k1_hw6 : k1_chk6 v52), ∀ a x, ((![v52] : Fin 1 → IVec S16 32) a x).toNat < S2560.size a := fun v52 k1_hw6 => k1_hw6.2.2.2.2

def k1_chk7 (v72 : IVec S16 32) : Prop :=
  (∀ a x, ((![v72] : Fin 1 → IVec S16 32) a x).toNat < S2560.size a) ∧
  (∀ a x, ((![v72] : Fin 1 → IVec S16 32) a x).toNat < S2560.size a) ∧
  (∀ a x, ((![v72] : Fin 1 → IVec S16 32) a x).toNat < S2560.size a) ∧
  (∀ a x, ((![v72] : Fin 1 → IVec S16 32) a x).toNat < S2560.size a) ∧
  (∀ a x, ((![v72] : Fin 1 → IVec S16 32) a x).toNat < S2560.size a)
theorem k1_idx15_inb : ∀ (v72 : IVec S16 32) (k1_hw7 : k1_chk7 v72), ∀ a x, ((![v72] : Fin 1 → IVec S16 32) a x).toNat < S2560.size a := fun v72 k1_hw7 => k1_hw7.1
theorem k1_idx16_inb : ∀ (v72 : IVec S16 32) (k1_hw7 : k1_chk7 v72), ∀ a x, ((![v72] : Fin 1 → IVec S16 32) a x).toNat < S2560.size a := fun v72 k1_hw7 => k1_hw7.2.1
theorem k1_idx17_inb : ∀ (v72 : IVec S16 32) (k1_hw7 : k1_chk7 v72), ∀ a x, ((![v72] : Fin 1 → IVec S16 32) a x).toNat < S2560.size a := fun v72 k1_hw7 => k1_hw7.2.2.1
theorem k1_idx18_inb : ∀ (v72 : IVec S16 32) (k1_hw7 : k1_chk7 v72), ∀ a x, ((![v72] : Fin 1 → IVec S16 32) a x).toNat < S2560.size a := fun v72 k1_hw7 => k1_hw7.2.2.2.1
theorem k1_idx19_inb : ∀ (v72 : IVec S16 32) (k1_hw7 : k1_chk7 v72), ∀ a x, ((![v72] : Fin 1 → IVec S16 32) a x).toNat < S2560.size a := fun v72 k1_hw7 => k1_hw7.2.2.2.2

def k1_chk8 (v92 : IVec S16 32) : Prop :=
  (∀ a x, ((![v92] : Fin 1 → IVec S16 32) a x).toNat < S2560.size a) ∧
  (∀ a x, ((![v92] : Fin 1 → IVec S16 32) a x).toNat < S2560.size a) ∧
  (∀ a x, ((![v92] : Fin 1 → IVec S16 32) a x).toNat < S2560.size a) ∧
  (∀ a x, ((![v92] : Fin 1 → IVec S16 32) a x).toNat < S2560.size a) ∧
  (∀ a x, ((![v92] : Fin 1 → IVec S16 32) a x).toNat < S2560.size a)
theorem k1_idx20_inb : ∀ (v92 : IVec S16 32) (k1_hw8 : k1_chk8 v92), ∀ a x, ((![v92] : Fin 1 → IVec S16 32) a x).toNat < S2560.size a := fun v92 k1_hw8 => k1_hw8.1
theorem k1_idx21_inb : ∀ (v92 : IVec S16 32) (k1_hw8 : k1_chk8 v92), ∀ a x, ((![v92] : Fin 1 → IVec S16 32) a x).toNat < S2560.size a := fun v92 k1_hw8 => k1_hw8.2.1
theorem k1_idx22_inb : ∀ (v92 : IVec S16 32) (k1_hw8 : k1_chk8 v92), ∀ a x, ((![v92] : Fin 1 → IVec S16 32) a x).toNat < S2560.size a := fun v92 k1_hw8 => k1_hw8.2.2.1
theorem k1_idx23_inb : ∀ (v92 : IVec S16 32) (k1_hw8 : k1_chk8 v92), ∀ a x, ((![v92] : Fin 1 → IVec S16 32) a x).toNat < S2560.size a := fun v92 k1_hw8 => k1_hw8.2.2.2.1
theorem k1_idx24_inb : ∀ (v92 : IVec S16 32) (k1_hw8 : k1_chk8 v92), ∀ a x, ((![v92] : Fin 1 → IVec S16 32) a x).toNat < S2560.size a := fun v92 k1_hw8 => k1_hw8.2.2.2.2

def k1_chk9 (v112 : IVec S16 32) : Prop :=
  (∀ a x, ((![v112] : Fin 1 → IVec S16 32) a x).toNat < S2560.size a) ∧
  (∀ a x, ((![v112] : Fin 1 → IVec S16 32) a x).toNat < S2560.size a) ∧
  (∀ a x, ((![v112] : Fin 1 → IVec S16 32) a x).toNat < S2560.size a) ∧
  (∀ a x, ((![v112] : Fin 1 → IVec S16 32) a x).toNat < S2560.size a) ∧
  (∀ a x, ((![v112] : Fin 1 → IVec S16 32) a x).toNat < S2560.size a)
theorem k1_idx25_inb : ∀ (v112 : IVec S16 32) (k1_hw9 : k1_chk9 v112), ∀ a x, ((![v112] : Fin 1 → IVec S16 32) a x).toNat < S2560.size a := fun v112 k1_hw9 => k1_hw9.1
theorem k1_idx26_inb : ∀ (v112 : IVec S16 32) (k1_hw9 : k1_chk9 v112), ∀ a x, ((![v112] : Fin 1 → IVec S16 32) a x).toNat < S2560.size a := fun v112 k1_hw9 => k1_hw9.2.1
theorem k1_idx27_inb : ∀ (v112 : IVec S16 32) (k1_hw9 : k1_chk9 v112), ∀ a x, ((![v112] : Fin 1 → IVec S16 32) a x).toNat < S2560.size a := fun v112 k1_hw9 => k1_hw9.2.2.1
theorem k1_idx28_inb : ∀ (v112 : IVec S16 32) (k1_hw9 : k1_chk9 v112), ∀ a x, ((![v112] : Fin 1 → IVec S16 32) a x).toNat < S2560.size a := fun v112 k1_hw9 => k1_hw9.2.2.2.1
theorem k1_idx29_inb : ∀ (v112 : IVec S16 32) (k1_hw9 : k1_chk9 v112), ∀ a x, ((![v112] : Fin 1 → IVec S16 32) a x).toNat < S2560.size a := fun v112 k1_hw9 => k1_hw9.2.2.2.2

def k1_chk10 (v132 : IVec S16 32) : Prop :=
  (∀ a x, ((![v132] : Fin 1 → IVec S16 32) a x).toNat < S2560.size a) ∧
  (∀ a x, ((![v132] : Fin 1 → IVec S16 32) a x).toNat < S2560.size a) ∧
  (∀ a x, ((![v132] : Fin 1 → IVec S16 32) a x).toNat < S2560.size a) ∧
  (∀ a x, ((![v132] : Fin 1 → IVec S16 32) a x).toNat < S2560.size a) ∧
  (∀ a x, ((![v132] : Fin 1 → IVec S16 32) a x).toNat < S2560.size a)
theorem k1_idx30_inb : ∀ (v132 : IVec S16 32) (k1_hw10 : k1_chk10 v132), ∀ a x, ((![v132] : Fin 1 → IVec S16 32) a x).toNat < S2560.size a := fun v132 k1_hw10 => k1_hw10.1
theorem k1_idx31_inb : ∀ (v132 : IVec S16 32) (k1_hw10 : k1_chk10 v132), ∀ a x, ((![v132] : Fin 1 → IVec S16 32) a x).toNat < S2560.size a := fun v132 k1_hw10 => k1_hw10.2.1
theorem k1_idx32_inb : ∀ (v132 : IVec S16 32) (k1_hw10 : k1_chk10 v132), ∀ a x, ((![v132] : Fin 1 → IVec S16 32) a x).toNat < S2560.size a := fun v132 k1_hw10 => k1_hw10.2.2.1
theorem k1_idx33_inb : ∀ (v132 : IVec S16 32) (k1_hw10 : k1_chk10 v132), ∀ a x, ((![v132] : Fin 1 → IVec S16 32) a x).toNat < S2560.size a := fun v132 k1_hw10 => k1_hw10.2.2.2.1
theorem k1_idx34_inb : ∀ (v132 : IVec S16 32) (k1_hw10 : k1_chk10 v132), ∀ a x, ((![v132] : Fin 1 → IVec S16 32) a x).toNat < S2560.size a := fun v132 k1_hw10 => k1_hw10.2.2.2.2

def k1_chk11 (v152 : IVec S16 32) : Prop :=
  (∀ a x, ((![v152] : Fin 1 → IVec S16 32) a x).toNat < S2560.size a) ∧
  (∀ a x, ((![v152] : Fin 1 → IVec S16 32) a x).toNat < S2560.size a) ∧
  (∀ a x, ((![v152] : Fin 1 → IVec S16 32) a x).toNat < S2560.size a) ∧
  (∀ a x, ((![v152] : Fin 1 → IVec S16 32) a x).toNat < S2560.size a) ∧
  (∀ a x, ((![v152] : Fin 1 → IVec S16 32) a x).toNat < S2560.size a)
theorem k1_idx35_inb : ∀ (v152 : IVec S16 32) (k1_hw11 : k1_chk11 v152), ∀ a x, ((![v152] : Fin 1 → IVec S16 32) a x).toNat < S2560.size a := fun v152 k1_hw11 => k1_hw11.1
theorem k1_idx36_inb : ∀ (v152 : IVec S16 32) (k1_hw11 : k1_chk11 v152), ∀ a x, ((![v152] : Fin 1 → IVec S16 32) a x).toNat < S2560.size a := fun v152 k1_hw11 => k1_hw11.2.1
theorem k1_idx37_inb : ∀ (v152 : IVec S16 32) (k1_hw11 : k1_chk11 v152), ∀ a x, ((![v152] : Fin 1 → IVec S16 32) a x).toNat < S2560.size a := fun v152 k1_hw11 => k1_hw11.2.2.1
theorem k1_idx38_inb : ∀ (v152 : IVec S16 32) (k1_hw11 : k1_chk11 v152), ∀ a x, ((![v152] : Fin 1 → IVec S16 32) a x).toNat < S2560.size a := fun v152 k1_hw11 => k1_hw11.2.2.2.1
theorem k1_idx39_inb : ∀ (v152 : IVec S16 32) (k1_hw11 : k1_chk11 v152), ∀ a x, ((![v152] : Fin 1 → IVec S16 32) a x).toNat < S2560.size a := fun v152 k1_hw11 => k1_hw11.2.2.2.2

def k1_chk12 (v172 : IVec S16 32) : Prop :=
  (∀ a x, ((![v172] : Fin 1 → IVec S16 32) a x).toNat < S2560.size a) ∧
  (∀ a x, ((![v172] : Fin 1 → IVec S16 32) a x).toNat < S2560.size a) ∧
  (∀ a x, ((![v172] : Fin 1 → IVec S16 32) a x).toNat < S2560.size a) ∧
  (∀ a x, ((![v172] : Fin 1 → IVec S16 32) a x).toNat < S2560.size a) ∧
  (∀ a x, ((![v172] : Fin 1 → IVec S16 32) a x).toNat < S2560.size a)
theorem k1_idx40_inb : ∀ (v172 : IVec S16 32) (k1_hw12 : k1_chk12 v172), ∀ a x, ((![v172] : Fin 1 → IVec S16 32) a x).toNat < S2560.size a := fun v172 k1_hw12 => k1_hw12.1
theorem k1_idx41_inb : ∀ (v172 : IVec S16 32) (k1_hw12 : k1_chk12 v172), ∀ a x, ((![v172] : Fin 1 → IVec S16 32) a x).toNat < S2560.size a := fun v172 k1_hw12 => k1_hw12.2.1
theorem k1_idx42_inb : ∀ (v172 : IVec S16 32) (k1_hw12 : k1_chk12 v172), ∀ a x, ((![v172] : Fin 1 → IVec S16 32) a x).toNat < S2560.size a := fun v172 k1_hw12 => k1_hw12.2.2.1
theorem k1_idx43_inb : ∀ (v172 : IVec S16 32) (k1_hw12 : k1_chk12 v172), ∀ a x, ((![v172] : Fin 1 → IVec S16 32) a x).toNat < S2560.size a := fun v172 k1_hw12 => k1_hw12.2.2.2.1
theorem k1_idx44_inb : ∀ (v172 : IVec S16 32) (k1_hw12 : k1_chk12 v172), ∀ a x, ((![v172] : Fin 1 → IVec S16 32) a x).toNat < S2560.size a := fun v172 k1_hw12 => k1_hw12.2.2.2.2
def k1_off6 (i : grid1.Coords) : Fin 3 → Nat :=
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r5 : BitVec 32 := 0#32
  ![0, v1.toNat, 0]
def k1_off7 (i : grid1.Coords) : Fin 3 → Nat :=
  let c1_i32_75 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r6 : BitVec 32 := 0#32
  ![1, v1.toNat, 0]
def k1_off8 (i : grid1.Coords) : Fin 3 → Nat :=
  let c2_i32_76 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r7 : BitVec 32 := 0#32
  ![2, v1.toNat, 0]
def k1_off9 (i : grid1.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r8 : BitVec 32 := 0#32
  ![3, v1.toNat, 0]
def k1_off10 (i : grid1.Coords) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r9 : BitVec 32 := 0#32
  ![4, v1.toNat, 0]
def k1_off11 (i : grid1.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r10 : BitVec 32 := 0#32
  ![5, v1.toNat, 0]
abbrev grid2 : Pipeline.Grid := .none

@[reducible] def k2_t1_loop : Scf.Loop 32 :=
  let c0_i32_49 : BitVec 32 := 0#32
  let c100_i32 : BitVec 32 := 100#32
  let v112 : BitVec 32 := Scalar.addi c0_i32_49 c100_i32
  let c1_i32_50 : BitVec 32 := 1#32
  ⟨c0_i32_49, v112, c1_i32_50⟩
abbrev stage2_0 : Fin 1 → Memref sig .tc .vmem S6x32x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S6x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000x4 : Shape := ⟨2, ![1000, 4]⟩
abbrev S1000x81 : Shape := ⟨2, ![1000, 81]⟩
abbrev S1000x320 : Shape := ⟨2, ![1000, 320]⟩
abbrev S1000x1 : Shape := ⟨2, ![1000, 1]⟩
abbrev S1000 : Shape := ⟨1, ![1000]⟩
abbrev S_ : Shape := ⟨0, ![]⟩
abbrev S1000x80x4 : Shape := ⟨3, ![1000, 80, 4]⟩
abbrev S1000x80x1 : Shape := ⟨3, ![1000, 80, 1]⟩
abbrev S1000x80 : Shape := ⟨2, ![1000, 80]⟩
abbrev S80000x4 : Shape := ⟨2, ![80000, 4]⟩
abbrev S80000 : Shape := ⟨1, ![80000]⟩
abbrev S80 : Shape := ⟨1, ![80]⟩
abbrev S1x80 : Shape := ⟨2, ![1, 80]⟩
abbrev S80000x1 : Shape := ⟨2, ![80000, 1]⟩
abbrev S100x4 : Shape := ⟨2, ![100, 4]⟩
abbrev S100 : Shape := ⟨1, ![100]⟩
abbrev S1 : Shape := ⟨1, ![1]⟩
abbrev S1x4 : Shape := ⟨2, ![1, 4]⟩
abbrev S4 : Shape := ⟨1, ![4]⟩

abbrev nBuf : Space → Nat
  | .hbm => 274
  | .vmem => 0
  | .smem => 0
  | _ => 0

abbrev hbmTy0_0 (i : Nat) : BufTy := match i % 128 with
  | 0 => ⟨S1000x4, .f32⟩
  | 1 => ⟨S1000x81, .f32⟩
  | 2 => ⟨S1000x320, .f32⟩
  | 3 => ⟨S1000x1, .f32⟩
  | 4 => ⟨S1000, .f32⟩
  | 5 => ⟨S1000x1, .f32⟩
  | 6 => ⟨S1000, .f32⟩
  | 7 => ⟨S1000, .f32⟩
  | 8 => ⟨S1000x1, .f32⟩
  | 9 => ⟨S1000, .f32⟩
  | 10 => ⟨S1000x1, .f32⟩
  | 11 => ⟨S1000, .f32⟩
  | 12 => ⟨S1000, .f32⟩
  | 13 => ⟨S1000x1, .f32⟩
  | 14 => ⟨S1000, .f32⟩
  | 15 => ⟨S_, .f32⟩
  | 16 => ⟨S1000, .f32⟩
  | 17 => ⟨S1000, .f32⟩
  | 18 => ⟨S1000, .f32⟩
  | 19 => ⟨S1000x1, .f32⟩
  | 20 => ⟨S1000, .f32⟩
  | 21 => ⟨S_, .f32⟩
  | 22 => ⟨S1000, .f32⟩
  | 23 => ⟨S1000, .f32⟩
  | 24 => ⟨S1000, .f32⟩
  | 25 => ⟨S1000x80x4, .f32⟩
  | 26 => ⟨S1000x80x1, .f32⟩
  | 27 => ⟨S1000x80, .f32⟩
  | 28 => ⟨S_, .f32⟩
  | 29 => ⟨S1000x80, .f32⟩
  | 30 => ⟨S1000x80, .f32⟩
  | 31 => ⟨S1000x80x1, .f32⟩
  | 32 => ⟨S1000x80, .f32⟩
  | 33 => ⟨S_, .f32⟩
  | 34 => ⟨S1000x80, .f32⟩
  | 35 => ⟨S1000x80, .f32⟩
  | 36 => ⟨S1000x80x1, .f32⟩
  | 37 => ⟨S1000x80, .f32⟩
  | 38 => ⟨S_, .f32⟩
  | 39 => ⟨S1000x80, .f32⟩
  | 40 => ⟨S1000x80, .f32⟩
  | 41 => ⟨S_, .f32⟩
  | 42 => ⟨S1000x80, .f32⟩
  | 43 => ⟨S1000x80, .f32⟩
  | 44 => ⟨S1000x80x1, .f32⟩
  | 45 => ⟨S1000x80, .f32⟩
  | 46 => ⟨S_, .f32⟩
  | 47 => ⟨S1000x80, .f32⟩
  | 48 => ⟨S1000x80, .f32⟩
  | 49 => ⟨S_, .f32⟩
  | 50 => ⟨S1000x80, .f32⟩
  | 51 => ⟨S1000x80, .f32⟩
  | 52 => ⟨S1000x1, .f32⟩
  | 53 => ⟨S1000x80, .f32⟩
  | 54 => ⟨S1000x80, .f32⟩
  | 55 => ⟨S1000x1, .f32⟩
  | 56 => ⟨S1000x80, .f32⟩
  | 57 => ⟨S1000x80, .f32⟩
  | 58 => ⟨S1000x1, .f32⟩
  | 59 => ⟨S1000x80, .f32⟩
  | 60 => ⟨S1000x80, .f32⟩
  | 61 => ⟨S1000x1, .f32⟩
  | 62 => ⟨S1000x80, .f32⟩
  | 63 => ⟨S1000x80, .f32⟩
  | 64 => ⟨S1000x80, .f32⟩
  | 65 => ⟨S1000x1, .f32⟩
  | 66 => ⟨S1000x80, .f32⟩
  | 67 => ⟨S1000x80, .f32⟩
  | 68 => ⟨S1000x80, .f32⟩
  | 69 => ⟨S1000x1, .f32⟩
  | 70 => ⟨S1000x80, .f32⟩
  | 71 => ⟨S1000x80, .f32⟩
  | 72 => ⟨S_, .f32⟩
  | 73 => ⟨S1000x80, .f32⟩
  | 74 => ⟨S1000x80, .f32⟩
  | 75 => ⟨S1000x80, .f32⟩
  | 76 => ⟨S_, .f32⟩
  | 77 => ⟨S1000x80, .f32⟩
  | 78 => ⟨S1000x80, .f32⟩
  | 79 => ⟨S1000x80, .f32⟩
  | 80 => ⟨S_, .f32⟩
  | 81 => ⟨S1000x80, .f32⟩
  | 82 => ⟨S1000x80, .f32⟩
  | 83 => ⟨S1000x80, .f32⟩
  | 84 => ⟨S_, .f32⟩
  | 85 => ⟨S1000x80, .f32⟩
  | 86 => ⟨S1000x80, .f32⟩
  | 87 => ⟨S1000x80, .f32⟩
  | 88 => ⟨S1000x80x1, .f32⟩
  | 89 => ⟨S1000x80x1, .f32⟩
  | 90 => ⟨S1000x80x1, .f32⟩
  | 91 => ⟨S1000x80x1, .f32⟩
  | 92 => ⟨S1000x80x4, .f32⟩
  | 93 => ⟨S_, .f32⟩
  | 94 => ⟨S1000, .f32⟩
  | 95 => ⟨S_, .f32⟩
  | 96 => ⟨S1000, .f32⟩
  | 97 => ⟨S1000, .f32⟩
  | 98 => ⟨S1000x1, .f32⟩
  | 99 => ⟨S1000x81, .f32⟩
  | 100 => ⟨S1000x81, .f32⟩
  | 101 => ⟨S1000x81, .f32⟩
  | 102 => ⟨S_, .f32⟩
  | 103 => ⟨S1000, .f32⟩
  | 104 => ⟨S1000x1, .f32⟩
  | 105 => ⟨S1000x81, .f32⟩
  | 106 => ⟨S1000x81, .f32⟩
  | 107 => ⟨S1000x80, .f32⟩
  | 108 => ⟨S_, .f32⟩
  | 109 => ⟨S1000x80, .f32⟩
  | 110 => ⟨S1000x80, .i1⟩
  | 111 => ⟨S_, .f32⟩
  | 112 => ⟨S_, .f32⟩
  | 113 => ⟨S1000x80, .f32⟩
  | 114 => ⟨S1000x80, .f32⟩
  | 115 => ⟨S80000x4, .f32⟩
  | 116 => ⟨S80000, .f32⟩
  | 117 => ⟨S80, .i32⟩
  | 118 => ⟨S1x80, .i32⟩
  | 119 => ⟨S1000x80, .i32⟩
  | 120 => ⟨S80000, .i32⟩
  | 121 => ⟨S80000, .f32⟩
  | 122 => ⟨S_, .f32⟩
  | 123 => ⟨S80000, .f32⟩
  | 124 => ⟨S80000, .f32⟩
  | 125 => ⟨S80000x1, .f32⟩
  | 126 => ⟨S80000x4, .f32⟩
  | 127 => ⟨S80000x4, .f32⟩
  | _ => ⟨S1000x4, .f32⟩

abbrev hbmTy0_1 (i : Nat) : BufTy := match i % 128 with
  | 0 => ⟨S_, .f32⟩
  | 1 => ⟨S100x4, .f32⟩
  | 2 => ⟨S_, .f32⟩
  | 3 => ⟨S100, .f32⟩
  | 4 => ⟨S_, .i32⟩
  | 5 => ⟨S100, .i32⟩
  | 6 => ⟨S_, .i32⟩
  | 7 => ⟨S80000x4, .f32⟩
  | 8 => ⟨S80000x4, .f32⟩
  | 9 => ⟨S80000, .i32⟩
  | 10 => ⟨S_, .i32⟩
  | 11 => ⟨S80000, .f32⟩
  | 12 => ⟨S100x4, .f32⟩
  | 13 => ⟨S100, .f32⟩
  | 14 => ⟨S100, .i32⟩
  | 15 => ⟨S_, .i32⟩
  | 16 => ⟨S_, .i1⟩
  | 17 => ⟨S80000, .i32⟩
  | 18 => ⟨S_, .f32⟩
  | 19 => ⟨S_, .i32⟩
  | 20 => ⟨S_, .f32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .f32⟩
  | 28 => ⟨S_, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x4, .f32⟩
  | 43 => ⟨S4, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x4, .f32⟩
  | 58 => ⟨S4, .f32⟩
  | 59 => ⟨S_, .i32⟩
  | 60 => ⟨S_, .i1⟩
  | 61 => ⟨S_, .i32⟩
  | 62 => ⟨S_, .i32⟩
  | 63 => ⟨S_, .i32⟩
  | 64 => ⟨S1, .i32⟩
  | 65 => ⟨S_, .i32⟩
  | 66 => ⟨S1, .f32⟩
  | 67 => ⟨S_, .f32⟩
  | 68 => ⟨S80000x1, .f32⟩
  | 69 => ⟨S80000, .f32⟩
  | 70 => ⟨S80000, .f32⟩
  | 71 => ⟨S80000, .f32⟩
  | 72 => ⟨S1, .f32⟩
  | 73 => ⟨S_, .f32⟩
  | 74 => ⟨S80000x1, .f32⟩
  | 75 => ⟨S80000, .f32⟩
  | 76 => ⟨S80000, .f32⟩
  | 77 => ⟨S80000, .f32⟩
  | 78 => ⟨S1, .f32⟩
  | 79 => ⟨S_, .f32⟩
  | 80 => ⟨S80000x1, .f32⟩
  | 81 => ⟨S80000, .f32⟩
  | 82 => ⟨S80000, .f32⟩
  | 83 => ⟨S80000, .f32⟩
  | 84 => ⟨S1, .f32⟩
  | 85 => ⟨S_, .f32⟩
  | 86 => ⟨S80000x1, .f32⟩
  | 87 => ⟨S80000, .f32⟩
  | 88 => ⟨S80000, .f32⟩
  | 89 => ⟨S80000, .f32⟩
  | 90 => ⟨S80000, .f32⟩
  | 91 => ⟨S_, .f32⟩
  | 92 => ⟨S_, .f32⟩
  | 93 => ⟨S80000, .f32⟩
  | 94 => ⟨S80000, .f32⟩
  | 95 => ⟨S80000, .f32⟩
  | 96 => ⟨S_, .f32⟩
  | 97 => ⟨S_, .f32⟩
  | 98 => ⟨S80000, .f32⟩
  | 99 => ⟨S80000, .f32⟩
  | 100 => ⟨S80000, .f32⟩
  | 101 => ⟨S1, .f32⟩
  | 102 => ⟨S_, .f32⟩
  | 103 => ⟨S1, .f32⟩
  | 104 => ⟨S_, .f32⟩
  | 105 => ⟨S_, .f32⟩
  | 106 => ⟨S1, .f32⟩
  | 107 => ⟨S_, .f32⟩
  | 108 => ⟨S1, .f32⟩
  | 109 => ⟨S_, .f32⟩
  | 110 => ⟨S_, .f32⟩
  | 111 => ⟨S_, .f32⟩
  | 112 => ⟨S80000x1, .f32⟩
  | 113 => ⟨S80000, .f32⟩
  | 114 => ⟨S80000x1, .f32⟩
  | 115 => ⟨S80000, .f32⟩
  | 116 => ⟨S80000, .f32⟩
  | 117 => ⟨S80000x1, .f32⟩
  | 118 => ⟨S80000, .f32⟩
  | 119 => ⟨S80000x1, .f32⟩
  | 120 => ⟨S80000, .f32⟩
  | 121 => ⟨S80000, .f32⟩
  | 122 => ⟨S80000, .f32⟩
  | 123 => ⟨S80000, .f32⟩
  | 124 => ⟨S80000, .f32⟩
  | 125 => ⟨S80000, .f32⟩
  | 126 => ⟨S_, .f32⟩
  | 127 => ⟨S80000, .f32⟩
  | _ => ⟨S1000x4, .f32⟩

abbrev hbmTy0_2 (i : Nat) : BufTy := match i % 128 with
  | 0 => ⟨S80000, .f32⟩
  | 1 => ⟨S80000, .f32⟩
  | 2 => ⟨S_, .f32⟩
  | 3 => ⟨S80000, .f32⟩
  | 4 => ⟨S80000, .i1⟩
  | 5 => ⟨S_, .f32⟩
  | 6 => ⟨S_, .f32⟩
  | 7 => ⟨S80000, .f32⟩
  | 8 => ⟨S80000, .f32⟩
  | 9 => ⟨S1x4, .f32⟩
  | 10 => ⟨S_, .i32⟩
  | 11 => ⟨S100x4, .f32⟩
  | 12 => ⟨S1, .f32⟩
  | 13 => ⟨S100, .f32⟩
  | 14 => ⟨S1, .i32⟩
  | 15 => ⟨S100, .i32⟩
  | 16 => ⟨S_, .i32⟩
  | 17 => ⟨S_, .i32⟩
  | _ => ⟨S1000x4, .f32⟩

abbrev hbmTy (i : Nat) : BufTy := match i / 128 with
  | 0 => hbmTy0_0 i
  | 1 => hbmTy0_1 i
  | 2 => hbmTy0_2 i
  | _ => ⟨S1000x4, .f32⟩

abbrev bufTy : (tb : Table) → Fin (tcTables nBuf tb) → BufTy
  | .hbm, ⟨i, _⟩ => hbmTy i
  | _, _ => ⟨S1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_11 : Ref sig .tc := ⟨.hbm, 93, rfl⟩
abbrev main_v78 : Ref sig .tc := ⟨.hbm, 94, rfl⟩
abbrev main_cst_12 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_13 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_14 : Ref sig .tc := ⟨.hbm, 108, rfl⟩
abbrev main_v90 : Ref sig .tc := ⟨.hbm, 109, rfl⟩
abbrev main_v91 : Ref sig .tc := ⟨.hbm, 110, rfl⟩
abbrev main_cst_15 : Ref sig .tc := ⟨.hbm, 111, rfl⟩
abbrev main_call0_v0 : Ref sig .tc := ⟨.hbm, 112, rfl⟩
abbrev main_call0_v1 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_17 : Ref sig .tc := ⟨.hbm, 128, rfl⟩
abbrev main_v105 : Ref sig .tc := ⟨.hbm, 129, rfl⟩
abbrev main_cst_18 : Ref sig .tc := ⟨.hbm, 130, rfl⟩
abbrev main_v106 : Ref sig .tc := ⟨.hbm, 131, rfl⟩
abbrev main_c : Ref sig .tc := ⟨.hbm, 132, rfl⟩
abbrev main_v107 : Ref sig .tc := ⟨.hbm, 133, rfl⟩
abbrev main_c_19 : Ref sig .tc := ⟨.hbm, 134, rfl⟩
abbrev main_v108_0 : Ref sig .tc := ⟨.hbm, 135, rfl⟩
abbrev main_v108_1 : Ref sig .tc := ⟨.hbm, 136, rfl⟩
abbrev main_v108_2 : Ref sig .tc := ⟨.hbm, 137, rfl⟩
abbrev main_v108_3 : Ref sig .tc := ⟨.hbm, 138, rfl⟩
abbrev main_v108_4 : Ref sig .tc := ⟨.hbm, 139, rfl⟩
abbrev main_v108_5 : Ref sig .tc := ⟨.hbm, 140, rfl⟩
abbrev main_v108_6 : Ref sig .tc := ⟨.hbm, 141, rfl⟩
abbrev main_v108_7 : Ref sig .tc := ⟨.hbm, 142, rfl⟩
abbrev main_while0c_c_27 : Ref sig .tc := ⟨.hbm, 143, rfl⟩
abbrev main_while0c_v109 : Ref sig .tc := ⟨.hbm, 144, rfl⟩
abbrev main_while0b_call1_v0 : Ref sig .tc := ⟨.hbm, 145, rfl⟩
abbrev main_while0b_call1_cst : Ref sig .tc := ⟨.hbm, 146, rfl⟩
abbrev main_while0b_call1_c : Ref sig .tc := ⟨.hbm, 147, rfl⟩
abbrev main_while0b_call1_v1_0 : Ref sig .tc := ⟨.hbm, 148, rfl⟩
abbrev main_while0b_v109 : Ref sig .tc := ⟨.hbm, 149, rfl⟩
abbrev main_while0b_c_27 : Ref sig .tc := ⟨.hbm, 150, rfl⟩
abbrev main_while0b_v110 : Ref sig .tc := ⟨.hbm, 151, rfl⟩
abbrev main_while0b_c_28 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_c_29 : Ref sig .tc := ⟨.hbm, 157, rfl⟩
abbrev main_while0b_v115 : Ref sig .tc := ⟨.hbm, 158, rfl⟩
abbrev main_while0b_c_30 : Ref sig .tc := ⟨.hbm, 159, rfl⟩
abbrev main_while0b_v116 : Ref sig .tc := ⟨.hbm, 160, rfl⟩
abbrev main_while0b_v117 : Ref sig .tc := ⟨.hbm, 161, rfl⟩
abbrev main_while0b_c_31 : Ref sig .tc := ⟨.hbm, 162, rfl⟩
abbrev main_while0b_c_32 : Ref sig .tc := ⟨.hbm, 163, rfl⟩
abbrev main_while0b_v118 : Ref sig .tc := ⟨.hbm, 164, rfl⟩
abbrev main_while0b_c_33 : Ref sig .tc := ⟨.hbm, 165, rfl⟩
abbrev main_while0b_c_34 : Ref sig .tc := ⟨.hbm, 166, rfl⟩
abbrev main_while0b_v119 : Ref sig .tc := ⟨.hbm, 167, rfl⟩
abbrev main_while0b_c_35 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_c_36 : Ref sig .tc := ⟨.hbm, 172, rfl⟩
abbrev main_while0b_v123 : Ref sig .tc := ⟨.hbm, 173, rfl⟩
abbrev main_while0b_c_37 : Ref sig .tc := ⟨.hbm, 174, rfl⟩
abbrev main_while0b_v124 : Ref sig .tc := ⟨.hbm, 175, rfl⟩
abbrev main_while0b_v125 : Ref sig .tc := ⟨.hbm, 176, rfl⟩
abbrev main_while0b_c_38 : Ref sig .tc := ⟨.hbm, 177, rfl⟩
abbrev main_while0b_c_39 : Ref sig .tc := ⟨.hbm, 178, rfl⟩
abbrev main_while0b_v126 : Ref sig .tc := ⟨.hbm, 179, rfl⟩
abbrev main_while0b_c_40 : Ref sig .tc := ⟨.hbm, 180, rfl⟩
abbrev main_while0b_c_41 : Ref sig .tc := ⟨.hbm, 181, rfl⟩
abbrev main_while0b_v127 : Ref sig .tc := ⟨.hbm, 182, rfl⟩
abbrev main_while0b_c_42 : Ref sig .tc := ⟨.hbm, 183, rfl⟩
abbrev main_while0b_v128 : Ref sig .tc := ⟨.hbm, 184, rfl⟩
abbrev main_while0b_v129 : Ref sig .tc := ⟨.hbm, 185, rfl⟩
abbrev main_while0b_v130 : Ref sig .tc := ⟨.hbm, 186, rfl⟩
abbrev main_while0b_c_43 : Ref sig .tc := ⟨.hbm, 187, rfl⟩
abbrev main_while0b_v131 : Ref sig .tc := ⟨.hbm, 188, rfl⟩
abbrev main_while0b_c_44 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_v137 : Ref sig .tc := ⟨.hbm, 195, rfl⟩
abbrev main_while0b_v138 : Ref sig .tc := ⟨.hbm, 196, rfl⟩
abbrev main_while0b_v139 : Ref sig .tc := ⟨.hbm, 197, rfl⟩
abbrev main_while0b_v140 : Ref sig .tc := ⟨.hbm, 198, rfl⟩
abbrev main_while0b_v141 : Ref sig .tc := ⟨.hbm, 199, rfl⟩
abbrev main_while0b_v142 : Ref sig .tc := ⟨.hbm, 200, rfl⟩
abbrev main_while0b_v143 : Ref sig .tc := ⟨.hbm, 201, rfl⟩
abbrev main_while0b_v144 : Ref sig .tc := ⟨.hbm, 202, rfl⟩
abbrev main_while0b_v145 : Ref sig .tc := ⟨.hbm, 203, rfl⟩
abbrev main_while0b_v146 : Ref sig .tc := ⟨.hbm, 204, rfl⟩
abbrev main_while0b_v147 : Ref sig .tc := ⟨.hbm, 205, rfl⟩
abbrev main_while0b_v148 : Ref sig .tc := ⟨.hbm, 206, rfl⟩
abbrev main_while0b_v149 : Ref sig .tc := ⟨.hbm, 207, rfl⟩
abbrev main_while0b_v150 : Ref sig .tc := ⟨.hbm, 208, rfl⟩
abbrev main_while0b_v151 : Ref sig .tc := ⟨.hbm, 209, rfl⟩
abbrev main_while0b_v152 : Ref sig .tc := ⟨.hbm, 210, rfl⟩
abbrev main_while0b_v153 : Ref sig .tc := ⟨.hbm, 211, rfl⟩
abbrev main_while0b_v154 : Ref sig .tc := ⟨.hbm, 212, rfl⟩
abbrev main_while0b_v155 : Ref sig .tc := ⟨.hbm, 213, rfl⟩
abbrev main_while0b_v156 : Ref sig .tc := ⟨.hbm, 214, rfl⟩
abbrev main_while0b_v157 : Ref sig .tc := ⟨.hbm, 215, rfl⟩
abbrev main_while0b_v158 : Ref sig .tc := ⟨.hbm, 216, rfl⟩
abbrev main_while0b_v159 : Ref sig .tc := ⟨.hbm, 217, rfl⟩
abbrev main_while0b_v160 : Ref sig .tc := ⟨.hbm, 218, rfl⟩
abbrev main_while0b_cst_45 : Ref sig .tc := ⟨.hbm, 219, rfl⟩
abbrev main_while0b_call2_v0 : Ref sig .tc := ⟨.hbm, 220, rfl⟩
abbrev main_while0b_call2_v1 : Ref sig .tc := ⟨.hbm, 221, rfl⟩
abbrev main_while0b_v161 : Ref sig .tc := ⟨.hbm, 222, rfl⟩
abbrev main_while0b_v162 : Ref sig .tc := ⟨.hbm, 223, rfl⟩
abbrev main_while0b_cst_46 : Ref sig .tc := ⟨.hbm, 224, rfl⟩
abbrev main_while0b_call3_v0 : Ref sig .tc := ⟨.hbm, 225, rfl⟩
abbrev main_while0b_call3_v1 : Ref sig .tc := ⟨.hbm, 226, rfl⟩
abbrev main_while0b_v163 : Ref sig .tc := ⟨.hbm, 227, rfl⟩
abbrev main_while0b_v164 : Ref sig .tc := ⟨.hbm, 228, rfl⟩
abbrev main_while0b_v165 : Ref sig .tc := ⟨.hbm, 229, rfl⟩
abbrev main_while0b_v166 : Ref sig .tc := ⟨.hbm, 230, rfl⟩
abbrev main_while0b_v167 : Ref sig .tc := ⟨.hbm, 231, rfl⟩
abbrev main_while0b_v168 : Ref sig .tc := ⟨.hbm, 232, rfl⟩
abbrev main_while0b_v169 : Ref sig .tc := ⟨.hbm, 233, rfl⟩
abbrev main_while0b_v170 : Ref sig .tc := ⟨.hbm, 234, rfl⟩
abbrev main_while0b_v171 : Ref sig .tc := ⟨.hbm, 235, rfl⟩
abbrev main_while0b_v172 : Ref sig .tc := ⟨.hbm, 236, rfl⟩
abbrev main_while0b_v173 : Ref sig .tc := ⟨.hbm, 237, rfl⟩
abbrev main_while0b_v174 : Ref sig .tc := ⟨.hbm, 238, rfl⟩
abbrev main_while0b_v175 : Ref sig .tc := ⟨.hbm, 239, rfl⟩
abbrev main_while0b_v176 : Ref sig .tc := ⟨.hbm, 240, rfl⟩
abbrev main_while0b_v177 : Ref sig .tc := ⟨.hbm, 241, rfl⟩
abbrev main_while0b_v178 : Ref sig .tc := ⟨.hbm, 242, rfl⟩
abbrev main_while0b_v179 : Ref sig .tc := ⟨.hbm, 243, rfl⟩
abbrev main_while0b_v180 : Ref sig .tc := ⟨.hbm, 244, rfl⟩
abbrev main_while0b_v181 : Ref sig .tc := ⟨.hbm, 245, rfl⟩
abbrev main_while0b_v182 : Ref sig .tc := ⟨.hbm, 246, rfl⟩
abbrev main_while0b_v183 : Ref sig .tc := ⟨.hbm, 247, rfl⟩
abbrev main_while0b_v184 : Ref sig .tc := ⟨.hbm, 248, rfl⟩
abbrev main_while0b_v185 : Ref sig .tc := ⟨.hbm, 249, rfl⟩
abbrev main_while0b_v186 : Ref sig .tc := ⟨.hbm, 250, rfl⟩
abbrev main_while0b_v187 : Ref sig .tc := ⟨.hbm, 251, rfl⟩
abbrev main_while0b_v188 : Ref sig .tc := ⟨.hbm, 252, rfl⟩
abbrev main_while0b_v189 : Ref sig .tc := ⟨.hbm, 253, rfl⟩
abbrev main_while0b_cst_47 : Ref sig .tc := ⟨.hbm, 254, rfl⟩
abbrev main_while0b_v190 : Ref sig .tc := ⟨.hbm, 255, rfl⟩
abbrev main_while0b_v191 : Ref sig .tc := ⟨.hbm, 256, rfl⟩
abbrev main_while0b_v192 : Ref sig .tc := ⟨.hbm, 257, rfl⟩
abbrev main_while0b_cst_48 : Ref sig .tc := ⟨.hbm, 258, rfl⟩
abbrev main_while0b_v193 : Ref sig .tc := ⟨.hbm, 259, rfl⟩
abbrev main_while0b_v194 : Ref sig .tc := ⟨.hbm, 260, rfl⟩
abbrev main_while0b_cst_49 : Ref sig .tc := ⟨.hbm, 261, rfl⟩
abbrev main_while0b_call4_v0 : Ref sig .tc := ⟨.hbm, 262, rfl⟩
abbrev main_while0b_call4_v1 : Ref sig .tc := ⟨.hbm, 263, rfl⟩
abbrev main_while0b_v195 : Ref sig .tc := ⟨.hbm, 264, rfl⟩
abbrev main_while0b_call5_v0 : Ref sig .tc := ⟨.hbm, 265, rfl⟩
abbrev main_while0b_call5_c : Ref sig .tc := ⟨.hbm, 266, rfl⟩
abbrev main_while0b_v196 : Ref sig .tc := ⟨.hbm, 267, rfl⟩
abbrev main_while0b_call6_v0 : Ref sig .tc := ⟨.hbm, 268, rfl⟩
abbrev main_while0b_v197 : Ref sig .tc := ⟨.hbm, 269, rfl⟩
abbrev main_while0b_call7_v0 : Ref sig .tc := ⟨.hbm, 270, rfl⟩
abbrev main_while0b_v198 : Ref sig .tc := ⟨.hbm, 271, rfl⟩
abbrev main_while0b_c_50 : Ref sig .tc := ⟨.hbm, 272, rfl⟩
abbrev main_while0b_v199 : Ref sig .tc := ⟨.hbm, 273, rfl⟩

abbrev nD : Nat := 1
abbrev τ : Topo := Topo.v7x

variable {F : FTy → Type} [FloatOps F]

abbrev main_while0_count : Scf.Loop 32 := ⟨0#32, 100#32, 1#32⟩
-- ==== Proof.Base.lean ====
/-
  The program as the launch theorem of the SparseCore sees it: its labels, its call, the definitions of the two
  TensorCore calls beneath it, and the resource algebra of the whole proof. Everything is stated for any float values
  `F`, so that one run serves the kernel and its idealized form.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the two TensorCore calls. -/
abbrev ΛP : Labels := Pipeline.Sig Λ₀ (Fin 2) fun p => (pcfgs (F := F) p).Adm
/-- The SparseCore configuration of the program: its one call. -/
abbrev K : SparseCore.Cfg τ sig (ΛP (F := F)) 1 := sc (F := F)
/-- What the labels below the SparseCore's mean. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the pipelines' rounds, the counters of the tiles' copies -/

abbrev UH : Type := URounds (GSem nD τ sig) ℕ
abbrev UP : Type := UR sig nD τ
abbrev UU : Type := UH × (UP × Counters)

/-- The handshakes of the SparseCore call. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The rounds of the TensorCore calls' pipelines. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ _) := by unfold EH; infer_instance
instance EP_landsIn : (EP : Emb UP (MT nD τ sig (HIx 1) (Elt F) ℕ UU ℕ)).LandsIn (upEmb : UEmb _ _) := by unfold EP; infer_instance

/-- Members of a set taken out of an iterated conjunction one by one, in the order of a list. -/
theorem bigSep_list {M : Type} [URA M] {I : Type} [DecidableEq I] (Φ : I → sProp M) :
    ∀ (l : List I) (s : Finset I), l.Nodup → (∀ x ∈ l, x ∈ s) →
      bigSep s Φ = l.foldr (fun x R => iprop(Φ x ∗ R)) (bigSep (l.foldl Finset.erase s) Φ)
  | [], _, _, _ => rfl
  | x :: l, s, hn, hm => by
    rw [SparseCore.bigSep_erase' (hm x List.mem_cons_self), List.foldr_cons, List.foldl_cons,
      bigSep_list Φ l (s.erase x) (List.nodup_cons.mp hn).2 fun y hy =>
        Finset.mem_erase.mpr ⟨fun e => (List.nodup_cons.mp hn).1 (e ▸ hy), hm y (List.mem_cons_of_mem _ hy)⟩]

end Cert.Proof.KI

end
-- ==== Proof.Compact.lean ====
/-
  What a tile computes, as functions of the values it holds: the compaction of the elements above the threshold, one
  vector of sixteen at a time, and the rows it makes of the compacted indices.
-/
module

public import proofs.«01_k».proof.Proof.Base

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A position of a chunk, from a number. -/
def ixC (n : ℕ) : S2560.Idx := fun a => ⟨n % 2560, by obtain rfl : a = 0 := Subsingleton.elim _ _; exact Nat.mod_lt _ (by decide)⟩
/-- A slot, from a number. -/
def ixS (n : ℕ) : S128.Idx := fun a => ⟨n % 128, by obtain rfl : a = 0 := Subsingleton.elim _ _; exact Nat.mod_lt _ (by decide)⟩

/-! ## One vector of the compaction -/

/-- A vector of slots brought into the index buffer's range. -/
def clipv (a : IVec S16 32) : IVec S16 32 := minsi (broadcast S16 127#32) (maxsi (broadcast S16 0#32) a)

theorem clip_lt (x : BitVec 32) : (IntOp.minsi 127#32 (IntOp.maxsi 0#32 x)).toNat < 128 := by
  unfold IntOp.minsi IntOp.maxsi
  by_cases h : x.slt 0#32
  · rw [if_pos h]; decide
  · rw [if_neg h]
    by_cases h' : (127#32 : BitVec 32).slt x
    · rw [if_pos h']; decide
    · rw [if_neg h']
      rw [BitVec.slt_eq_decide, decide_eq_true_eq, not_lt] at h h'
      have hx := BitVec.toInt_eq_toNat_cond x
      have : (0#32 : BitVec 32).toInt = 0 := by decide
      have : (127#32 : BitVec 32).toInt = 127 := by decide
      have := x.isLt
      split at hx <;> omega

theorem clipv_inb (a : IVec S16 32) : ∀ ax x, ((![clipv a] : Fin 1 → IVec S16 32) ax x).toNat < S128.size ax := by
  intro ax x
  obtain rfl : ax = 0 := Subsingleton.elim _ _
  exact clip_lt (a x)

/-- The lanes whose score is above the threshold. -/
def aboveV (v : Vec F S16 .f32) : IVec S16 1 := cmpf .ogt v (broadcast S16 (Scalar.ofBits .f32 0x3D4CCCCD#32))
/-- One for each set lane. -/
def ones (m : IVec S16 1) : IVec S16 32 := select m (broadcast S16 1#32) (broadcast S16 0#32)
/-- The slot that each lane above the threshold takes. -/
def dstV (cnt : IVec S16 32) (v : Vec F S16 .f32) : IVec S16 32 :=
  subi (addi cnt (scan .sum (ones (aboveV v)))) (broadcast S16 1#32)
/-- The lanes stored: above the threshold and within the buffer. -/
def keepV (cnt : IVec S16 32) (v : Vec F S16 .f32) : IVec S16 1 := andi (aboveV v) (cmpi .slt (dstV cnt v) (broadcast S16 128#32))
/-- The index buffer after one vector. -/
def scatV (f : Vec F S128 .i32) (cnt : IVec S16 32) (v : Vec F S16 .f32) (pos : IVec S16 32) : Vec F S128 .i32 :=
  storeIdx (F := F) (e := .i32) f ![clipv (dstV cnt v)] pos (keepV cnt v) false (clipv_inb _)
/-- The counter after one vector. -/
def cntV (cnt : IVec S16 32) (v : Vec F S16 .f32) : IVec S16 32 :=
  addi cnt (broadcast S16 (extractAt ![15] (scan .sum (ones (keepV cnt v))) inpos_S16_p15))

/-- The state of the compaction: the index buffer and the counter. -/
abbrev CSt (F : FTy → Type) : Type := Vec F S128 .i32 × IVec S16 32

/-- The `n`-th vector of a chunk. -/
def laneV (f : Vec F S2560 .f32) (n : ℕ) : Vec F S16 .f32 := fun x => f (ixC (16 * n + (x 0).val))
/-- The positions of the `n`-th vector in its chunk. -/
def posV (n : ℕ) : IVec S16 32 := fun x => BitVec.ofNat 32 (16 * n + (x 0).val)

/-- One vector's step, from its scores and its positions. -/
def vstepOf (v : Vec F S16 .f32) (pos : IVec S16 32) (st : CSt F) : CSt F := (scatV st.1 st.2 v pos, cntV st.2 v)
/-- The step of the `n`-th vector. -/
def vstep (f : Vec F S2560 .f32) (n : ℕ) (st : CSt F) : CSt F := vstepOf (laneV f n) (posV n) st

/-- The state before the `n`-th vector. -/
def vstate (f : Vec F S2560 .f32) (st₀ : CSt F) : ℕ → CSt F
  | 0 => st₀
  | n + 1 => vstep f n (vstate f st₀ n)

/-! ## The rows -/

/-- The index vector of the `j`-th group of sixteen slots. -/
def grpV (f : Vec F S128 .i32) (j : Fin 8) : IVec S16 32 := fun x => f (ixS (16 * j.val + (x 0).val))

end Cert.Proof.KI

end
-- ==== Proof.Trip.lean ====
/-
  One trip of the compaction loop: four vectors of the scores, each scattered into the index buffer.
-/
module

public import proofs.«01_k».proof.Proof.Compact

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev pV : Memref sig .scVector .hbm S409600 .f32 := Memref.whole main_v10_scv
abbrev oV : Memref sig .scVector .hbm S6x32x128 .f32 := Memref.whole main_v11_scv
abbrev b0 : Memref sig .scVector .vmem S2560 .f32 := Memref.whole cc1_scratch0
abbrev b1 : Memref sig .scVector .vmem S2560 .f32 := Memref.whole cc1_scratch1
abbrev b2 : Memref sig .scVector .vmem S2560 .f32 := Memref.whole cc1_scratch2
abbrev b3 : Memref sig .scVector .vmem S2560 .f32 := Memref.whole cc1_scratch3
abbrev b4 : Memref sig .scVector .vmem S2560 .f32 := Memref.whole cc1_scratch4
abbrev b5 : Memref sig .scVector .vmem S128 .i32 := Memref.whole cc1_scratch5
abbrev b6 : Memref sig .scVector .vmem S128 .f32 := Memref.whole cc1_scratch6
abbrev b7 : Memref sig .scVector .vmem S128 .f32 := Memref.whole cc1_scratch7
abbrev b8 : Memref sig .scVector .vmem S128 .f32 := Memref.whole cc1_scratch8
abbrev b9 : Memref sig .scVector .vmem S128 .f32 := Memref.whole cc1_scratch9
abbrev b10 : Memref sig .scVector .vmem S128 .f32 := Memref.whole cc1_scratch10
abbrev b11 : Memref sig .scVector .vmem S128 .f32 := Memref.whole cc1_scratch11

variable (d : Dev nD) (L : grid1.Coords)

abbrev cV (L : grid1.Coords) : Fin τ.nSC := (L 0).castLE hcore1
abbrev jV (L : grid1.Coords) : Fin τ.nSub := (L 1).castLE hsub1
/-- The tile of the coordinates. -/
abbrev thr (d : Dev nD) (L : grid1.Coords) : Thread nD τ := V d (cV L) (jV L)

/-! ## The scatter into the index buffer and the gather out of a chunk -/

theorem tile_scatter {α : Type} {Q : α → sProp 𝕄} (f : Vec F S128 .i32) (dst pos : IVec S16 32) (m : IVec S16 1)
    (h : ∀ a x, ((![dst] : Fin 1 → IVec S16 32) a x).toNat < S128.size a) (hs : ((b5).access (.whole S128)).Stores Finset.univ)
    (k : PUnit → Prog (TpuEff nD τ sig (Elt F) Λ₀ (thr d L).2) α) :
    ((b5).view.loc (thr d L) ↦{fullShare} f)
      ⊢ iprop((((b5).view.loc (thr d L) ↦{fullShare} (storeIdx (F := F) (e := .i32) f ![dst] pos m false h))
          -∗ wp frame (wpE (defs₀ (F := F)) 𝒱₀ (thr d L) none) Set.univ (k ⟨⟩) Q)
        -∗ wp frame (wpE (defs₀ (F := F)) 𝒱₀ (thr d L) none) Set.univ
            (SparseCore.vectorStoreIdx b5 ![dst] pos m false h hs >>= k) Q) := by
  have hr := SparseCore.wp_vectorStoreIdx (defs := defs₀ (F := F)) 𝒱₀ (thr d L) none Set.univ (Ix := HIx 1) (Name := ℕ) (U := UU) (Lvl := ℕ)
    (base := b5) (idxs := ![dst]) (v := pos) (mask := m) (add := false) (h := h) (hs := hs) (k := k) (Q := Q) (f := f)
  have e1 : ((b5).access (.whole S128)).set = Finset.univ := Memref.set_access_whole cc1_scratch5
  have e2 : ((b5).access (.whole S128)).read (Elt F) f = f := Memref.read_access_whole (Elt F) cc1_scratch5 f
  have e3 : ∀ w, ((b5).access (.whole S128)).write (Elt F) f w Finset.univ = w := fun w => Memref.write_access_whole_univ (Elt F) cc1_scratch5 f w
  rw [e1, e3, e2] at hr
  exact hr

/-- The gather out of a whole buffer of a chunk. -/
theorem tile_gather {α : Type} {Q : α → sProp 𝕄} (base : Memref sig .scVector .vmem S2560 .f32) (hset : (base.access (.whole S2560)).set = Finset.univ)
    (f : Buf (Elt F) (base.view.loc (thr d L))) (g : Vec F S2560 .f32) (hread : (base.access (.whole S2560)).read (Elt F) f = g) (v : IVec S16 32)
    (h : ∀ a x, ((![v] : Fin 1 → IVec S16 32) a x).toNat < S2560.size a) (hl : base.view.Loads)
    (k : Vec F S16 .f32 → Prog (TpuEff nD τ sig (Elt F) Λ₀ (thr d L).2) α) :
    (base.view.loc (thr d L) ↦{fullShare} f)
      ⊢ iprop(((base.view.loc (thr d L) ↦{fullShare} f)
          -∗ wp frame (wpE (defs₀ (F := F)) 𝒱₀ (thr d L) none) Set.univ (k (loadIdx g ![v] h)) Q)
        -∗ wp frame (wpE (defs₀ (F := F)) 𝒱₀ (thr d L) none) Set.univ (SparseCore.vectorLoadIdx base ![v] h hl >>= k) Q) := by
  subst hread
  exact SparseCore.wp_vectorLoadIdx (defs := defs₀ (F := F)) 𝒱₀ (thr d L) none Set.univ (Ix := HIx 1) (Name := ℕ) (U := UU) (Lvl := ℕ)
    (base := base) (idxs := ![v]) (h := h) (hl := hl) (k := k) (Q := Q) (S := Finset.univ) (q := fullShare) (f := f) (Finset.subset_univ _)

/-- The five gathers of one group of slots: four coordinates and the score. -/
theorem tile_gather5 {α : Type} {Q : α → sProp 𝕄} (f0 f1 f2 f3 f4 : Vec F S2560 .f32) (v : IVec S16 32)
    (h1 h2 h3 h4 h5 : ∀ a x, ((![v] : Fin 1 → IVec S16 32) a x).toNat < S2560.size a)
    (hl1 : (b1).view.Loads) (hl2 : (b2).view.Loads) (hl3 : (b3).view.Loads) (hl4 : (b4).view.Loads) (hl0 : (b0).view.Loads)
    (k : Vec F S16 .f32 → Vec F S16 .f32 → Vec F S16 .f32 → Vec F S16 .f32 → Vec F S16 .f32 → Prog (TpuEff nD τ sig (Elt F) Λ₀ (thr d L).2) α) :
    iprop(((b1).view.loc (thr d L) ↦{fullShare} f1) ∗ ((b2).view.loc (thr d L) ↦{fullShare} f2) ∗ ((b3).view.loc (thr d L) ↦{fullShare} f3)
        ∗ ((b4).view.loc (thr d L) ↦{fullShare} f4) ∗ ((b0).view.loc (thr d L) ↦{fullShare} f0))
      ⊢ iprop(((((b1).view.loc (thr d L) ↦{fullShare} f1) ∗ ((b2).view.loc (thr d L) ↦{fullShare} f2) ∗ ((b3).view.loc (thr d L) ↦{fullShare} f3)
            ∗ ((b4).view.loc (thr d L) ↦{fullShare} f4) ∗ ((b0).view.loc (thr d L) ↦{fullShare} f0))
          -∗ wp frame (wpE (defs₀ (F := F)) 𝒱₀ (thr d L) none) Set.univ
              (k (loadIdx f1 ![v] h1) (loadIdx f2 ![v] h1) (loadIdx f3 ![v] h1) (loadIdx f4 ![v] h1) (loadIdx f0 ![v] h1)) Q)
        -∗ wp frame (wpE (defs₀ (F := F)) 𝒱₀ (thr d L) none) Set.univ
            (SparseCore.vectorLoadIdx b1 ![v] h1 hl1 >>= fun x1 => SparseCore.vectorLoadIdx b2 ![v] h2 hl2 >>= fun x2 =>
              SparseCore.vectorLoadIdx b3 ![v] h3 hl3 >>= fun x3 => SparseCore.vectorLoadIdx b4 ![v] h4 hl4 >>= fun x4 =>
              SparseCore.vectorLoadIdx b0 ![v] h5 hl0 >>= fun x0 => k x1 x2 x3 x4 x0) Q) := by
  iintro ⟨H1, H2, H3, H4, H0⟩ Hk
  iapply (tile_gather d L b1 (Memref.set_access_whole _) f1 f1 (Memref.read_access_whole _ _ _) v h1 hl1) $$ H1; iintro H1
  iapply (tile_gather d L b2 (Memref.set_access_whole _) f2 f2 (Memref.read_access_whole _ _ _) v h2 hl2) $$ H2; iintro H2
  iapply (tile_gather d L b3 (Memref.set_access_whole _) f3 f3 (Memref.read_access_whole _ _ _) v h3 hl3) $$ H3; iintro H3
  iapply (tile_gather d L b4 (Memref.set_access_whole _) f4 f4 (Memref.read_access_whole _ _ _) v h4 hl4) $$ H4; iintro H4
  iapply (tile_gather d L b0 (Memref.set_access_whole _) f0 f0 (Memref.read_access_whole _ _ _) v h5 hl0) $$ H0; iintro H0
  iapply Hk $$ [H1 H2 H3 H4 H0]
  iframe

/-! ## The trip -/

theorem off_lane (f : Vec F S2560 .f32) (off : Fin 1 → ℕ) (inb : ∀ a, off a + S16.size a ≤ S2560.size a) (n : ℕ) (hn : off 0 = 16 * n) :
    (b0).view.readAt (Elt F) (Rect.unit (s := S2560) off S16.size inb).toLoadRect f = laneV f n := by
  funext x
  rw [View.readAt_apply]
  show f _ = f _
  congr 1
  funext a
  obtain rfl : a = (0 : Fin 1) := Subsingleton.elim (α := Fin 1) _ _
  apply Fin.ext
  have h0 := inb 0
  have hx := (x 0).isLt
  show off 0 + 1 * (x 0).val = (16 * n + (x 0).val) % 2560
  have h1 : off 0 + 16 ≤ 2560 := h0
  have h2 : (x 0).val < 16 := hx
  rw [Nat.mod_eq_of_lt (by omega)]; omega

theorem off2_eq : ∀ k, k1_off2 k 0 = 16 * (4 * k.val) := by decide +kernel
theorem off3_eq : ∀ k, k1_off3 k 0 = 16 * (4 * k.val + 1) := by decide +kernel
theorem off4_eq : ∀ k, k1_off4 k 0 = 16 * (4 * k.val + 2) := by decide +kernel
theorem off5_eq : ∀ k, k1_off5 k 0 = 16 * (4 * k.val + 3) := by decide +kernel

abbrev iotaV : IVec S16 32 := iota .scVector S16 32 [0] iota_S16_d0_w32_scVector
/-- The first position of a trip, as the program computes it. -/
abbrev baseV (k : Fin k1_t1_loop.trips) : BitVec 32 := Scalar.muli (Scf.iv 0#32 1#32 k) 64#32

theorem pos_eq (k : Fin k1_t1_loop.trips) (u : Fin 4) :
    addi iotaV (broadcast S16 (Scalar.addi (baseV k) (BitVec.ofNat 32 (16 * u.val)))) = posV (4 * k.val + u.val) := by
  funext x
  have hk : k.val < 40 := k.isLt
  show BitVec.ofNat 32 (0 * 16 + (x 0).val) + ((0#32 + BitVec.ofNat 32 k.val * 1#32) * 64#32 + BitVec.ofNat 32 (16 * u.val)) = BitVec.ofNat 32 (16 * (4 * k.val + u.val) + (x 0).val)
  apply BitVec.eq_of_toNat_eq
  have hx : (x 0).val < 16 := (x 0).isLt
  have hu := u.isLt
  simp only [Nat.zero_mul, Nat.zero_add, BitVec.toNat_add, BitVec.toNat_mul, BitVec.toNat_ofNat]
  omega

theorem chk1 (a : IVec S16 32) (v : Vec F S16 .f32) : k1_chk1 (k1_pay4 a v) := clipv_inb _
theorem chk2 (a : IVec S16 32) (b : IVec S16 1) (c e : IVec S16 32) : k1_chk2 (k1_pay12 a b c e) := clipv_inb _
theorem chk3 (a : IVec S16 32) : k1_chk3 (k1_pay18 a 0#32 127#32) := clipv_inb _
theorem chk4 (a : IVec S16 32) (b : IVec S16 1) (v : Vec F S16 .f32) : k1_chk4 (k1_pay24 a b v) := clipv_inb _

section Pure
variable (c : IVec S16 32) (v w : Vec F S16 .f32)
theorem pay3_eq : k1_pay3 c v = keepV c v := rfl
theorem pay4_eq : k1_pay4 c v = clipv (dstV c v) := rfl
theorem pay6_eq : k1_pay6 c v = cntV c v := rfl
theorem pay11_eq : k1_pay11 c (k1_pay7 v) k1_pay8 k1_pay9 = keepV c v := rfl
theorem pay12_eq : k1_pay12 c (k1_pay7 v) k1_pay8 k1_pay9 = clipv (dstV c v) := rfl
theorem pay14_eq : k1_pay14 c (k1_pay7 v) k1_pay8 k1_pay9 = cntV c v := rfl
theorem pay16_eq : k1_pay16 c (k1_pay7 v) k1_pay8 k1_pay9 w = dstV (cntV c v) w := rfl
theorem pay17_eq : k1_pay17 c (k1_pay7 v) k1_pay8 k1_pay9 w = keepV (cntV c v) w := rfl
theorem pay18_eq (a : IVec S16 32) : k1_pay18 a 0#32 127#32 = clipv a := rfl
theorem pay20_eq : k1_pay20 c (keepV c v) = cntV c v := rfl
theorem pay23_eq : k1_pay23 c (keepV c v) w = keepV (cntV c v) w := rfl
theorem pay24_eq : k1_pay24 c (keepV c v) w = clipv (dstV (cntV c v) w) := rfl
theorem pay30_eq : k1_pay30 c (keepV c v) k1_pay26 k1_pay27 = cntV c v := rfl
end Pure

theorem storeIdx_congr (f g : Vec F S128 .i32) (hfg : f = g) (dst dst' pos pos' : IVec S16 32) (m m' : IVec S16 1) (hd : dst = dst') (hp : pos = pos') (hm : m = m')
    (h : ∀ a x, ((![dst] : Fin 1 → IVec S16 32) a x).toNat < S128.size a) (h' : ∀ a x, ((![dst'] : Fin 1 → IVec S16 32) a x).toNat < S128.size a) :
    storeIdx (F := F) (e := .i32) f ![dst] pos m false h = storeIdx (F := F) (e := .i32) g ![dst'] pos' m' false h' := by
  subst hfg hd hp hm; rfl

/-- The four scatters of a trip and the counter it yields, as the program computes them. -/
theorem trip_pure (k : Fin k1_t1_loop.trips) (f5 : Vec F S128 .i32) (c : IVec S16 32) (v2 v3 v4 v5 : Vec F S16 .f32)
    {h1 h2 h3 h4} :
    ((storeIdx (F := F) (e := .i32) (storeIdx (F := F) (e := .i32) (storeIdx (F := F) (e := .i32) (storeIdx (F := F) (e := .i32) f5
        ![k1_pay4 c v2] (k1_pay5 iotaV 0#32 1#32 k) (k1_pay3 c v2) false h1)
        ![k1_pay12 (k1_pay6 c v2) (k1_pay7 v3) k1_pay8 k1_pay9] (k1_pay13 iotaV (baseV k)) (k1_pay11 (k1_pay6 c v2) (k1_pay7 v3) k1_pay8 k1_pay9) false h2)
        ![k1_pay18 (k1_pay16 (k1_pay6 c v2) (k1_pay7 v3) k1_pay8 k1_pay9 v4) 0#32 127#32] (k1_pay19 iotaV (baseV k))
          (k1_pay17 (k1_pay6 c v2) (k1_pay7 v3) k1_pay8 k1_pay9 v4) false h3)
        ![k1_pay24 (k1_pay14 (k1_pay6 c v2) (k1_pay7 v3) k1_pay8 k1_pay9) (k1_pay17 (k1_pay6 c v2) (k1_pay7 v3) k1_pay8 k1_pay9 v4) v5]
          (k1_pay25 iotaV (baseV k))
          (k1_pay23 (k1_pay14 (k1_pay6 c v2) (k1_pay7 v3) k1_pay8 k1_pay9) (k1_pay17 (k1_pay6 c v2) (k1_pay7 v3) k1_pay8 k1_pay9 v4) v5) false h4,
      k1_pay30 (k1_pay20 (k1_pay14 (k1_pay6 c v2) (k1_pay7 v3) k1_pay8 k1_pay9) (k1_pay17 (k1_pay6 c v2) (k1_pay7 v3) k1_pay8 k1_pay9 v4))
        (k1_pay23 (k1_pay14 (k1_pay6 c v2) (k1_pay7 v3) k1_pay8 k1_pay9) (k1_pay17 (k1_pay6 c v2) (k1_pay7 v3) k1_pay8 k1_pay9 v4) v5) k1_pay26 k1_pay27) : CSt F)
    = vstepOf v5 (addi iotaV (broadcast S16 (Scalar.addi (baseV k) 48#32)))
      (vstepOf v4 (addi iotaV (broadcast S16 (Scalar.addi (baseV k) 32#32)))
        (vstepOf v3 (addi iotaV (broadcast S16 (Scalar.addi (baseV k) 16#32)))
          (vstepOf v2 (addi iotaV (broadcast S16 (Scalar.addi (baseV k) 0#32))) (f5, c)))) := by
  refine Prod.ext ?_ ?_
  · refine storeIdx_congr _ _ ?_ _ _ _ _ _ _ ?_ rfl ?_ _ _
    · refine storeIdx_congr _ _ ?_ _ _ _ _ _ _ ?_ rfl ?_ _ _
      · refine storeIdx_congr _ _ ?_ _ _ _ _ _ _ ?_ rfl ?_ _ _
        · rfl
        · simp only [pay6_eq, pay12_eq]; rfl
        · simp only [pay6_eq, pay11_eq]; rfl
      · simp only [pay6_eq, pay16_eq, pay18_eq]; rfl
      · simp only [pay6_eq, pay17_eq]; rfl
    · simp only [pay6_eq, pay14_eq, pay17_eq, pay24_eq]; rfl
    · simp only [pay6_eq, pay14_eq, pay17_eq, pay23_eq]; rfl
  · simp only [pay6_eq, pay14_eq, pay17_eq, pay20_eq, pay23_eq, pay30_eq]; rfl

theorem trip_spec (k : Fin k1_t1_loop.trips) (S : Vec F S2560 .f32) (st : CSt F) (v1 : BitVec 32) (v8 : IVec S16 32)
    (Q : IVec S16 32 → sProp 𝕄) :
    iprop(((b0).view.loc (thr d L) ↦{fullShare} S) ∗ ((b5).view.loc (thr d L) ↦{fullShare} st.1)
      ∗ ((((b0).view.loc (thr d L) ↦{fullShare} S) ∗ ((b5).view.loc (thr d L) ↦{fullShare}
              (vstep S (4 * k.val + 3) (vstep S (4 * k.val + 2) (vstep S (4 * k.val + 1) (vstep S (4 * k.val) st)))).1))
          -∗ Q (vstep S (4 * k.val + 3) (vstep S (4 * k.val + 2) (vstep S (4 * k.val + 1) (vstep S (4 * k.val) st)))).2))
    ⊢ wp frame (wpE (defs₀ (F := F)) 𝒱₀ (thr d L) none) Set.univ
      (k1_t1_body L pV (Memref.isWhole_whole _) oV (Memref.isWhole_whole _)
        b0 (Memref.isWhole_whole _) b1 (Memref.isWhole_whole _) b2 (Memref.isWhole_whole _) b3 (Memref.isWhole_whole _)
        b4 (Memref.isWhole_whole _) b5 (Memref.isWhole_whole _) b6 (Memref.isWhole_whole _) b7 (Memref.isWhole_whole _)
        b8 (Memref.isWhole_whole _) b9 (Memref.isWhole_whole _) b10 (Memref.isWhole_whole _) b11 (Memref.isWhole_whole _)
        cc1_scoped0 cc1_scoped1 cc1_scoped2 cc1_scoped3 cc1_scoped4 cc1_scoped5 cc1_scoped6 cc1_scoped7 cc1_scoped8
        cc1_scoped9 cc1_scoped10 v1 v8 iotaV k st.2) Q := by
  obtain ⟨f5, cnt⟩ := st
  unfold k1_t1_body
  beta_reduce
  rw [wp_bind, k1_part1_eq_skeleton]; unfold k1_part1_skel
  iintro ⟨H0, H5, Hk⟩
  sl_exec (disch := first | exact chk1 _ _ | exact chk2 _ _ _ _ | exact chk3 _ | exact chk4 _ _ _)
  iapply (tile_scatter d L _ _ _ _ _ _ _) $$ H5; iintro H5
  sl_exec (disch := first | exact chk1 _ _ | exact chk2 _ _ _ _ | exact chk3 _ | exact chk4 _ _ _)
  iapply (tile_scatter d L _ _ _ _ _ _ _) $$ H5; iintro H5
  sl_exec (disch := first | exact chk1 _ _ | exact chk2 _ _ _ _ | exact chk3 _ | exact chk4 _ _ _)
  iapply (tile_scatter d L _ _ _ _ _ _ _) $$ H5; iintro H5
  sl_exec (disch := first | exact chk1 _ _ | exact chk2 _ _ _ _ | exact chk3 _ | exact chk4 _ _ _)
  iapply (tile_scatter d L _ _ _ _ _ _ _) $$ H5; iintro H5
  sl_exec
  have e2 := off_lane S (k1_off2 k) (k1_off2_inb k) (4 * k.val) (off2_eq k)
  have e3 := off_lane S (k1_off3 k) (k1_off3_inb k) (4 * k.val + 1) (off3_eq k)
  have e4 := off_lane S (k1_off4 k) (k1_off4_inb k) (4 * k.val + 2) (off4_eq k)
  have e5 := off_lane S (k1_off5 k) (k1_off5_inb k) (4 * k.val + 3) (off5_eq k)
  have p2 : addi iotaV (broadcast S16 (Scalar.addi (baseV k) 0#32)) = posV (4 * k.val) := pos_eq k 0
  have p3 : addi iotaV (broadcast S16 (Scalar.addi (baseV k) 16#32)) = posV (4 * k.val + 1) := pos_eq k 1
  have p4 : addi iotaV (broadcast S16 (Scalar.addi (baseV k) 32#32)) = posV (4 * k.val + 2) := pos_eq k 2
  have p5 : addi iotaV (broadcast S16 (Scalar.addi (baseV k) 48#32)) = posV (4 * k.val + 3) := pos_eq k 3
  have key : ∀ (X : Vec F S128 .i32) (c : IVec S16 32),
      (X, c) = vstep S (4 * k.val + 3) (vstep S (4 * k.val + 2) (vstep S (4 * k.val + 1) (vstep S (4 * k.val) (f5, cnt)))) →
      iprop(((b0).view.loc (thr d L) ↦{fullShare} S) ∗ ((b5).view.loc (thr d L) ↦{fullShare} X)
        ∗ ((((b0).view.loc (thr d L) ↦{fullShare} S) ∗ ((b5).view.loc (thr d L) ↦{fullShare}
              (vstep S (4 * k.val + 3) (vstep S (4 * k.val + 2) (vstep S (4 * k.val + 1) (vstep S (4 * k.val) (f5, cnt))))).1))
          -∗ Q (vstep S (4 * k.val + 3) (vstep S (4 * k.val + 2) (vstep S (4 * k.val + 1) (vstep S (4 * k.val) (f5, cnt))))).2)) ⊢ Q c := by
    intro X c h
    rw [← h]
    iintro ⟨H0, H5, Hk⟩
    iapply Hk $$ [H0 H5]
    iframe
  rw [wp_ret]
  imodintro
  iapply (key _ _ ?e) $$ [H0 H5 Hk]
  rotate_left
  · isplitl [H0]
    · iexact H0
    isplitl [H5]
    · iexact H5
    · iexact Hk
  ·
    unfold vstep
    rw [← e2, ← e3, ← e4, ← e5, ← p2, ← p3, ← p4, ← p5]
    delta trip_spec.sl.v212 trip_spec.sl.v243 trip_spec.sl.v274 trip_spec.sl.v305
    delta trip_spec.sl.r_6 trip_spec.sl.r_5 trip_spec.sl.r_4
    delta trip_spec.sl.r_3 trip_spec.sl.r_2
    delta trip_spec.sl.r_1 trip_spec.sl.r trip_spec.sl.v192
    exact trip_pure k f5 cnt _ _ _ _

end Cert.Proof.KI

end
-- ==== Proof.Rows.lean ====
/-
  The rows a tile makes of the compacted indices: their scores, their boxes and their positions.
-/
module

public import proofs.«01_k».proof.Proof.Trip

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The indices stay in their chunk -/

/-- A property of the old elements and of the stored ones is a property of the elements after a scatter. -/
theorem storeIdx_all (p : BitVec 32 → Prop) (f : Vec F S128 .i32) (ix : Fin 1 → IVec S16 32) (v : IVec S16 32) (m : IVec S16 1)
    (h : ∀ a x, (ix a x).toNat < S128.size a) (hf : ∀ y, p (f y)) (hv : ∀ x, p (v x)) :
    ∀ y, p (storeIdx (F := F) (e := .i32) f ix v m false h y) := by
  unfold storeIdx
  generalize List.finRange _ = l
  induction l generalizing f with
  | nil => exact hf
  | cons k l ih =>
    rw [List.foldl_cons]
    apply ih
    intro y
    dsimp only
    split
    · beta_reduce
      simp only [Bool.false_eq_true, if_false]
      split
      · exact hv _
      · exact hf y
    · exact hf y

theorem vstate_lt (S : Vec F S2560 .f32) (st : CSt F) (h0 : ∀ y, (st.1 y).toNat < 2560) :
    ∀ n, n ≤ 160 → ∀ y, ((vstate S st n).1 y).toNat < 2560
  | 0, _ => h0
  | n + 1, hn => by
    show ∀ y, (scatV (vstate S st n).1 (vstate S st n).2 (laneV S n) (posV n) y).toNat < 2560
    refine storeIdx_all (fun b => b.toNat < 2560) _ _ _ _ _ (vstate_lt S st h0 n (by omega)) fun x => ?_
    show (BitVec.ofNat 32 (16 * n + (x 0).val)).toNat < 2560
    have hx : (x 0).val < 16 := (x 0).isLt
    rw [BitVec.toNat_ofNat, Nat.mod_eq_of_lt (by omega)]; omega

/-! ## The rows a tile makes -/

/-- The score that stands for none. -/
def negF (F : FTy → Type) [FloatOps F] : F .f32 := Scalar.ofBits .f32 0xCE6E6B28#32

/-- A lane, from a number. -/
def ixL (n : ℕ) : S16.Idx := fun a => ⟨n % 16, by obtain rfl : a = 0 := Subsingleton.elim _ _; exact Nat.mod_lt _ (by decide)⟩

/-- The elements of a chunk that the slots name. -/
def gathRow (S : Vec F S2560 .f32) (idx : Vec F S128 .i32) : Vec F S128 .f32 := fun y => S (ixC (idx y : BitVec 32).toNat)

/-- The score of a slot: that of its element when the slot is in use, and none for slot 0 of the first tile. -/
def scoreAt (w : BitVec 32) (cnt : IVec S16 32) (n : ℕ) (g : F .f32) : F .f32 :=
  if w = 0#32 ∧ n = 0 then negF F else if (BitVec.ofNat 32 n).slt (cnt (ixL n)) then g else negF F

/-- The scores of the slots. -/
def scoreRow (w : BitVec 32) (S : Vec F S2560 .f32) (st : CSt F) : Vec F S128 .f32 := fun y =>
  scoreAt w st.2 (y 0).val (gathRow S st.1 y)

/-- The flat positions of the slots, as floats. -/
def idRow (s : BitVec 32) (idx : Vec F S128 .i32) : Vec F S128 .f32 := fun y => FloatOps.sitofp (F := F) .f32 (idx y + s : BitVec 32)

theorem gath_eq (S : Vec F S2560 .f32) (idx : Vec F S128 .i32) (j : Fin 8) (v : IVec S16 32) (hv : v = grpV idx j)
    (h : ∀ a x, ((![v] : Fin 1 → IVec S16 32) a x).toNat < S2560.size a) (x : S16.Idx) :
    loadIdx S ![v] h x = gathRow S idx (ixS (16 * j.val + (x 0).val)) := by
  subst hv
  show S _ = S _
  congr 1
  funext a
  obtain rfl : a = (0 : Fin 1) := Subsingleton.elim (α := Fin 1) _ _
  apply Fin.ext
  exact (Nat.mod_eq_of_lt (h 0 x)).symm

theorem id_eq (s : BitVec 32) (idx : Vec F S128 .i32) (j : Fin 8) (v : IVec S16 32) (hv : v = grpV idx j) (x : S16.Idx) :
    sitofp (F := F) .f32 (addi v (broadcast S16 s)) x = idRow s idx (ixS (16 * j.val + (x 0).val)) := by
  subst hv; rfl

theorem ixL_lane (j : Fin 8) (x : S16.Idx) : ixL ((16 * j.val + (x 0).val) % 128) = x := by
  funext a
  obtain rfl : a = (0 : Fin 1) := Subsingleton.elim (α := Fin 1) _ _
  apply Fin.ext
  have hx : (x 0).val < 16 := (x 0).isLt
  show (16 * j.val + (x 0).val) % 128 % 16 = _
  omega

/-- The mask of the slots in use, of a group. -/
theorem used_eq (cnt : IVec S16 32) (j : Fin 8) (x : S16.Idx) (v : Vec F S16 .f32) :
    select (cmpi .slt (addi (iota .scVector S16 32 [0] iota_S16_d0_w32_scVector) (broadcast S16 (BitVec.ofNat 32 (16 * j.val)))) cnt) v
        (broadcast S16 (Scalar.ofBits (F := F) .f32 0xCE6E6B28#32)) x
      = if (BitVec.ofNat 32 ((16 * j.val + (x 0).val) % 128)).slt (cnt (ixL ((16 * j.val + (x 0).val) % 128))) then v x else negF F := by
  rw [ixL_lane]
  have hx : (x 0).val < 16 := (x 0).isLt
  have hj := j.isLt
  have e : addi (iota .scVector S16 32 [0] iota_S16_d0_w32_scVector) (broadcast S16 (BitVec.ofNat 32 (16 * j.val))) x
      = BitVec.ofNat 32 ((16 * j.val + (x 0).val) % 128) := by
    show BitVec.ofNat 32 (0 * 16 + (x 0).val) + BitVec.ofNat 32 (16 * j.val) = _
    rw [Nat.mod_eq_of_lt (by omega), Nat.zero_mul, Nat.zero_add, ← BitVec.ofNat_add, Nat.add_comm]
  show Scalar.select (IntOp.cmpi .slt (addi (iota .scVector S16 32 [0] iota_S16_d0_w32_scVector) (broadcast S16 (BitVec.ofNat 32 (16 * j.val))) x) (cnt x)) (v x) (negF F) = _
  rw [e]
  by_cases hc : (BitVec.ofNat 32 ((16 * j.val + (x 0).val) % 128)).slt (cnt x)
  · rw [if_pos hc]; simp [Scalar.select, IntOp.cmpi, hc]
  · rw [if_neg hc]; simp [Scalar.select, IntOp.cmpi, hc]

theorem score_rest (w : BitVec 32) (S : Vec F S2560 .f32) (st : CSt F) (j : Fin 8) (hj : 0 < j.val)
    (v : IVec S16 32) (hv : v = grpV st.1 j) (h : ∀ a x, ((![v] : Fin 1 → IVec S16 32) a x).toNat < S2560.size a) (x : S16.Idx) :
    select (cmpi .slt (addi (iota .scVector S16 32 [0] iota_S16_d0_w32_scVector) (broadcast S16 (BitVec.ofNat 32 (16 * j.val)))) st.2)
        (loadIdx S ![v] h) (broadcast S16 (Scalar.ofBits (F := F) .f32 0xCE6E6B28#32)) x
      = scoreRow w S st (ixS (16 * j.val + (x 0).val)) := by
  have hx : (x 0).val < 16 := (x 0).isLt
  have hj8 := j.isLt
  rw [used_eq, gath_eq S st.1 j v hv]
  show _ = scoreAt w st.2 ((16 * j.val + (x 0).val) % 128) (gathRow S st.1 (ixS (16 * j.val + (x 0).val)))
  unfold scoreAt
  rw [if_neg (show ¬(w = 0#32 ∧ (16 * j.val + (x 0).val) % 128 = 0) from fun e => by have := e.2; omega)]

theorem score_first (w : BitVec 32) (S : Vec F S2560 .f32) (st : CSt F)
    (v : IVec S16 32) (hv : v = grpV st.1 0) (h : ∀ a x, ((![v] : Fin 1 → IVec S16 32) a x).toNat < S2560.size a) (x : S16.Idx) :
    k1_pay31 w st.2 (loadIdx S ![v] h) x = scoreRow w S st (ixS (16 * (0 : Fin 8).val + (x 0).val)) := by
  have hx : (x 0).val < 16 := (x 0).isLt
  have hu := used_eq st.2 0 x (loadIdx S ![v] h)
  have hi : iota .scVector S16 32 [0] iota_S16_d0_w32_scVector x = BitVec.ofNat 32 (x 0).val := by
    show BitVec.ofNat 32 (0 * 16 + (x 0).val) = _
    rw [Nat.zero_mul, Nat.zero_add]
  show Scalar.select (IntOp.andi (Scalar.cmpi .eq w 0#32) (IntOp.cmpi .eq (iota .scVector S16 32 [0] iota_S16_d0_w32_scVector x) 0#32)) (negF F)
      (select (cmpi .slt (addi (iota .scVector S16 32 [0] iota_S16_d0_w32_scVector) (broadcast S16 (BitVec.ofNat 32 (16 * (0 : Fin 8).val)))) st.2)
        (loadIdx S ![v] h) (broadcast S16 (Scalar.ofBits (F := F) .f32 0xCE6E6B28#32)) x) = _
  rw [hu, gath_eq S st.1 0 v hv, hi]
  show _ = scoreAt w st.2 ((16 * (0 : Fin 8).val + (x 0).val) % 128) (gathRow S st.1 (ixS (16 * (0 : Fin 8).val + (x 0).val)))
  unfold scoreAt
  by_cases hc : w = 0#32 ∧ (16 * (0 : Fin 8).val + (x 0).val) % 128 = 0
  · have hc2 : (x 0).val = 0 := by have := hc.2; simp only [Fin.val_zero] at this; omega
    rw [if_pos (show w = 0#32 ∧ (16 * (0 : Fin 8).val + (x 0).val) % 128 = 0 from hc), hc.1, hc2]
    rfl
  · rw [if_neg (show ¬(w = 0#32 ∧ (16 * (0 : Fin 8).val + (x 0).val) % 128 = 0) from hc)]
    have hz : Scalar.select (IntOp.andi (Scalar.cmpi .eq w 0#32) (IntOp.cmpi .eq (BitVec.ofNat 32 (x 0).val) 0#32)) (negF F) =
        fun b => b := by
      funext b
      by_cases hw : w = 0#32
      · have hn : (x 0).val ≠ 0 := fun e => hc ⟨hw, by simp only [Fin.val_zero]; omega⟩
        have hb : (BitVec.ofNat 32 (x 0).val == 0#32) = false := by
          rw [beq_eq_false_iff_ne]; intro e
          have := congrArg BitVec.toNat e
          rw [BitVec.toNat_ofNat, BitVec.toNat_ofNat, Nat.mod_eq_of_lt (by omega)] at this
          simp at this; exact hn this
        subst hw
        show (if (BitVec.ofBool (0#32 == 0#32) &&& BitVec.ofBool (BitVec.ofNat 32 (x 0).val == 0#32)) = 1 then _ else b) = b
        rw [hb]; rfl
      · have hb : (w == 0#32) = false := by rw [beq_eq_false_iff_ne]; exact hw
        show (if (BitVec.ofBool (w == 0#32) &&& BitVec.ofBool (BitVec.ofNat 32 (x 0).val == 0#32)) = 1 then _ else b) = b
        rw [hb]
        by_cases hq : (BitVec.ofNat 32 (x 0).val == 0#32) = true
        · rw [hq]; rfl
        · rw [Bool.not_eq_true] at hq; rw [hq]; rfl
    rw [hz]

/-! ## The chunks, the compaction of a chunk and the rows, of the planes -/

/-- A position of the planes, from a number. -/
def ixP (n : ℕ) : S409600.Idx := fun a => ⟨n % 409600, by obtain rfl : a = 0 := Subsingleton.elim _ _; exact Nat.mod_lt _ (by decide)⟩

/-- The chunk of tile `w` in plane `p`. -/
def chunkP (P : Vec F S409600 .f32) (w p : ℕ) : Vec F S2560 .f32 := fun x => P (ixP (81920 * p + 2560 * w + (x 0).val))

/-- What the compaction of tile `w` starts from: zeros, and a counter that leaves slot 0 of the first tile free. -/
def tileSt0 (F : FTy → Type) (w : ℕ) : CSt F := (fun _ => 0#32, k1_pay29 (BitVec.ofNat 32 w))

/-- What the compaction of tile `w` ends in. -/
def tileSt (P : Vec F S409600 .f32) (w : ℕ) : CSt F := vstate (chunkP P w 0) (tileSt0 F w) 160

/-- The row `p` of tile `w`: the scores, the four coordinates of the boxes, the flat positions. -/
def tileRow (P : Vec F S409600 .f32) (w p : ℕ) : Vec F S128 .f32 :=
  if p = 0 then scoreRow (BitVec.ofNat 32 w) (chunkP P w 0) (tileSt P w)
  else if p = 5 then idRow (BitVec.ofNat 32 (2560 * w)) (tileSt P w).1
  else gathRow (chunkP P w p) (tileSt P w).1

/-- The array the tiles make of the planes. -/
def outF (P : Vec F S409600 .f32) : Vec F S6x32x128 .f32 := fun x => tileRow P (x 1).val (x 0).val (ixS (x 2).val)

end Cert.Proof.KI

end
-- ==== Proof.Bodies.lean ====
/-
  The two TensorCore bodies as functions: `denseV` is what the dense stage leaves in its output (five planes
  of 1000 rows, and 24 rows of padding below each), `nmsV` what the suppression stage leaves in its output
  (the state after 100 steps, six rows of it).
-/
module

public import proofs.«01_k».proof.Proof.Rows
public import Idealize.ShloMosaic.Lib.Ring

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A memref's buffer on a core, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## The dense stage -/

/-- The dense stage's row part of plane `p` (a one-plane block of 1000 rows). -/
def densePl (P : Vec F S1000x4 .f32) (G : Vec F S1000x81 .f32) (dx dy dw dh : Vec F S1000x80 .f32) (p : ℕ) : FVec F S1x1000x80 .f32 :=
  if p = 0 then k0_pay2 G
  else if p = 1 then k0_pay16 (k0_pay15 (k0_pay4 P) (k0_pay6 P) (k0_pay8 dx) dw)
  else if p = 2 then k0_pay18 (k0_pay10 (k0_pay5 P) (k0_pay7 P) dy) (k0_pay12 (k0_pay5 P) dh) (k0_pay13 (F := F))
  else if p = 3 then k0_pay20 (k0_pay9 (k0_pay4 P) (k0_pay6 P) (k0_pay8 dx)) (k0_pay11 (k0_pay4 P) dw) (k0_pay13 (F := F))
  else k0_pay22 (k0_pay10 (k0_pay5 P) (k0_pay7 P) dy) (k0_pay12 (k0_pay5 P) dh) (k0_pay13 (F := F))

/-- The padding below plane `p`. -/
def densePad (p : ℕ) : FVec F S1x24x80 .f32 :=
  if p = 0 then k0_pay3 (F := F)
  else if p = 1 then k0_pay17 (k0_pay14 (F := F))
  else if p = 2 then k0_pay19 (k0_pay14 (F := F))
  else if p = 3 then k0_pay21 (k0_pay14 (F := F))
  else k0_pay1 (k0_pay14 (F := F))

/-- The index (0, r, c) of a block of 1000 rows. -/
def ixB (r c : ℕ) : S1x1000x80.Idx := fun a => match a with
  | ⟨0, _⟩ => ⟨0, Nat.one_pos⟩ | ⟨1, _⟩ => ⟨r % 1000, Nat.mod_lt _ (by decide)⟩ | ⟨2, _⟩ => ⟨c % 80, Nat.mod_lt _ (by decide)⟩
/-- The index (0, r, c) of a block of 24 rows. -/
def ixT (r c : ℕ) : S1x24x80.Idx := fun a => match a with
  | ⟨0, _⟩ => ⟨0, Nat.one_pos⟩ | ⟨1, _⟩ => ⟨r % 24, Nat.mod_lt _ (by decide)⟩ | ⟨2, _⟩ => ⟨c % 80, Nat.mod_lt _ (by decide)⟩

/-- What the dense stage leaves in its output. -/
def denseV (P : Vec F S1000x4 .f32) (G : Vec F S1000x81 .f32) (dx dy dw dh : Vec F S1000x80 .f32) : Vec F S5x1024x80 .f32 := fun x =>
  if (x 1).val < 1000 then densePl P G dx dy dw dh (x 0).val (ixB (x 1).val (x 2).val) else densePad (x 0).val (ixT ((x 1).val - 1000) (x 2).val)

theorem denseV_row (P : Vec F S1000x4 .f32) (G : Vec F S1000x81 .f32) (dx dy dw dh : Vec F S1000x80 .f32) (p : ℕ)
    (inb : ∀ a, ![p, 0, 0] a + S1x1000x80.size a ≤ S5x1024x80.size a) (x : S1x1000x80.Idx) :
    densePl P G dx dy dw dh p x = denseV P G dx dy dw dh ((Rect.unit (s := S5x1024x80) ![p, 0, 0] S1x1000x80.size inb).emb x) := by
  have e0 : (((Rect.unit (s := S5x1024x80) ![p, 0, 0] S1x1000x80.size inb).emb x) 0).val = p := by
    rw [Rect.emb_apply]; have := (x 0).isLt; change (x 0).val < 1 at this; show p + 1 * (x 0).val = p; omega
  have e1 : (((Rect.unit (s := S5x1024x80) ![p, 0, 0] S1x1000x80.size inb).emb x) 1).val = (x 1).val := by
    rw [Rect.emb_apply]; show 0 + 1 * (x 1).val = _; omega
  have e2 : (((Rect.unit (s := S5x1024x80) ![p, 0, 0] S1x1000x80.size inb).emb x) 2).val = (x 2).val := by
    rw [Rect.emb_apply]; show 0 + 1 * (x 2).val = _; omega
  have h1 : (x 1).val < 1000 := (x 1).isLt
  have h2 : (x 2).val < 80 := (x 2).isLt
  unfold denseV
  rw [e0, e1, e2, if_pos h1]
  congr 1
  funext a
  match a with
  | ⟨0, _⟩ => exact Subsingleton.elim (α := Fin 1) _ _
  | ⟨1, _⟩ => exact Fin.ext (Nat.mod_eq_of_lt h1).symm
  | ⟨2, _⟩ => exact Fin.ext (Nat.mod_eq_of_lt h2).symm

theorem denseV_pad (P : Vec F S1000x4 .f32) (G : Vec F S1000x81 .f32) (dx dy dw dh : Vec F S1000x80 .f32) (p : ℕ)
    (inb : ∀ a, ![p, 1000, 0] a + S1x24x80.size a ≤ S5x1024x80.size a) (x : S1x24x80.Idx) :
    densePad p x = denseV P G dx dy dw dh ((Rect.unit (s := S5x1024x80) ![p, 1000, 0] S1x24x80.size inb).emb x) := by
  have e0 : (((Rect.unit (s := S5x1024x80) ![p, 1000, 0] S1x24x80.size inb).emb x) 0).val = p := by
    rw [Rect.emb_apply]; have := (x 0).isLt; change (x 0).val < 1 at this; show p + 1 * (x 0).val = p; omega
  have e1 : (((Rect.unit (s := S5x1024x80) ![p, 1000, 0] S1x24x80.size inb).emb x) 1).val = 1000 + (x 1).val := by
    rw [Rect.emb_apply]; show 1000 + 1 * (x 1).val = _; omega
  have e2 : (((Rect.unit (s := S5x1024x80) ![p, 1000, 0] S1x24x80.size inb).emb x) 2).val = (x 2).val := by
    rw [Rect.emb_apply]; show 0 + 1 * (x 2).val = _; omega
  have h1 : (x 1).val < 24 := (x 1).isLt
  have h2 : (x 2).val < 80 := (x 2).isLt
  unfold denseV
  rw [e0, e1, e2, if_neg (by omega)]
  congr 1
  funext a
  match a with
  | ⟨0, _⟩ => exact Subsingleton.elim (α := Fin 1) _ _
  | ⟨1, _⟩ => exact Fin.ext (show (x 1).val = (1000 + (x 1).val - 1000) % 24 by omega)
  | ⟨2, _⟩ => exact Fin.ext (Nat.mod_eq_of_lt h2).symm

/-- The ten stores of the dense stage together write `denseV`. -/
theorem writes10 {sp : Space} (v : View sig .tc sp S5x1024x80 .f32) (f : v.ty.Contents (Elt F)) (P : Vec F S1000x4 .f32) (G : Vec F S1000x81 .f32) (dx dy dw dh : Vec F S1000x80 .f32) :
    v.read (Elt F) (v.writes (Elt F) f
      [⟨Rect.unit ![4, 1000, 0] S1x24x80.size inb_S5x1024x80_S1x24x80_4_1000_0, k0_pay1 k0_pay14⟩,
        ⟨Rect.unit ![4, 0, 0] S1x1000x80.size inb_S5x1024x80_S1x1000x80_4_0_0, k0_pay22 (k0_pay10 (k0_pay5 P) (k0_pay7 P) dy) (k0_pay12 (k0_pay5 P) dh) (k0_pay13 (F := F))⟩,
        ⟨Rect.unit ![3, 1000, 0] S1x24x80.size inb_S5x1024x80_S1x24x80_3_1000_0, k0_pay21 k0_pay14⟩,
        ⟨Rect.unit ![3, 0, 0] S1x1000x80.size inb_S5x1024x80_S1x1000x80_3_0_0, k0_pay20 (k0_pay9 (k0_pay4 P) (k0_pay6 P) (k0_pay8 dx)) (k0_pay11 (k0_pay4 P) dw) (k0_pay13 (F := F))⟩,
        ⟨Rect.unit ![2, 1000, 0] S1x24x80.size inb_S5x1024x80_S1x24x80_2_1000_0, k0_pay19 k0_pay14⟩,
        ⟨Rect.unit ![2, 0, 0] S1x1000x80.size inb_S5x1024x80_S1x1000x80_2_0_0, k0_pay18 (k0_pay10 (k0_pay5 P) (k0_pay7 P) dy) (k0_pay12 (k0_pay5 P) dh) (k0_pay13 (F := F))⟩,
        ⟨Rect.unit ![1, 1000, 0] S1x24x80.size inb_S5x1024x80_S1x24x80_1_1000_0, k0_pay17 k0_pay14⟩,
        ⟨Rect.unit ![1, 0, 0] S1x1000x80.size inb_S5x1024x80_S1x1000x80_1_0_0, k0_pay16 (k0_pay15 (k0_pay4 P) (k0_pay6 P) (k0_pay8 dx) dw)⟩,
        ⟨Rect.unit ![0, 1000, 0] S1x24x80.size inb_S5x1024x80_S1x24x80_0_1000_0, k0_pay3⟩,
        ⟨Rect.unit ![0, 0, 0] S1x1000x80.size inb_S5x1024x80_S1x1000x80_0_0_0, k0_pay2 G⟩]) = denseV P G dx dy dw dh := by
  funext y
  refine View.read_writes_apply_of_pieces v f (denseV P G dx dy dw dh) _ ?_ y ?_
  · intro p hp
    simp only [List.mem_cons, List.not_mem_nil, or_false] at hp
    rcases hp with rfl | rfl | rfl | rfl | rfl | rfl | rfl | rfl | rfl | rfl
    · exact denseV_pad P G dx dy dw dh 4 inb_S5x1024x80_S1x24x80_4_1000_0
    · exact denseV_row P G dx dy dw dh 4 inb_S5x1024x80_S1x1000x80_4_0_0
    · exact denseV_pad P G dx dy dw dh 3 inb_S5x1024x80_S1x24x80_3_1000_0
    · exact denseV_row P G dx dy dw dh 3 inb_S5x1024x80_S1x1000x80_3_0_0
    · exact denseV_pad P G dx dy dw dh 2 inb_S5x1024x80_S1x24x80_2_1000_0
    · exact denseV_row P G dx dy dw dh 2 inb_S5x1024x80_S1x1000x80_2_0_0
    · exact denseV_pad P G dx dy dw dh 1 inb_S5x1024x80_S1x24x80_1_1000_0
    · exact denseV_row P G dx dy dw dh 1 inb_S5x1024x80_S1x1000x80_1_0_0
    · exact denseV_pad P G dx dy dw dh 0 inb_S5x1024x80_S1x24x80_0_1000_0
    · exact denseV_row P G dx dy dw dh 0 inb_S5x1024x80_S1x1000x80_0_0_0
  · have h0 : (y 0).val < 5 := (y 0).isLt
    have h1 : (y 1).val < 1024 := (y 1).isLt
    have h2 : (y 2).val < 80 := (y 2).isLt
    simp only [List.exists_mem_cons_iff, List.not_mem_nil, false_and, exists_false, or_false, Rect.mem_set_unit]
    by_cases hr : (y 1).val < 1000
    · have hin : ∀ p : ℕ, (y 0).val = p → ∀ a, (![p, 0, 0] : Fin 3 → ℕ) a ≤ (y a).val ∧ (y a).val < (![p, 0, 0] : Fin 3 → ℕ) a + S1x1000x80.size a := by
        intro p hp a
        match a with
        | ⟨0, _⟩ => exact ⟨le_of_eq hp.symm, show (y 0).val < p + 1 by omega⟩
        | ⟨1, _⟩ => exact ⟨Nat.zero_le _, show (y 1).val < 0 + 1000 by omega⟩
        | ⟨2, _⟩ => exact ⟨Nat.zero_le _, show (y 2).val < 0 + 80 by omega⟩
      rcases (show (y 0).val = 0 ∨ (y 0).val = 1 ∨ (y 0).val = 2 ∨ (y 0).val = 3 ∨ (y 0).val = 4 by omega) with h | h | h | h | h
      · iterate 9 apply Or.inr
        exact hin 0 h
      · iterate 7 apply Or.inr
        exact Or.inl (hin 1 h)
      · iterate 5 apply Or.inr
        exact Or.inl (hin 2 h)
      · iterate 3 apply Or.inr
        exact Or.inl (hin 3 h)
      · exact Or.inr (Or.inl (hin 4 h))
    · have hin : ∀ p : ℕ, (y 0).val = p → ∀ a, (![p, 1000, 0] : Fin 3 → ℕ) a ≤ (y a).val ∧ (y a).val < (![p, 1000, 0] : Fin 3 → ℕ) a + S1x24x80.size a := by
        intro p hp a
        match a with
        | ⟨0, _⟩ => exact ⟨le_of_eq hp.symm, show (y 0).val < p + 1 by omega⟩
        | ⟨1, _⟩ => exact ⟨show 1000 ≤ (y 1).val by omega, show (y 1).val < 1000 + 24 by omega⟩
        | ⟨2, _⟩ => exact ⟨Nat.zero_le _, show (y 2).val < 0 + 80 by omega⟩
      rcases (show (y 0).val = 0 ∨ (y 0).val = 1 ∨ (y 0).val = 2 ∨ (y 0).val = 3 ∨ (y 0).val = 4 by omega) with h | h | h | h | h
      · iterate 8 apply Or.inr
        exact Or.inl (hin 0 h)
      · iterate 6 apply Or.inr
        exact Or.inl (hin 1 h)
      · iterate 4 apply Or.inr
        exact Or.inl (hin 2 h)
      · iterate 2 apply Or.inr
        exact Or.inl (hin 3 h)
      · exact Or.inl (hin 4 h)

/-- A load of a whole buffer reads its contents. -/
theorem load_full {S : Shape} {e : EltTy} {sp : Space} (v : View sig .tc sp S e) (off : Fin S.rank → ℕ) (h0 : ∀ a, off a = 0) (inb : ∀ a, off a + S.size a ≤ S.size a) (f : v.ty.Contents (Elt F)) :
    View.readAt (Elt F) v (Rect.unit (s := S) off S.size inb).toLoadRect f = v.read (Elt F) f := by
  funext x
  show v.read (Elt F) f _ = v.read (Elt F) f x
  congr 1
  funext a
  apply Fin.ext
  show off a + 1 * (x a).val = (x a).val
  rw [h0 a]; omega

/-- A store of a whole buffer leaves its payload. -/
theorem writes_full {S : Shape} {e : EltTy} {sp : Space} (v : View sig .tc sp S e) (off : Fin S.rank → ℕ) (h0 : ∀ a, off a = 0) (inb : ∀ a, off a + S.size a ≤ S.size a)
    (f : v.ty.Contents (Elt F)) (w : S.Idx → Elt F e) :
    v.read (Elt F) (v.writes (Elt F) f [⟨Rect.unit (s := S) off S.size inb, w⟩]) = w := by
  funext y
  refine View.read_writes_apply_of_pieces v f w _ ?_ y ⟨_, List.mem_singleton.mpr rfl, ?_⟩
  · intro p hp x
    obtain rfl := List.mem_singleton.mp hp
    show w x = w _
    congr 1
    funext a
    apply Fin.ext
    show (x a).val = off a + 1 * (x a).val
    rw [h0 a]; omega
  · rw [Rect.mem_set_unit]
    intro a
    rw [h0 a]
    exact ⟨Nat.zero_le _, by rw [Nat.zero_add]; exact (y a).isLt⟩

/-- The dense stage run. -/
theorem dense_body (c : Dev nD) (f0 : Vec F S1000x4 .f32) (f1 : Vec F S1000x81 .f32) (f2 f3 f4 f5 : Vec F S1000x80 .f32) (f6 : Vec F S5x1024x80 .f32) (Q : PUnit → sProp 𝕄) :
    iprop(pt c (stage0_0 0) f0 ∗ pt c (stage0_1 0) f1 ∗ pt c (stage0_2 0) f2 ∗ pt c (stage0_3 0) f3 ∗ pt c (stage0_4 0) f4 ∗ pt c (stage0_5 0) f5 ∗ pt c (stage0_6 0) f6
      ∗ (iprop(pt c (stage0_0 0) f0 ∗ pt c (stage0_1 0) f1 ∗ pt c (stage0_2 0) f2 ∗ pt c (stage0_3 0) f3 ∗ pt c (stage0_4 0) f4 ∗ pt c (stage0_5 0) f5
          ∗ pt c (stage0_6 0) (denseV f0 f1 f2 f3 f4 f5)) -∗ Q ⟨⟩))
    ⊢ wp frame (wpE (defs₀ (F := F)) 𝒱₀ (c : Thread nD τ) none) Set.univ
      (cc0__dense_body (stage0_0 0) (hstage0_0 0) (stage0_1 0) (hstage0_1 0) (stage0_2 0) (hstage0_2 0) (stage0_3 0) (hstage0_3 0) (stage0_4 0) (hstage0_4 0)
        (stage0_5 0) (hstage0_5 0) (stage0_6 0) (hstage0_6 0)) Q := by
  rw [cc0__dense_body_eq_skeleton]; unfold cc0__dense_body_skel
  iintro ⟨H0, H1, H2, H3, H4, H5, H6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  have z2 : ∀ a : Fin 2, (![0, 0] : Fin 2 → ℕ) a = 0 := by decide
  have l0 : View.readAt (Elt F) (stage0_0 0).view (Rect.unit (s := S1000x4) ![0, 0] S1000x4.size inb_S1000x4_S1000x4_0_0).toLoadRect f0 = f0 := load_full (F := F) (stage0_0 0).view _ z2 _ f0
  have l1 : View.readAt (Elt F) (stage0_1 0).view (Rect.unit (s := S1000x81) ![0, 0] S1000x81.size inb_S1000x81_S1000x81_0_0).toLoadRect f1 = f1 := load_full (F := F) (stage0_1 0).view _ z2 _ f1
  have l2 : View.readAt (Elt F) (stage0_2 0).view (Rect.unit (s := S1000x80) ![0, 0] S1000x80.size inb_S1000x80_S1000x80_0_0).toLoadRect f2 = f2 := load_full (F := F) (stage0_2 0).view _ z2 _ f2
  have l3 : View.readAt (Elt F) (stage0_3 0).view (Rect.unit (s := S1000x80) ![0, 0] S1000x80.size inb_S1000x80_S1000x80_0_0).toLoadRect f3 = f3 := load_full (F := F) (stage0_3 0).view _ z2 _ f3
  have l4 : View.readAt (Elt F) (stage0_4 0).view (Rect.unit (s := S1000x80) ![0, 0] S1000x80.size inb_S1000x80_S1000x80_0_0).toLoadRect f4 = f4 := load_full (F := F) (stage0_4 0).view _ z2 _ f4
  have l5 : View.readAt (Elt F) (stage0_5 0).view (Rect.unit (s := S1000x80) ![0, 0] S1000x80.size inb_S1000x80_S1000x80_0_0).toLoadRect f5 = f5 := load_full (F := F) (stage0_5 0).view _ z2 _ f5
  delta dense_body.sl.r_5 dense_body.sl.r_6 dense_body.sl.r_7 dense_body.sl.r_8 dense_body.sl.r_9
  delta dense_body.sl.r dense_body.sl.r_1 dense_body.sl.r_2 dense_body.sl.r_3 dense_body.sl.r_4
  rw [l0, l1, l2, l3, l4, l5]
  have e := writes10 (F := F) (stage0_6 0).view f6 f0 f1 f2 f3 f4 f5
  rw [show ((stage0_6 0).view.writes (Elt F) f6 _ : Vec F S5x1024x80 .f32) = _ from e]
  iexact H6

/-! ## The suppression stage -/

/-- The carried state of the suppression loop. -/
abbrev NSt (F : FTy → Type) := FVec F S32x128 .f32 × FVec F S1x128 .f32 × FVec F S1x128 .f32 × FVec F S1x128 .f32 × FVec F S1x128 .f32 × FVec F S1x128 .f32 × FVec F S1x128 .f32 × FVec F S1x128 .f32

/-- The lanes' numbers. -/
abbrev laneI : IVec S1x128 32 := iota .tc S1x128 32 [1] iota_S1x128_d1_w32

/-- One step of the suppression loop over the loop's constants. -/
def nmsStepC (v3 v5 v7 v9 v11 v14 : FVec F S32x128 .f32) (v40 v58 v76 v94 : FVec F S1x128 .f32) (k : BitVec 32) : NSt F → NSt F :=
  fun (a3, a4, a5, a6, a7, a8, a9, a10) =>
    let m := k2_pay5 a4
    let h := k2_pay6 a3 a4
    let x1 := k2_pay7 v3 a3 a4
    let y1 := k2_pay8 v5 a3 a4
    let x2 := k2_pay9 v7 h
    let y2 := k2_pay10 v9 h
    let g := k2_pay11 v11 h
    let off := k2_pay17 m g
    let b0 := k2_pay12 v40 m x1
    let b1 := k2_pay13 v58 m y1
    let b2 := k2_pay14 v76 m x2
    let b3 := k2_pay15 v94 m y2
    let ar := k2_pay18 v40 v58 v76 v94 m x1 y1 x2 y2
    let ix := k2_pay19 v3 v40 m x1
    let ln := k2_pay22 laneI k
    (k2_pay20 v5 v7 v9 v14 a3 b1 b2 b3 ar ix, k2_pay21 v5 v7 v9 v14 a3 b1 b2 b3 ar ix, k2_pay23 laneI a5 k b0 off, k2_pay24 laneI a6 k b1 off,
      k2_pay25 laneI a7 k b2 off, k2_pay1 a8 b3 off ln, k2_pay2 a4 a9 ln, k2_pay3 a10 (k2_pay16 m g) ln)

theorem body_eq (a0 : Memref sig .tc .vmem S6x32x128 .f32) (h0 : a0.IsWhole) (a1 : Memref sig .tc .vmem S6x128 .f32) (h1 : a1.IsWhole)
    (v3 v5 v7 v9 v11 v14 : FVec F S32x128 .f32) (v40 v58 v76 v94 : FVec F S1x128 .f32) (k : Fin k2_t1_loop.trips) (st : NSt F) :
    k2_t1_body a0 h0 a1 h1 v3 v5 v7 v9 v11 v14 laneI v40 v58 v76 v94 0#32 k st = pure (nmsStepC v3 v5 v7 v9 v11 v14 v40 v58 v76 v94 (Scf.iv 0#32 1#32 k) st) := by
  obtain ⟨a3, a4, a5, a6, a7, a8, a9, a10⟩ := st
  rfl

/-- The index (p, r, l) of the six planes of listed boxes. -/
def ix6 (p r l : ℕ) : S6x32x128.Idx := fun a => match a with
  | ⟨0, _⟩ => ⟨p % 6, Nat.mod_lt _ (by decide)⟩ | ⟨1, _⟩ => ⟨r % 32, Nat.mod_lt _ (by decide)⟩ | ⟨2, _⟩ => ⟨l % 128, Nat.mod_lt _ (by decide)⟩
/-- Plane `p` of the listed boxes, as a one-plane block. -/
def tabPl (t : Vec F S6x32x128 .f32) (p : ℕ) : Vec F S1x32x128 .f32 := fun x => t (ix6 p (x 1).val (x 2).val)

/-- One step of the suppression loop from the listed boxes. -/
def nmsStep (t : Vec F S6x32x128 .f32) (k : BitVec 32) : NSt F → NSt F :=
  nmsStepC (k2_pay27 (tabPl t 1)) (k2_pay28 (tabPl t 2)) (k2_pay29 (tabPl t 3)) (k2_pay30 (tabPl t 4)) (k2_pay31 (tabPl t 5))
    (k2_pay32 (tabPl t 1) (tabPl t 2) (tabPl t 3) (tabPl t 4)) (k2_pay36 (k2_pay34 (tabPl t 1)) (k2_pay35 (tabPl t 1)))
    (k2_pay37 (k2_pay28 (tabPl t 2)) k2_pay33) (k2_pay40 (k2_pay38 (k2_pay29 (tabPl t 3)) k2_pay33) (k2_pay39 (k2_pay29 (tabPl t 3)) k2_pay33))
    (k2_pay41 (k2_pay30 (tabPl t 4)) k2_pay33) k

/-- The state the suppression loop starts from. -/
def nmsInit (t : Vec F S6x32x128 .f32) : NSt F :=
  (k2_pay26 (tabPl t 0), k2_pay43 (k2_pay26 (tabPl t 0)), k2_pay42 (F := F), k2_pay42 (F := F), k2_pay42 (F := F), k2_pay42 (F := F), k2_pay42 (F := F), k2_pay42 (F := F))

/-- The state after `n` steps. -/
def nmsAt (t : Vec F S6x32x128 .f32) : ℕ → NSt F
  | 0 => nmsInit t
  | n + 1 => nmsStep t (BitVec.ofNat 32 n) (nmsAt t n)

/-- The six rows a state holds. -/
def rowsOf (st : NSt F) : Vec F S6x128 .f32 := k2_pay4 st.2.2.1 st.2.2.2.1 st.2.2.2.2.1 st.2.2.2.2.2.1 st.2.2.2.2.2.2.1 st.2.2.2.2.2.2.2

/-- What the suppression stage leaves in its output. -/
def nmsV (t : Vec F S6x32x128 .f32) : Vec F S6x128 .f32 := rowsOf (nmsAt t 100)

theorem iv_eq : ∀ k : Fin k2_t1_loop.trips, (Scf.iv 0#32 1#32 k : BitVec 32) = BitVec.ofNat 32 k.val := by decide +kernel

theorem tab_load (t : Vec F S6x32x128 .f32) (p : ℕ) (hp : p < 6) (inb : ∀ a, ![p, 0, 0] a + S1x32x128.size a ≤ S6x32x128.size a) :
    View.readAt (Elt F) (stage2_0 0).view (Rect.unit (s := S6x32x128) ![p, 0, 0] S1x32x128.size inb).toLoadRect t = tabPl t p := by
  funext x
  show t ((Rect.unit (s := S6x32x128) ![p, 0, 0] S1x32x128.size inb).emb x) = _
  unfold tabPl
  congr 1
  have h0 : (x 0).val < 1 := (x 0).isLt
  have h1 : (x 1).val < 32 := (x 1).isLt
  have h2 : (x 2).val < 128 := (x 2).isLt
  funext a
  match a with
  | ⟨0, _⟩ => exact Fin.ext (show p + 1 * (x 0).val = p % 6 by omega)
  | ⟨1, _⟩ => exact Fin.ext (show 0 + 1 * (x 1).val = (x 1).val % 32 by omega)
  | ⟨2, _⟩ => exact Fin.ext (show 0 + 1 * (x 2).val = (x 2).val % 128 by omega)

/-- Between two steps of the suppression loop. -/
def nmsInv (t : Vec F S6x32x128 .f32) (k : ℕ) (acc : NSt F) : sProp 𝕄 := iprop(⌜acc = nmsAt t k⌝)

/-- The suppression stage run. -/
theorem nms_body (c : Dev nD) (t : Vec F S6x32x128 .f32) (f1 : Vec F S6x128 .f32) (Q : PUnit → sProp 𝕄) :
    iprop(pt c (stage2_0 0) t ∗ pt c (stage2_1 0) f1
      ∗ (iprop(pt c (stage2_0 0) t ∗ pt c (stage2_1 0) (nmsV t)) -∗ Q ⟨⟩))
    ⊢ wp frame (wpE (defs₀ (F := F)) 𝒱₀ (c : Thread nD τ) none) Set.univ
      (cc2__nms_body (stage2_0 0) (hstage2_0 0) (stage2_1 0) (hstage2_1 0)) Q := by
  rw [cc2__nms_body_eq_skeleton]; unfold cc2__nms_body_skel
  iintro ⟨H0, H1, Hk⟩
  sl_exec
  sl_for (nmsInv t) $$ []
  case region =>
    intro k acc
    unfold nmsInv
    iintro %hacc
    subst hacc
    have e := body_eq (F := F) (stage2_0 0) (hstage2_0 0) (stage2_1 0) (hstage2_1 0) (nms_body.sl.r_1 t) (nms_body.sl.r_2 t) (nms_body.sl.r_3 t)
              (nms_body.sl.r_4 t) (nms_body.sl.r_5 t) (nms_body.sl.r_6 t) (nms_body.sl.r_9 t)
              (nms_body.sl.r_10 t) (nms_body.sl.r_13 t) (nms_body.sl.r_14 t) k (nmsAt t k.val)
    rw [iv_eq k] at e
    delta nms_body.sl.prog.body_1
    delta nms_body.sl.v20
    rw [e]
    rw [show (Pure.pure : NSt F → Prog (TpuEff nD τ sig (Elt F) Λ₀ .tc) (NSt F)) = Prog.ret from rfl]
    rw [wp_ret]
    imodintro
    ipureintro
    delta nms_body.sl.r_1 nms_body.sl.r_2 nms_body.sl.r_3 nms_body.sl.r_4 nms_body.sl.r_5 nms_body.sl.r_6 nms_body.sl.r_9 nms_body.sl.r_10 nms_body.sl.r_13 nms_body.sl.r_14 nms_body.sl.r_7 nms_body.sl.r_8 nms_body.sl.r_11 nms_body.sl.r_12
    rw [tab_load t 1 (by decide), tab_load t 2 (by decide), tab_load t 3 (by decide), tab_load t 4 (by decide), tab_load t 5 (by decide)]
    rfl
  · unfold nmsInv
    ipureintro
    delta nms_body.sl.r_15 nms_body.sl.r
    rw [tab_load t 0 (by decide)]
    rfl
  iintro %acc HI
  unfold nmsInv
  icases HI with %hacc
  subst hacc
  sl_exec
  sl_step
  iapply Hk
  isplitl [H0]; · iexact H0
  have e : ∀ w : Vec F S6x128 .f32, ((stage2_1 0).view.writes (Elt F) f1 [⟨Rect.unit (s := S6x128) ![0, 0] S6x128.size inb_S6x128_S6x128_0_0, w⟩] : Vec F S6x128 .f32) = w := fun w =>
    writes_full (F := F) (stage2_1 0).view _ (by decide) inb_S6x128_S6x128_0_0 f1 w
  rw [e]
  iexact H1

end Cert.Proof.KI

end
-- ==== Proof.TC.lean ====
/-
  The two TensorCore stages as regions of the program: each entered with every unscoped buffer of the core at
  a valuation and left with them at the same valuation updated at the stage's result.
-/
module

public import proofs.«01_k».proof.Proof.Bodies
public import proofs.«01_k».proof.Proof.Gen.KernelIdeal.Launch
public import proofs.«01_k».proof.Proof.Gen.KernelIdeal.Points
public import Idealize.ShloMosaic.Lib.Pipeline.RegionsLoop

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A valuation of the core's buffers. -/
abbrev VT (F : FTy → Type) := (c : Dev nD) → (b : Ref sig .tc) → Buf (Elt F) ((c : Thread nD τ).loc b)

variable (V : VT F) (n : ℕ)

/-- What the core's waits may have recorded before call `n`. -/
def recB (c : Dev nD) : Set (SemLoc sig × HIx 1) := {p | (K (F := F)).lev ((c : Thread nD τ), p.1) p.2 ≤ 8 * n}

/-! ## The dense stage -/

/-- The dense stage's result at a valuation. -/
def dense0 (c : Dev nD) : Vec F S5x1024x80 .f32 := denseV (V c main_arg0) (V c main_arg1) (V c main_v2) (V c main_v4) (V c main_v6) (V c main_v8)

/-- The proof data of the dense stage entered at `V`. -/
def dat0 (c : Dev nD) : Dat τ (Elt F) (HIx 1) ℕ UU ℕ cfg0 c where
  A w := V c (Pipeline.arrRef spec0 w)
  after w _ := match w with
    | ⟨0, _⟩ => V c main_arg0
    | ⟨1, _⟩ => V c main_arg1
    | ⟨2, _⟩ => V c main_v2
    | ⟨3, _⟩ => V c main_v4
    | ⟨4, _⟩ => V c main_v6
    | ⟨5, _⟩ => V c main_v8
    | ⟨6, _⟩ => dense0 V c
  Φ _ := Pipeline.scopedRest spec0 c
  q _ := fullShare
  owed _ := (K (F := F)).Otc c n
  recorded _ := recB (F := F) n c

/-! ## The suppression stage -/

/-- The proof data of the suppression stage entered at `V`. -/
def dat2 (c : Dev nD) : Dat τ (Elt F) (HIx 1) ℕ UU ℕ cfg2 c where
  A w := V c (Pipeline.arrRef spec2 w)
  after w _ := match w with
    | ⟨0, _⟩ => V c main_v11
    | ⟨1, _⟩ => nmsV (V c main_v11)
  Φ _ := Pipeline.scopedRest spec2 c
  q _ := fullShare
  owed _ := (K (F := F)).Otc c n
  recorded _ := recB (F := F) n c

/-- The pipelines take no tables. -/
abbrev adm : (p : Fin 2) → (pcfgs (F := F) p).Adm := fun p => (cfgs p).toPCfg_adm

/-- The proof data of both stages entered at `V`. -/
def pdats : (p : Fin 2) → (c : Dev nD) → Dat τ (Elt F) (HIx 1) ℕ UU ℕ (Pipeline.pin (pcfgs (F := F)) adm p) c
  | ⟨0, _⟩ => fun c => dat0 V n c
  | ⟨1, _⟩ => fun c => dat2 V n c

theorem before0_0 (c : Dev nD) (d : (cfg0.win 0).block.Idx → Elt F (cfg0.win 0).elt) : (dat0 V n c).before 0 t0_0 d = V c main_arg0 := by
  unfold Dat.before
  rw [if_pos (by decide)]
  exact Memref.read_access_unit_zero (Elt F) main_arg0 (show (fun a => (win0_0.index t0_0) a * main_arg0.ty.shape.size a) = fun _ => 0 from
      funext fun a => by fin_cases a <;> decide) (fun a => by fin_cases a <;> decide) _

theorem before0_1 (c : Dev nD) (d : (cfg0.win 1).block.Idx → Elt F (cfg0.win 1).elt) : (dat0 V n c).before 1 t0_0 d = V c main_arg1 := by
  unfold Dat.before
  rw [if_pos (by decide)]
  exact Memref.read_access_unit_zero (Elt F) main_arg1 (show (fun a => (win0_1.index t0_0) a * main_arg1.ty.shape.size a) = fun _ => 0 from
      funext fun a => by fin_cases a <;> decide) (fun a => by fin_cases a <;> decide) _

theorem before0_2 (c : Dev nD) (d : (cfg0.win 2).block.Idx → Elt F (cfg0.win 2).elt) : (dat0 V n c).before 2 t0_0 d = V c main_v2 := by
  unfold Dat.before
  rw [if_pos (by decide)]
  exact Memref.read_access_unit_zero (Elt F) main_v2 (show (fun a => (win0_2.index t0_0) a * main_v2.ty.shape.size a) = fun _ => 0 from
      funext fun a => by fin_cases a <;> decide) (fun a => by fin_cases a <;> decide) _

theorem before0_3 (c : Dev nD) (d : (cfg0.win 3).block.Idx → Elt F (cfg0.win 3).elt) : (dat0 V n c).before 3 t0_0 d = V c main_v4 := by
  unfold Dat.before
  rw [if_pos (by decide)]
  exact Memref.read_access_unit_zero (Elt F) main_v4 (show (fun a => (win0_3.index t0_0) a * main_v4.ty.shape.size a) = fun _ => 0 from
      funext fun a => by fin_cases a <;> decide) (fun a => by fin_cases a <;> decide) _

theorem before0_4 (c : Dev nD) (d : (cfg0.win 4).block.Idx → Elt F (cfg0.win 4).elt) : (dat0 V n c).before 4 t0_0 d = V c main_v6 := by
  unfold Dat.before
  rw [if_pos (by decide)]
  exact Memref.read_access_unit_zero (Elt F) main_v6 (show (fun a => (win0_4.index t0_0) a * main_v6.ty.shape.size a) = fun _ => 0 from
      funext fun a => by fin_cases a <;> decide) (fun a => by fin_cases a <;> decide) _

theorem before0_5 (c : Dev nD) (d : (cfg0.win 5).block.Idx → Elt F (cfg0.win 5).elt) : (dat0 V n c).before 5 t0_0 d = V c main_v8 := by
  unfold Dat.before
  rw [if_pos (by decide)]
  exact Memref.read_access_unit_zero (Elt F) main_v8 (show (fun a => (win0_5.index t0_0) a * main_v8.ty.shape.size a) = fun _ => 0 from
      funext fun a => by fin_cases a <;> decide) (fun a => by fin_cases a <;> decide) _

theorem before2_0 (c : Dev nD) (d : (cfg2.win 0).block.Idx → Elt F (cfg2.win 0).elt) : (dat2 V n c).before 0 t2_0 d = V c main_v11 := by
  unfold Dat.before
  rw [if_pos (by decide)]
  exact Memref.read_access_unit_zero (Elt F) main_v11 (show (fun a => (win2_0.index t2_0) a * main_v11.ty.shape.size a) = fun _ => 0 from
      funext fun a => by fin_cases a <;> decide) (fun a => by fin_cases a <;> decide) _

theorem obl0 (c : Dev nD) : BodyObligation (dat0 V n c) (defs₀ (F := F)) 𝒱₀ none Set.univ := fun t => by
  obtain rfl := fin_N0 t
  rw [bigSep_W0, bigSep_W0]
  simp only [owns_whole_eq]
  rw [show (dat0 V n c).Φ t0_0.castSucc = Pipeline.scopedRest spec0 c from rfl, show (dat0 V n c).Φ t0_0.succ = Pipeline.scopedRest spec0 c from rfl,
    show (dat0 V n c).owesAt none t0_0.succ = (dat0 V n c).owesAt none t0_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩⟩
  rw [before0_0] at h0
  rw [before0_1] at h1
  rw [before0_2] at h2
  rw [before0_3] at h3
  rw [before0_4] at h4
  rw [before0_5] at h5
  subst h0 h1 h2 h3 h4 h5
  iapply (dense_body c (V c main_arg0) (V c main_arg1) (V c main_v2) (V c main_v4) (V c main_v6) (V c main_v8) f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  iexists _; isplitr; swap; (· iexact H6); ipureintro; dsimp only [dat0]; rfl

theorem obl2 (c : Dev nD) : BodyObligation (dat2 V n c) (defs₀ (F := F)) 𝒱₀ none Set.univ := fun t => by
  obtain rfl := fin_N2 t
  rw [bigSep_W2, bigSep_W2]
  simp only [owns_whole_eq]
  rw [show (dat2 V n c).Φ t2_0.castSucc = Pipeline.scopedRest spec2 c from rfl, show (dat2 V n c).Φ t2_0.succ = Pipeline.scopedRest spec2 c from rfl,
    show (dat2 V n c).owesAt none t2_0.succ = (dat2 V n c).owesAt none t2_0.castSucc from rfl]
  iintro ⟨HΦ, Howes, ⟨%d0, %f0, %h0, H0⟩, ⟨%d1, %f1, -, H1⟩⟩
  rw [before2_0] at h0
  subst h0
  iapply (nms_body c (V c main_v11) f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat2]
  iexists _; isplitr; swap; (· iexact H1); ipureintro; dsimp only [dat2]

theorem out0 (c : Dev nD) : (dat0 V n c).arrAt 6 cfg0.N = dense0 V c := by
  have hw : ((cfg0.win 6).blk t0_0).view.read (Elt F) ((dat0 V n c).arrAt 6 cfg0.N) = (dat0 V n c).flushed 6 t0_0 := by
    rw [show cfg0.N = t0_0.val + 1 from rfl, (dat0 V n c).arrAt_succ (6 : Fin 7) t0_0, flush0_6, if_pos rfl]
    exact View.read_write_univ _ _
  exact (Memref.read_access_unit_zero (Elt F) main_v9 (show (fun a => (win0_6.index t0_0) a * main_v9.ty.shape.size a) = fun _ => 0 from
      funext fun a => by fin_cases a <;> decide) (fun a => by fin_cases a <;> decide) _).symm.trans (hw.trans (funext fun _ => rfl))

theorem out2 (c : Dev nD) : (dat2 V n c).arrAt 1 cfg2.N = nmsV (V c main_v11) := by
  have hw : ((cfg2.win 1).blk t2_0).view.read (Elt F) ((dat2 V n c).arrAt 1 cfg2.N) = (dat2 V n c).flushed 1 t2_0 := by
    rw [show cfg2.N = t2_0.val + 1 from rfl, (dat2 V n c).arrAt_succ (1 : Fin 2) t2_0, flush2_1, if_pos rfl]
    exact View.read_write_univ _ _
  exact (Memref.read_access_unit_zero (Elt F) main_v12 (show (fun a => (win2_1.index t2_0) a * main_v12.ty.shape.size a) = fun _ => 0 from
      funext fun a => by fin_cases a <;> decide) (fun a => by fin_cases a <;> decide) _).symm.trans (hw.trans (funext fun _ => rfl))

theorem Otc_none (c : Dev nD) (m : ℕ) (g : GSem nD τ sig) : (K (F := F)).Otc (N := 1) c m g none = 0 :=
  Nat.eq_zero_of_not_pos fun h => absurd (SparseCore.Cfg.lev_of_Otc_pos h) (by show ¬ _ ≤ 0; omega)

theorem waits_pair (m : ℕ) (c : Dev nD) {p : Fin 2} {q : SemLoc sig × HIx 1} (h : q ∈ recB (F := F) m c ∪ (Pipeline.pin (pcfgs (F := F)) adm p).waitPairs none) : q ∈ recB (F := F) m c := by
  rcases h with h | ⟨w, s, rfl⟩
  · exact h
  · exact Nat.zero_le _

-- the launch facts below are stated over `pin pcs a p`; unification at the pinned configuration must unfold plain definitions
set_option backward.isDefEq.respectTransparency.types false in
/-- The dense stage as a region, entered at `V` and left at `Vp`, which is `V` updated at the stage's result. -/
def reg0 (Vp : VT F) (R : Dev nD → sProp 𝕄) (hout : ∀ c, Vp c main_v9 = dense0 V c) (hne : ∀ c (b : Ref sig .tc), b ≠ main_v9 → Vp c b = V c b) :
    Pipeline.RegionSeg (pcfgs (F := F)) adm (pdats V n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obl0 V n c).loose
  hwaits c := Pipeline.cellsWaits_intro _ _ _ _ _ fun w s t => (K (F := F)).mayWait_none _ (Otc_none c n)
  pre c := iprop(unscopedBufs c (V c) ∗ R c ∗ ∃ W, ⌜(K (F := F)).WBelow (c : Thread nD τ) W (8 * n)⌝ ∗ owes (c : Thread nD τ) ((K (F := F)).Otc c n) W)
  post c := iprop(unscopedBufs c (Vp c) ∗ R c ∗ ∃ W, ⌜(K (F := F)).WBelow (c : Thread nD τ) W (8 * n)⌝ ∗ owes (c : Thread nD τ) ((K (F := F)).Otc c n) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V n) launch0.win launch0.arr_whole c
      ((pdats V n 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V n 0 c).Φ 0 = Pipeline.scopedRest spec0 c from rfl]
    iintro ⟨-, -, Hr⟩; iexact Hr
  hout c := by
    rw [Pipeline.ownSems0_none, show (pdats V n 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V n) ((pdats V n 0 c).share_full fun _ => rfl) (V c) (Vp c) ((pdats V n 0 c).arrAt · cfg0.N)
      (fun w => by
        fin_cases w
        · exact ((pdats V n 0 c).arrAt_in 0 rfl _).trans (hne c main_arg0 (by decide)).symm
        · exact ((pdats V n 0 c).arrAt_in 1 rfl _).trans (hne c main_arg1 (by decide)).symm
        · exact ((pdats V n 0 c).arrAt_in 2 rfl _).trans (hne c main_v2 (by decide)).symm
        · exact ((pdats V n 0 c).arrAt_in 3 rfl _).trans (hne c main_v4 (by decide)).symm
        · exact ((pdats V n 0 c).arrAt_in 4 rfl _).trans (hne c main_v6 (by decide)).symm
        · exact ((pdats V n 0 c).arrAt_in 5 rfl _).trans (hne c main_v8 (by decide)).symm
        · exact (out0 V n c).trans (hout c).symm)
      (fun b hb => hne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; · ipureintro; exact fun q hq => waits_pair (p := 0) n c (hW hq)
    iexact HO

set_option backward.isDefEq.respectTransparency.types false in
/-- The suppression stage as a region, entered at `V` and left at `Vp`, which is `V` updated at the stage's result. -/
def reg2 (Vp : VT F) (R : Dev nD → sProp 𝕄) (hout : ∀ c, Vp c main_v12 = nmsV (V c main_v11)) (hne : ∀ c (b : Ref sig .tc), b ≠ main_v12 → Vp c b = V c b) :
    Pipeline.RegionSeg (pcfgs (F := F)) adm (pdats V n) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl2 V n c).loose
  hwaits c := Pipeline.cellsWaits_intro _ _ _ _ _ fun w s t => (K (F := F)).mayWait_none _ (Otc_none c n)
  pre c := iprop(unscopedBufs c (V c) ∗ R c ∗ ∃ W, ⌜(K (F := F)).WBelow (c : Thread nD τ) W (8 * n)⌝ ∗ owes (c : Thread nD τ) ((K (F := F)).Otc c n) W)
  post c := iprop(unscopedBufs c (Vp c) ∗ R c ∗ ∃ W, ⌜(K (F := F)).WBelow (c : Thread nD τ) W (8 * n)⌝ ∗ owes (c : Thread nD τ) ((K (F := F)).Otc c n) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V n) launch2.win launch2.arr_whole c
      ((pdats V n 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V n 1 c).Φ 0 = Pipeline.scopedRest spec2 c from rfl]
    iintro ⟨-, -, Hr⟩; iexact Hr
  hout c := by
    rw [Pipeline.ownSems0_none, show (pdats V n 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V n) ((pdats V n 1 c).share_full fun _ => rfl) (V c) (Vp c) ((pdats V n 1 c).arrAt · cfg2.N)
      (fun w => by
        fin_cases w
        · exact ((pdats V n 1 c).arrAt_in 0 rfl _).trans (hne c main_v11 (by decide)).symm
        · exact (out2 V n c).trans (hout c).symm)
      (fun b hb => hne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; · ipureintro; exact fun q hq => waits_pair (p := 1) n c (hW hq)
    iexact HO

end Cert.Proof.KI

end
-- ==== Proof.Tile.lean ====
/-
  The body of a tile: five chunks copied in, the compaction loop, the six rows gathered and copied out.
-/
module

public import proofs.«01_k».proof.Proof.Rows
public import Idealize.ShloMosaic.Lib.ViewIndex

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- The number of the tile. -/
abbrev wid (L : grid1.Coords) : ℕ := (L 1).val * 2 + (L 0).val
/-- The number of the tile, as the program computes it. -/
abbrev widV (L : grid1.Coords) : BitVec 32 := Scalar.addi (Scalar.muli (BitVec.ofNat 32 (L 1).val) 2#32) (BitVec.ofNat 32 (L 0).val)
/-- Where the tile's chunk starts in a plane. -/
abbrev startV (L : grid1.Coords) : BitVec 32 := Scalar.muli (widV L) 2560#32

theorem widV_eq : ∀ L, widV L = BitVec.ofNat 32 (wid L) := by decide +kernel
theorem startV_eq : ∀ L, startV L = BitVec.ofNat 32 (2560 * wid L) := by decide +kernel
theorem off1_eq : ∀ L (p : Fin 5), k1_off1 L (BitVec.ofNat 32 (81920 * p.val)) 0 = 81920 * p.val + 2560 * wid L := by decide +kernel
theorem off6_eq : ∀ L, k1_off6 L = ![0, wid L, 0] := by decide +kernel
theorem off7_eq : ∀ L, k1_off7 L = ![1, wid L, 0] := by decide +kernel
theorem off8_eq : ∀ L, k1_off8 L = ![2, wid L, 0] := by decide +kernel
theorem off9_eq : ∀ L, k1_off9 L = ![3, wid L, 0] := by decide +kernel
theorem off10_eq : ∀ L, k1_off10 L = ![4, wid L, 0] := by decide +kernel
theorem off11_eq : ∀ L, k1_off11 L = ![5, wid L, 0] := by decide +kernel

/-- The chunk that a copy brings in. -/
def chunkOf (P : Vec F S409600 .f32) (L : grid1.Coords) (w : BitVec 32) (inb : ∀ a, k1_off1 L w a + S2560.size a ≤ S409600.size a) : Vec F S2560 .f32 :=
  ((pV).slice (Rect.unit (s := S409600) (k1_off1 L w) S2560.size inb) (fun _ => rfl)).view.read (Elt F) P

theorem chunkOf_eq (P : Vec F S409600 .f32) (p : Fin 5) :
    chunkOf P L (BitVec.ofNat 32 (81920 * p.val)) (k1_off1_inb L p) = chunkP P (wid L) p.val := by
  funext x
  show P _ = P _
  congr 1
  funext a
  obtain rfl : a = (0 : Fin 1) := Subsingleton.elim (α := Fin 1) _ _
  apply Fin.ext
  have hp := p.isLt
  have hx : (x 0).val < 2560 := (x 0).isLt
  have h0 : (L 0).val < 2 := (L 0).isLt
  have h1 : (L 1).val < 16 := (L 1).isLt
  show k1_off1 L (BitVec.ofNat 32 (81920 * p.val)) 0 + 1 * (x 0).val = (81920 * p.val + 2560 * wid L + (x 0).val) % 409600
  rw [off1_eq]; unfold wid
  rw [Nat.mod_eq_of_lt (by omega)]; omega

/-- The state the compaction starts from. -/
abbrev st0 (F : FTy → Type) (L : grid1.Coords) : CSt F := (fun _ => 0#32, k1_pay29 (widV L))

abbrev oRow (off : Fin 3 → Nat) (h : ∀ a, off a + S1x1x128.size a ≤ S6x32x128.size a) : Memref sig .scVector .hbm S128 .f32 :=
  ((oV : Memref sig .scVector .hbm S6x32x128 .f32).slice (Rect.unit (s := S6x32x128) off S1x1x128.size h) (fun _ => rfl)).squeeze S128 squeezes_S1x1x128_S128

/-- Eight stores of sixteen elements leave the function that each of them stores a part of. -/
theorem writes8 {e : EltTy} (v : View sig .scVector .vmem S128 e) (f : v.ty.Contents (Elt F)) (G : S128.Idx → Elt F e) (w0 w1 w2 w3 w4 w5 w6 w7 : S16.Idx → Elt F e)
    (h0 : ∀ x, w0 x = G (ixS (16 * (0 : Fin 8).val + (x 0).val)))
    (h1 : ∀ x, w1 x = G (ixS (16 * (1 : Fin 8).val + (x 0).val)))
    (h2 : ∀ x, w2 x = G (ixS (16 * (2 : Fin 8).val + (x 0).val)))
    (h3 : ∀ x, w3 x = G (ixS (16 * (3 : Fin 8).val + (x 0).val)))
    (h4 : ∀ x, w4 x = G (ixS (16 * (4 : Fin 8).val + (x 0).val)))
    (h5 : ∀ x, w5 x = G (ixS (16 * (5 : Fin 8).val + (x 0).val)))
    (h6 : ∀ x, w6 x = G (ixS (16 * (6 : Fin 8).val + (x 0).val)))
    (h7 : ∀ x, w7 x = G (ixS (16 * (7 : Fin 8).val + (x 0).val))) :
    v.read (Elt F) (v.writes (Elt F) f
      [⟨Rect.unit ![112] S16.size inb_S128_S16_112, w7⟩, ⟨Rect.unit ![96] S16.size inb_S128_S16_96, w6⟩, ⟨Rect.unit ![80] S16.size inb_S128_S16_80, w5⟩, ⟨Rect.unit ![64] S16.size inb_S128_S16_64, w4⟩, ⟨Rect.unit ![48] S16.size inb_S128_S16_48, w3⟩, ⟨Rect.unit ![32] S16.size inb_S128_S16_32, w2⟩, ⟨Rect.unit ![16] S16.size inb_S128_S16_16, w1⟩, ⟨Rect.unit ![0] S16.size inb_S128_S16_0, w0⟩]) = G := by
  have key : ∀ (j : Fin 8) (w : S16.Idx → Elt F e) (_ : ∀ x, w x = G (ixS (16 * j.val + (x 0).val)))
      (inb : ∀ a, (![16 * j.val] : Fin 1 → ℕ) a + S16.size a ≤ S128.size a) (x : S16.Idx),
      w x = G ((Rect.unit (s := S128) ![16 * j.val] S16.size inb).emb x) := by
    intro j w h inb x
    rw [h]; congr 1
    funext a
    obtain rfl : a = (0 : Fin 1) := Subsingleton.elim (α := Fin 1) _ _
    apply Fin.ext
    have hx : (x 0).val < 16 := (x 0).isLt
    have hj := j.isLt
    show (16 * j.val + (x 0).val) % 128 = 16 * j.val + 1 * (x 0).val
    rw [Nat.mod_eq_of_lt (by omega)]; omega
  funext y
  refine View.read_writes_apply_of_pieces v f G _ ?_ y ?_
  · intro p hp
    simp only [List.mem_cons, List.not_mem_nil, or_false] at hp
    rcases hp with rfl | rfl | rfl | rfl | rfl | rfl | rfl | rfl
    · exact key 7 w7 h7 inb_S128_S16_112
    · exact key 6 w6 h6 inb_S128_S16_96
    · exact key 5 w5 h5 inb_S128_S16_80
    · exact key 4 w4 h4 inb_S128_S16_64
    · exact key 3 w3 h3 inb_S128_S16_48
    · exact key 2 w2 h2 inb_S128_S16_32
    · exact key 1 w1 h1 inb_S128_S16_16
    · exact key 0 w0 h0 inb_S128_S16_0
  · exact View.cover_of_tiled (s := S128) _ S16.size (by rfl) y

theorem load_grp (f : Vec F S128 .i32) (j : Fin 8) (off : Fin 1 → ℕ) (inb : ∀ a, off a + S16.size a ≤ S128.size a) (hn : off 0 = 16 * j.val) :
    (b5).view.readAt (Elt F) (Rect.unit (s := S128) off S16.size inb).toLoadRect f = grpV f j := by
  funext x
  rw [View.readAt_apply]
  show f _ = f _
  congr 1
  funext a
  obtain rfl : a = (0 : Fin 1) := Subsingleton.elim (α := Fin 1) _ _
  apply Fin.ext
  have hj := j.isLt
  have h2 : (x 0).val < 16 := (x 0).isLt
  show off 0 + 1 * (x 0).val = (16 * j.val + (x 0).val) % 128
  rw [Nat.mod_eq_of_lt (by omega)]; omega

/-- The indices loaded are in their chunk. -/
abbrev InB (v : IVec S16 32) : Prop := ∀ a x, ((![v] : Fin 1 → IVec S16 32) a x).toNat < S2560.size a

theorem load_inb (f : Vec F S128 .i32) (hf : ∀ y, (f y : BitVec 32).toNat < 2560) (off : Fin 1 → ℕ) (inb : ∀ a, off a + S16.size a ≤ S128.size a) :
    InB ((b5).view.readAt (Elt F) (Rect.unit (s := S128) off S16.size inb).toLoadRect f) := by
  intro a x
  obtain rfl : a = (0 : Fin 1) := Subsingleton.elim (α := Fin 1) _ _
  exact hf _

theorem chk5 {v : IVec S16 32} (h : InB v) : k1_chk5 v := ⟨h, h, h, h, h⟩
theorem chk6 {v : IVec S16 32} (h : InB v) : k1_chk6 v := ⟨h, h, h, h, h⟩
theorem chk7 {v : IVec S16 32} (h : InB v) : k1_chk7 v := ⟨h, h, h, h, h⟩
theorem chk8 {v : IVec S16 32} (h : InB v) : k1_chk8 v := ⟨h, h, h, h, h⟩
theorem chk9 {v : IVec S16 32} (h : InB v) : k1_chk9 v := ⟨h, h, h, h, h⟩
theorem chk10 {v : IVec S16 32} (h : InB v) : k1_chk10 v := ⟨h, h, h, h, h⟩
theorem chk11 {v : IVec S16 32} (h : InB v) : k1_chk11 v := ⟨h, h, h, h, h⟩
theorem chk12 {v : IVec S16 32} (h : InB v) : k1_chk12 v := ⟨h, h, h, h, h⟩

/-- A row written out is that row of the array the tiles make. -/
theorem row_out (P : Vec F S409600 .f32) (off : Fin 3 → ℕ) (h : ∀ a, off a + S1x1x128.size a ≤ S6x32x128.size a) (p : ℕ)
    (hoff : off = ![p, wid L, 0]) (g : Buf (Elt F) ((oRow off h).view.loc (thr d L))) (w : S128.Idx → Elt F .f32) (hw : w = tileRow P (wid L) p) :
    ((oRow off h).view.loc (thr d L) ↦[(oRow off h).view.set]{fullShare} (oRow off h).view.writes (Elt F) g [⟨Rect.whole S128, w⟩] : sProp 𝕄)
      = ((oRow off h).view.loc (thr d L) ↦[(oRow off h).view.set]{fullShare} outF P) := by
  subst hoff
  refine pointsTo_congr fun i hi => ?_
  obtain ⟨y, -, rfl⟩ := Finset.mem_map.mp hi
  refine View.eq_of_read_eq ?_
  rw [View.read_writes_cons_hit _ _ _ _ _ y y (by funext a; exact Fin.ext (by show 0 + 1 * (y a).val = _; omega)), hw]
  show tileRow P (wid L) p y = outF P ((oRow ![p, wid L, 0] h).view.emb y)
  have e : Shape.reshapeEquiv squeezes_S1x1x128_S128.numel_eq y = (fun a => match a with | 0 => (⟨0, Nat.one_pos⟩ : Fin 1) | 1 => (⟨0, Nat.one_pos⟩ : Fin 1) | 2 => y 0 : S1x1x128.Idx) :=
    Shape.reshapeEquiv_eq_of_rowMajor _ (by
      rw [Shape.rowMajor_val_three, Shape.rowMajor_val_one]
      show (0 * 1 + 0) * 128 + (y 0).val = (y 0).val
      omega)
  have e2 : (oRow ![p, wid L, 0] h).view.emb y = (Rect.unit (s := S6x32x128) ![p, wid L, 0] S1x1x128.size h).emb (Shape.reshapeEquiv squeezes_S1x1x128_S128.numel_eq y) := rfl
  rw [e2, e]
  show tileRow P (wid L) p y = tileRow P (wid L + 1 * 0) (p + 1 * 0) (ixS (0 + 1 * (y 0).val))
  congr 1
  funext a
  obtain rfl : a = (0 : Fin 1) := Subsingleton.elim (α := Fin 1) _ _
  apply Fin.ext
  have hy : (y 0).val < 128 := (y 0).isLt
  show (y 0).val = (0 + 1 * (y 0).val) % 128
  rw [Nat.mod_eq_of_lt (by omega)]; omega

/-- What the tile holds before a trip of the compaction. -/
def inv (S : Vec F S2560 .f32) (k : ℕ) (acc : IVec S16 32) : sProp 𝕄 :=
  iprop(((b0).view.loc (thr d L) ↦{fullShare} S) ∗ ((b5).view.loc (thr d L) ↦{fullShare} (vstate S (st0 F L) (4 * k)).1)
    ∗ ⌜acc = (vstate S (st0 F L) (4 * k)).2⌝)

/-- What a tile is left with: its share of the planes, its buffers, its six rows of the output, its semaphores drained. -/
def tilePost (O : CellTallies nD τ sig (HIx 1)) (W : Waits sig (HIx 1)) (q : PosShare TreeShare) (P : Vec F S409600 .f32) : sProp 𝕄 :=
  iprop(((pV).view.loc (thr d L) ↦{q} P)
      ∗ (∃ f, (b0).view.loc (thr d L) ↦{fullShare} f)
      ∗ (∃ f, (b1).view.loc (thr d L) ↦{fullShare} f)
      ∗ (∃ f, (b2).view.loc (thr d L) ↦{fullShare} f)
      ∗ (∃ f, (b3).view.loc (thr d L) ↦{fullShare} f)
      ∗ (∃ f, (b4).view.loc (thr d L) ↦{fullShare} f)
      ∗ (∃ f, (b5).view.loc (thr d L) ↦{fullShare} f)
      ∗ (∃ f, (b6).view.loc (thr d L) ↦{fullShare} f)
      ∗ (∃ f, (b7).view.loc (thr d L) ↦{fullShare} f)
      ∗ (∃ f, (b8).view.loc (thr d L) ↦{fullShare} f)
      ∗ (∃ f, (b9).view.loc (thr d L) ↦{fullShare} f)
      ∗ (∃ f, (b10).view.loc (thr d L) ↦{fullShare} f)
      ∗ (∃ f, (b11).view.loc (thr d L) ↦{fullShare} f)
      ∗ ((oRow (k1_off6 L) (k1_off6_inb L)).view.loc (thr d L) ↦[(oRow (k1_off6 L) (k1_off6_inb L)).view.set]{fullShare} outF P)
      ∗ ((oRow (k1_off7 L) (k1_off7_inb L)).view.loc (thr d L) ↦[(oRow (k1_off7 L) (k1_off7_inb L)).view.set]{fullShare} outF P)
      ∗ ((oRow (k1_off8 L) (k1_off8_inb L)).view.loc (thr d L) ↦[(oRow (k1_off8 L) (k1_off8_inb L)).view.set]{fullShare} outF P)
      ∗ ((oRow (k1_off9 L) (k1_off9_inb L)).view.loc (thr d L) ↦[(oRow (k1_off9 L) (k1_off9_inb L)).view.set]{fullShare} outF P)
      ∗ ((oRow (k1_off10 L) (k1_off10_inb L)).view.loc (thr d L) ↦[(oRow (k1_off10 L) (k1_off10_inb L)).view.set]{fullShare} outF P)
      ∗ ((oRow (k1_off11 L) (k1_off11_inb L)).view.loc (thr d L) ↦[(oRow (k1_off11 L) (k1_off11_inb L)).view.set]{fullShare} outF P)
      ∗ semVal (thr d L, SemLoc.dma cc1_scoped0.sem) 0
      ∗ semVal (thr d L, SemLoc.dma cc1_scoped1.sem) 0
      ∗ semVal (thr d L, SemLoc.dma cc1_scoped2.sem) 0
      ∗ semVal (thr d L, SemLoc.dma cc1_scoped3.sem) 0
      ∗ semVal (thr d L, SemLoc.dma cc1_scoped4.sem) 0
      ∗ semVal (thr d L, SemLoc.dma cc1_scoped5.sem) 0
      ∗ semVal (thr d L, SemLoc.dma cc1_scoped6.sem) 0
      ∗ semVal (thr d L, SemLoc.dma cc1_scoped7.sem) 0
      ∗ semVal (thr d L, SemLoc.dma cc1_scoped8.sem) 0
      ∗ semVal (thr d L, SemLoc.dma cc1_scoped9.sem) 0
      ∗ semVal (thr d L, SemLoc.dma cc1_scoped10.sem) 0
      ∗ ∃ W', ⌜∀ p ∈ W', p ∈ W ∨ p.2 = none⌝ ∗ owes (thr d L) O W')

set_option maxHeartbeats 2000000 in
theorem tile_body (O : CellTallies nD τ sig (HIx 1)) (W : Waits sig (HIx 1)) (q : PosShare TreeShare)
    (P : Vec F S409600 .f32) f0 f1 f2 f3 f4 f5 f6 f7 f8 f9 f10 f11 g0 g1 g2 g3 g4 g5
    (Q : PUnit → sProp 𝕄) :
    iprop(Transfers.MayWaits (thr d L) (none : HIx 1) O
      ∗ ((pV).view.loc (thr d L) ↦{q} P)
      ∗ ((b0).view.loc (thr d L) ↦{fullShare} f0)
      ∗ ((b1).view.loc (thr d L) ↦{fullShare} f1)
      ∗ ((b2).view.loc (thr d L) ↦{fullShare} f2)
      ∗ ((b3).view.loc (thr d L) ↦{fullShare} f3)
      ∗ ((b4).view.loc (thr d L) ↦{fullShare} f4)
      ∗ ((b5).view.loc (thr d L) ↦{fullShare} f5)
      ∗ ((b6).view.loc (thr d L) ↦{fullShare} f6)
      ∗ ((b7).view.loc (thr d L) ↦{fullShare} f7)
      ∗ ((b8).view.loc (thr d L) ↦{fullShare} f8)
      ∗ ((b9).view.loc (thr d L) ↦{fullShare} f9)
      ∗ ((b10).view.loc (thr d L) ↦{fullShare} f10)
      ∗ ((b11).view.loc (thr d L) ↦{fullShare} f11)
      ∗ ((oRow (k1_off6 L) (k1_off6_inb L)).view.loc (thr d L) ↦[(oRow (k1_off6 L) (k1_off6_inb L)).view.set]{fullShare} g0)
      ∗ ((oRow (k1_off7 L) (k1_off7_inb L)).view.loc (thr d L) ↦[(oRow (k1_off7 L) (k1_off7_inb L)).view.set]{fullShare} g1)
      ∗ ((oRow (k1_off8 L) (k1_off8_inb L)).view.loc (thr d L) ↦[(oRow (k1_off8 L) (k1_off8_inb L)).view.set]{fullShare} g2)
      ∗ ((oRow (k1_off9 L) (k1_off9_inb L)).view.loc (thr d L) ↦[(oRow (k1_off9 L) (k1_off9_inb L)).view.set]{fullShare} g3)
      ∗ ((oRow (k1_off10 L) (k1_off10_inb L)).view.loc (thr d L) ↦[(oRow (k1_off10 L) (k1_off10_inb L)).view.set]{fullShare} g4)
      ∗ ((oRow (k1_off11 L) (k1_off11_inb L)).view.loc (thr d L) ↦[(oRow (k1_off11 L) (k1_off11_inb L)).view.set]{fullShare} g5)
      ∗ semVal (thr d L, SemLoc.dma cc1_scoped0.sem) 0
      ∗ semVal (thr d L, SemLoc.dma cc1_scoped1.sem) 0
      ∗ semVal (thr d L, SemLoc.dma cc1_scoped2.sem) 0
      ∗ semVal (thr d L, SemLoc.dma cc1_scoped3.sem) 0
      ∗ semVal (thr d L, SemLoc.dma cc1_scoped4.sem) 0
      ∗ semVal (thr d L, SemLoc.dma cc1_scoped5.sem) 0
      ∗ semVal (thr d L, SemLoc.dma cc1_scoped6.sem) 0
      ∗ semVal (thr d L, SemLoc.dma cc1_scoped7.sem) 0
      ∗ semVal (thr d L, SemLoc.dma cc1_scoped8.sem) 0
      ∗ semVal (thr d L, SemLoc.dma cc1_scoped9.sem) 0
      ∗ semVal (thr d L, SemLoc.dma cc1_scoped10.sem) 0
      ∗ owes (thr d L) O W ∗ (tilePost d L O W q P -∗ Q ⟨⟩))
    ⊢ wp frame (wpE (defs₀ (F := F)) 𝒱₀ (thr d L) none) Set.univ
      (cc1__compact_body L pV (Memref.isWhole_whole _) oV (Memref.isWhole_whole _)
        b0 (Memref.isWhole_whole _) b1 (Memref.isWhole_whole _) b2 (Memref.isWhole_whole _) b3 (Memref.isWhole_whole _)
        b4 (Memref.isWhole_whole _) b5 (Memref.isWhole_whole _) b6 (Memref.isWhole_whole _) b7 (Memref.isWhole_whole _)
        b8 (Memref.isWhole_whole _) b9 (Memref.isWhole_whole _) b10 (Memref.isWhole_whole _) b11 (Memref.isWhole_whole _)
        cc1_scoped0 cc1_scoped1 cc1_scoped2 cc1_scoped3 cc1_scoped4 cc1_scoped5 cc1_scoped6 cc1_scoped7 cc1_scoped8
        cc1_scoped9 cc1_scoped10) Q := by
  rw [cc1__compact_body_eq_skeleton]; unfold cc1__compact_body_skel
  iintro ⟨Hmw, Hp, H0, H1, H2, H3, H4, H5, H6, H7, H8, H9, H10, H11, Ho0, Ho1, Ho2, Ho3, Ho4, Ho5, Hs0, Hs1, Hs2, Hs3, Hs4, Hs5, Hs6, Hs7, Hs8, Hs9, Hs10, HO, Hk⟩
  sl_exec
  have w0 : ∀ (f w : Vec F S2560 .f32), View.write (Elt F) (b0).view f w Finset.univ = w := fun f w => View.write_whole_univ _ _ _
  have w1 : ∀ (f w : Vec F S2560 .f32), View.write (Elt F) (b1).view f w Finset.univ = w := fun f w => View.write_whole_univ _ _ _
  have w2 : ∀ (f w : Vec F S2560 .f32), View.write (Elt F) (b2).view f w Finset.univ = w := fun f w => View.write_whole_univ _ _ _
  have w3 : ∀ (f w : Vec F S2560 .f32), View.write (Elt F) (b3).view f w Finset.univ = w := fun f w => View.write_whole_univ _ _ _
  have w4 : ∀ (f w : Vec F S2560 .f32), View.write (Elt F) (b4).view f w Finset.univ = w := fun f w => View.write_whole_univ _ _ _
  rw [w0]
  rw [w1]
  rw [w2]
  rw [w3]
  rw [w4]
  have z := writes8 (F := F) (e := .i32) (b5).view (b5).view.junk (fun _ => 0#32) k1_pay28 k1_pay28 k1_pay28 k1_pay28 k1_pay28 k1_pay28 k1_pay28 k1_pay28 (fun _ => rfl) (fun _ => rfl) (fun _ => rfl) (fun _ => rfl) (fun _ => rfl) (fun _ => rfl) (fun _ => rfl) (fun _ => rfl)
  rw [show ((b5).view.writes (Elt F) (b5).view.junk tile_body.sl.H5_8 : Vec F S128 .i32) = _ from z]
  sl_for (inv d L (chunkOf P L 0#32 (k1_off1_inb L 0))) $$ [H0 H5]
  case region =>
    intro k acc
    unfold inv
    iintro ⟨H0, H5, %hacc⟩
    subst hacc
    iapply (trip_spec d L k (chunkOf P L 0#32 (k1_off1_inb L 0)) (vstate (chunkOf P L 0#32 (k1_off1_inb L 0)) (st0 F L) (4 * k.val)))
    isplitl [H0]; · iexact H0
    isplitl [H5]; · iexact H5
    iintro ⟨H0, H5⟩
    isplitl [H0]; · iexact H0
    isplitl [H5]; · iexact H5
    ipureintro; rfl
  · unfold inv
    isplitl [H0]; · iexact H0
    isplitl [H5]; · iexact H5
    ipureintro; rfl
  iintro %acc HI
  unfold inv
  icases HI with ⟨H0, H5, %hacc⟩
  subst hacc
  have hlt := vstate_lt (chunkOf P L 0#32 (k1_off1_inb L 0)) (st0 F L) (fun _ => by show (0#32).toNat < 2560; decide) (4 * k1_t1_loop.trips) (by decide)
  generalize hst : vstate (chunkOf P L 0#32 (k1_off1_inb L 0)) (st0 F L) (4 * k1_t1_loop.trips) = st at hlt
  have hin := fun off inb => load_inb (F := F) st.1 hlt off inb
  sl_exec (disch := exact chk5 (hin _ _))
  iapply (tile_gather5 d L _ _ _ _ _ _ _ _ _ _ _ _ _ _ _ _ _) $$ [H1 H2 H3 H4 H0]
  · iframe
  iintro ⟨H1, H2, H3, H4, H0⟩
  sl_exec (disch := exact chk6 (hin _ _))
  iapply (tile_gather5 d L _ _ _ _ _ _ _ _ _ _ _ _ _ _ _ _ _) $$ [H1 H2 H3 H4 H0]
  · iframe
  iintro ⟨H1, H2, H3, H4, H0⟩
  sl_exec (disch := exact chk7 (hin _ _))
  iapply (tile_gather5 d L _ _ _ _ _ _ _ _ _ _ _ _ _ _ _ _ _) $$ [H1 H2 H3 H4 H0]
  · iframe
  iintro ⟨H1, H2, H3, H4, H0⟩
  sl_exec (disch := exact chk8 (hin _ _))
  iapply (tile_gather5 d L _ _ _ _ _ _ _ _ _ _ _ _ _ _ _ _ _) $$ [H1 H2 H3 H4 H0]
  · iframe
  iintro ⟨H1, H2, H3, H4, H0⟩
  sl_exec (disch := exact chk9 (hin _ _))
  iapply (tile_gather5 d L _ _ _ _ _ _ _ _ _ _ _ _ _ _ _ _ _) $$ [H1 H2 H3 H4 H0]
  · iframe
  iintro ⟨H1, H2, H3, H4, H0⟩
  sl_exec (disch := exact chk10 (hin _ _))
  iapply (tile_gather5 d L _ _ _ _ _ _ _ _ _ _ _ _ _ _ _ _ _) $$ [H1 H2 H3 H4 H0]
  · iframe
  iintro ⟨H1, H2, H3, H4, H0⟩
  sl_exec (disch := exact chk11 (hin _ _))
  iapply (tile_gather5 d L _ _ _ _ _ _ _ _ _ _ _ _ _ _ _ _ _) $$ [H1 H2 H3 H4 H0]
  · iframe
  iintro ⟨H1, H2, H3, H4, H0⟩
  sl_exec (disch := exact chk12 (hin _ _))
  iapply (tile_gather5 d L _ _ _ _ _ _ _ _ _ _ _ _ _ _ _ _ _) $$ [H1 H2 H3 H4 H0]
  · iframe
  iintro ⟨H1, H2, H3, H4, H0⟩
  sl_exec
  have hS : chunkOf P L 0#32 (k1_off1_inb L 0) = chunkP P (wid L) 0 := chunkOf_eq L P 0
  have hT : st = tileSt P (wid L) := by
    rw [← hst, hS]; show vstate _ (_, k1_pay29 (widV L)) _ = _; rw [widV_eq]; rfl
  have lg := fun (j : Fin 8) off inb hn => load_grp (F := F) st.1 j off inb hn
  have e0 : tile_body.sl.dma12 d L P f6 st hin = tileRow P (wid L) 0 := by
    show _ = scoreRow (BitVec.ofNat 32 (wid L)) (chunkP P (wid L) 0) (tileSt P (wid L))
    rw [← hT, ← hS, ← widV_eq]
    delta tile_body.sl.dma12 tile_body.sl.H6_8
    exact writes8 (b6).view f6 (scoreRow (widV L) (chunkOf P L 0#32 (k1_off1_inb L 0)) st) _ _ _ _ _ _ _ _
      (score_first _ _ st _ (lg 0 _ _ rfl) (hin _ _))
      (score_rest _ _ st 1 (by decide) _ (lg 1 _ _ rfl) (hin _ _))
      (score_rest _ _ st 2 (by decide) _ (lg 2 _ _ rfl) (hin _ _))
      (score_rest _ _ st 3 (by decide) _ (lg 3 _ _ rfl) (hin _ _))
      (score_rest _ _ st 4 (by decide) _ (lg 4 _ _ rfl) (hin _ _))
      (score_rest _ _ st 5 (by decide) _ (lg 5 _ _ rfl) (hin _ _))
      (score_rest _ _ st 6 (by decide) _ (lg 6 _ _ rfl) (hin _ _))
      (score_rest _ _ st 7 (by decide) _ (lg 7 _ _ rfl) (hin _ _))
  have e1 : tile_body.sl.dma12_1 d L P f7 st hin = tileRow P (wid L) 1 := by
    show _ = gathRow (chunkP P (wid L) (1 : Fin 5).val) (tileSt P (wid L)).1
    rw [← hT, ← chunkOf_eq]
    delta tile_body.sl.dma12_1 tile_body.sl.H7_8
    exact writes8 (b7).view f7 (gathRow (chunkOf P L 81920#32 (k1_off1_inb L 1)) st.1) _ _ _ _ _ _ _ _
      (gath_eq _ st.1 0 _ (lg 0 _ _ rfl) (hin _ _))
      (gath_eq _ st.1 1 _ (lg 1 _ _ rfl) (hin _ _))
      (gath_eq _ st.1 2 _ (lg 2 _ _ rfl) (hin _ _))
      (gath_eq _ st.1 3 _ (lg 3 _ _ rfl) (hin _ _))
      (gath_eq _ st.1 4 _ (lg 4 _ _ rfl) (hin _ _))
      (gath_eq _ st.1 5 _ (lg 5 _ _ rfl) (hin _ _))
      (gath_eq _ st.1 6 _ (lg 6 _ _ rfl) (hin _ _))
      (gath_eq _ st.1 7 _ (lg 7 _ _ rfl) (hin _ _))
  have e2 : tile_body.sl.dma12_2 d L P f8 st hin = tileRow P (wid L) 2 := by
    show _ = gathRow (chunkP P (wid L) (2 : Fin 5).val) (tileSt P (wid L)).1
    rw [← hT, ← chunkOf_eq]
    delta tile_body.sl.dma12_2 tile_body.sl.H8_8
    exact writes8 (b8).view f8 (gathRow (chunkOf P L 163840#32 (k1_off1_inb L 2)) st.1) _ _ _ _ _ _ _ _
      (gath_eq _ st.1 0 _ (lg 0 _ _ rfl) (hin _ _))
      (gath_eq _ st.1 1 _ (lg 1 _ _ rfl) (hin _ _))
      (gath_eq _ st.1 2 _ (lg 2 _ _ rfl) (hin _ _))
      (gath_eq _ st.1 3 _ (lg 3 _ _ rfl) (hin _ _))
      (gath_eq _ st.1 4 _ (lg 4 _ _ rfl) (hin _ _))
      (gath_eq _ st.1 5 _ (lg 5 _ _ rfl) (hin _ _))
      (gath_eq _ st.1 6 _ (lg 6 _ _ rfl) (hin _ _))
      (gath_eq _ st.1 7 _ (lg 7 _ _ rfl) (hin _ _))
  have e3 : tile_body.sl.dma12_3 d L P f9 st hin = tileRow P (wid L) 3 := by
    show _ = gathRow (chunkP P (wid L) (3 : Fin 5).val) (tileSt P (wid L)).1
    rw [← hT, ← chunkOf_eq]
    delta tile_body.sl.dma12_3 tile_body.sl.H9_8
    exact writes8 (b9).view f9 (gathRow (chunkOf P L 245760#32 (k1_off1_inb L 3)) st.1) _ _ _ _ _ _ _ _
      (gath_eq _ st.1 0 _ (lg 0 _ _ rfl) (hin _ _))
      (gath_eq _ st.1 1 _ (lg 1 _ _ rfl) (hin _ _))
      (gath_eq _ st.1 2 _ (lg 2 _ _ rfl) (hin _ _))
      (gath_eq _ st.1 3 _ (lg 3 _ _ rfl) (hin _ _))
      (gath_eq _ st.1 4 _ (lg 4 _ _ rfl) (hin _ _))
      (gath_eq _ st.1 5 _ (lg 5 _ _ rfl) (hin _ _))
      (gath_eq _ st.1 6 _ (lg 6 _ _ rfl) (hin _ _))
      (gath_eq _ st.1 7 _ (lg 7 _ _ rfl) (hin _ _))
  have e4 : tile_body.sl.dma12_4 d L P f10 st hin = tileRow P (wid L) 4 := by
    show _ = gathRow (chunkP P (wid L) (4 : Fin 5).val) (tileSt P (wid L)).1
    rw [← hT, ← chunkOf_eq]
    delta tile_body.sl.dma12_4 tile_body.sl.H10_8
    exact writes8 (b10).view f10 (gathRow (chunkOf P L 327680#32 (k1_off1_inb L 4)) st.1) _ _ _ _ _ _ _ _
      (gath_eq _ st.1 0 _ (lg 0 _ _ rfl) (hin _ _))
      (gath_eq _ st.1 1 _ (lg 1 _ _ rfl) (hin _ _))
      (gath_eq _ st.1 2 _ (lg 2 _ _ rfl) (hin _ _))
      (gath_eq _ st.1 3 _ (lg 3 _ _ rfl) (hin _ _))
      (gath_eq _ st.1 4 _ (lg 4 _ _ rfl) (hin _ _))
      (gath_eq _ st.1 5 _ (lg 5 _ _ rfl) (hin _ _))
      (gath_eq _ st.1 6 _ (lg 6 _ _ rfl) (hin _ _))
      (gath_eq _ st.1 7 _ (lg 7 _ _ rfl) (hin _ _))
  have e5 : tile_body.sl.dma12_5 d L f11 st = tileRow P (wid L) 5 := by
    show _ = idRow (BitVec.ofNat 32 (2560 * wid L)) (tileSt P (wid L)).1
    rw [← hT, ← startV_eq]
    delta tile_body.sl.dma12_5 tile_body.sl.H11_8
    exact writes8 (b11).view f11 (idRow (startV L) st.1) _ _ _ _ _ _ _ _
      (id_eq _ st.1 0 _ (lg 0 _ _ rfl))
      (id_eq _ st.1 1 _ (lg 1 _ _ rfl))
      (id_eq _ st.1 2 _ (lg 2 _ _ rfl))
      (id_eq _ st.1 3 _ (lg 3 _ _ rfl))
      (id_eq _ st.1 4 _ (lg 4 _ _ rfl))
      (id_eq _ st.1 5 _ (lg 5 _ _ rfl))
      (id_eq _ st.1 6 _ (lg 6 _ _ rfl))
      (id_eq _ st.1 7 _ (lg 7 _ _ rfl))
  ihave Ho0 := (Entails.of_eq (row_out d L P (k1_off6 L) (k1_off6_inb L) 0 (off6_eq L) _ _ e0)) $$ Ho0
  ihave Ho1 := (Entails.of_eq (row_out d L P (k1_off7 L) (k1_off7_inb L) 1 (off7_eq L) _ _ e1)) $$ Ho1
  ihave Ho2 := (Entails.of_eq (row_out d L P (k1_off8 L) (k1_off8_inb L) 2 (off8_eq L) _ _ e2)) $$ Ho2
  ihave Ho3 := (Entails.of_eq (row_out d L P (k1_off9 L) (k1_off9_inb L) 3 (off9_eq L) _ _ e3)) $$ Ho3
  ihave Ho4 := (Entails.of_eq (row_out d L P (k1_off10 L) (k1_off10_inb L) 4 (off10_eq L) _ _ e4)) $$ Ho4
  ihave Ho5 := (Entails.of_eq (row_out d L P (k1_off11 L) (k1_off11_inb L) 5 (off11_eq L) _ _ e5)) $$ Ho5
  rw [wp_ret]
  imodintro
  iapply Hk
  unfold tilePost
  isplitl [Hp]; · iexact Hp
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexists _
  isplitr [HO]
  rotate_left
  · iexact HO
  ipureintro
  intro p hp
  simp only [Finset.mem_insert] at hp
  rcases hp with h | h | h | h | h | h | h | h | h | h | h | h
  all_goals first | exact Or.inl h | (right; rw [h]; rfl)

end Cert.Proof.KI

end
-- ==== Proof.Pay.lean ====
/-
  What the handshakes of the SparseCore call carry: each tile is handed a share of the planes and its six rows of
  the output, and hands the same back with the rows computed. The planes are dealt out in 32 shares, the output is
  cut into its rows.
-/
module

public import proofs.«01_k».proof.Proof.Tile
public import Idealize.ShloMosaic.Lib.Transfers

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rows of the output -/

/-- The planes' array and the output of the call, as the core names them. -/
abbrev pLoc (d : Dev nD) : Loc nD τ sig := (SparseCore.T d).loc main_v10
abbrev oLoc (d : Dev nD) : Loc nD τ sig := (SparseCore.T d).loc main_v11

/-- Row `p` of tile `w`. -/
def rowSet (p w : ℕ) : Finset S6x32x128.Idx := Finset.univ.filter fun x => (x 0).val = p ∧ (x 1).val = w

theorem oRow_set (off : Fin 3 → Nat) (h) (p w : ℕ) (e : off = ![p, w, 0]) : (oRow off h).view.set = rowSet p w := by
  subst e
  show (((oV : Memref sig .scVector .hbm S6x32x128 .f32).view.slice (Rect.unit (s := S6x32x128) ![p, w, 0] S1x1x128.size h)).reshape S128 squeezes_S1x1x128_S128.numel_eq).set = _
  rw [View.set_reshape]
  show ((View.whole (main_v11_scv : Ref sig .scVector)).slice (Rect.unit (s := S6x32x128) ![p, w, 0] S1x1x128.size h)).set = _
  rw [View.set_slice]
  refine Finset.map_refl.trans ?_
  ext x
  rw [Rect.mem_set_unit]
  simp only [rowSet, Finset.mem_filter, Finset.mem_univ, true_and]
  constructor
  · intro hx
    have h0 := hx 0; have h1 := hx 1
    simp only [Matrix.cons_val_zero, Matrix.cons_val_one, show S1x1x128.size 0 = 1 from rfl, show S1x1x128.size 1 = 1 from rfl] at h0 h1
    omega
  · rintro ⟨h0, h1⟩ a
    fin_cases a
    · show p ≤ (x 0).val ∧ (x 0).val < p + 1; omega
    · show w ≤ (x 1).val ∧ (x 1).val < w + 1; omega
    · have := (x 2).isLt
      exact ⟨Nat.zero_le _, by show (x 2).val < 0 + 128; exact (Nat.zero_add 128).symm ▸ this⟩

theorem rows_disjoint : ∀ t ∈ (Finset.univ : Finset (Fin 32 × Fin 6)), ∀ t' ∈ (Finset.univ : Finset (Fin 32 × Fin 6)), t ≠ t' →
    Disjoint (rowSet t.2.val t.1.val) (rowSet t'.2.val t'.1.val) := by
  intro t _ t' _ hne
  refine Finset.disjoint_left.mpr fun x hx hx' => hne ?_
  simp only [rowSet, Finset.mem_filter, Finset.mem_univ, true_and] at hx hx'
  exact Prod.ext (Fin.ext (hx.2.symm.trans hx'.2)) (Fin.ext (hx.1.symm.trans hx'.1))

theorem rows_cover : (Finset.univ : Finset (Fin 32 × Fin 6)).biUnion (fun t => rowSet t.2.val t.1.val) = Finset.univ := by
  ext x
  simp only [Finset.mem_biUnion, Finset.mem_univ, true_and, iff_true]
  exact ⟨(⟨(x 1).val, (x 1).isLt⟩, ⟨(x 0).val, (x 0).isLt⟩), by simp [rowSet]⟩

/-- The rows of a tile. -/
def tileRows (d : Dev nD) (f : Vec F S6x32x128 .f32) (w : ℕ) : sProp 𝕄 :=
  iprop((oLoc d ↦[rowSet 0 w]{fullShare} f) ∗ (oLoc d ↦[rowSet 1 w]{fullShare} f) ∗ (oLoc d ↦[rowSet 2 w]{fullShare} f)
    ∗ (oLoc d ↦[rowSet 3 w]{fullShare} f) ∗ (oLoc d ↦[rowSet 4 w]{fullShare} f) ∗ (oLoc d ↦[rowSet 5 w]{fullShare} f))

theorem out_rows (d : Dev nD) (f : Vec F S6x32x128 .f32) :
    (oLoc d ↦{fullShare} f : sProp 𝕄) = bigSep Finset.univ fun w : Fin 32 => tileRows d f w.val := by
  have e : (oLoc d ↦{fullShare} f : sProp 𝕄) = bigSep Finset.univ fun t : Fin 32 × Fin 6 => oLoc d ↦[rowSet t.2.val t.1.val]{fullShare} f := by
    rw [← pointsTo_biUnion Finset.univ (ℓ := oLoc d) (fun t : Fin 32 × Fin 6 => rowSet t.2.val t.1.val) rows_disjoint, rows_cover]; try rfl
  rw [e, BI.bigSep_univ_prod]
  refine bigSep_congr fun w _ => ?_
  unfold tileRows
  rw [show (Finset.univ : Finset (Fin 6)) = {0, 1, 2, 3, 4, 5} from rfl, SparseCore.bigSep_insert' (by decide), SparseCore.bigSep_insert' (by decide),
    SparseCore.bigSep_insert' (by decide), SparseCore.bigSep_insert' (by decide), SparseCore.bigSep_insert' (by decide), bigSep_singleton]
  rfl

/-! ## What a tile is handed -/

/-- The share of the planes of tile `w`. -/
def tileShare (w : Fin 32) : PosShare TreeShare := Transfers.dealOf fullShare Finset.univ w

/-- A share of the planes and the six rows. -/
def tilePts (d : Dev nD) (P : Vec F S409600 .f32) (f : Vec F S6x32x128 .f32) (w : Fin 32) : sProp 𝕄 :=
  iprop((pLoc d ↦{tileShare w} P) ∗ tileRows d f w.val)

theorem deal_all (d : Dev nD) (P : Vec F S409600 .f32) (f : Vec F S6x32x128 .f32) :
    (iprop((pLoc d ↦{fullShare} P) ∗ (oLoc d ↦{fullShare} f)) : sProp 𝕄) = bigSep Finset.univ fun w : Fin 32 => tilePts d P f w := by
  rw [out_rows, Transfers.pointsTo_deal (ℓ := pLoc d) (Finset.univ : Finset (Fin 32)) Finset.univ_nonempty]
  unfold tilePts
  rw [bigSep_sep']
  rfl

theorem nCore_zero : (K (F := F)).nCore 0 = 2 := rfl
theorem nSub_zero : (K (F := F)).nSub 0 = 16 := rfl

/-- The number of the tile at SparseCore `c`, subcore `s`. -/
def tileNo (c : Fin ((K (F := F)).nCore 0)) (s : Fin ((K (F := F)).nSub 0)) : Fin 32 :=
  ⟨s.val * 2 + c.val, by have h1 : c.val < 2 := c.isLt; have h2 : s.val < 16 := s.isLt; omega⟩

theorem deal_tiles (Φ : Fin 32 → sProp 𝕄) :
    bigSep Finset.univ Φ = bigSep Finset.univ fun c : Fin ((K (F := F)).nCore 0) => bigSep Finset.univ fun s : Fin ((K (F := F)).nSub 0) => Φ (tileNo c s) := by
  rw [BI.bigSep_univ_comm, ← BI.bigSep_univ_prod (fun x : Fin ((K (F := F)).nSub 0) × Fin ((K (F := F)).nCore 0) => Φ (tileNo x.2 x.1)),
    BI.bigSep_univ_equiv (show Fin ((K (F := F)).nSub 0) × Fin ((K (F := F)).nCore 0) ≃ Fin 32 from finProdFinEquiv (m := 16) (n := 2)) Φ]
  refine bigSep_congr fun x _ => congrArg Φ (Fin.ext ?_)
  show x.2.val + 2 * x.1.val = x.1.val * 2 + x.2.val
  omega

variable (Pf : Dev nD → Vec F S409600 .f32) (of : Dev nD → Vec F S6x32x128 .f32)

/-- What the handshakes carry. -/
def pay : (K (F := F)).Pay (nD := nD) (Val := Elt F) (Name := ℕ) (U := UU) where
  st := fun q d c => match q with
    | 0 => bigSep Finset.univ fun i : Fin ((K (F := F)).nSub 0) => tilePts d (Pf d) (of d) (tileNo c i)
  dn := fun q d c => match q with
    | 0 => bigSep Finset.univ fun i : Fin ((K (F := F)).nSub 0) => tilePts d (Pf d) (outF (Pf d)) (tileNo c i)
  go := fun q d c i => match q with
    | 0 => tilePts d (Pf d) (of d) (tileNo c i)
  td := fun q d c i => match q with
    | 0 => tilePts d (Pf d) (outF (Pf d)) (tileNo c i)
  x := fun _ _ => iprop(emp)

instance tilePts_storable (d : Dev nD) (P : Vec F S409600 .f32) (f : Vec F S6x32x128 .f32) (w : Fin 32) :
    BI.Storable (upEmb : UEmb _ 𝕄) (tilePts d P f w) := by
  unfold tilePts tileRows; infer_instance

instance pay_storable : (pay (F := F) Pf of).IsStorable where
  st q d c := match q with
    | 0 => (inferInstance : BI.Storable (upEmb : UEmb _ 𝕄) (bigSep Finset.univ fun i : Fin ((K (F := F)).nSub 0) => tilePts d (Pf d) (of d) (tileNo c i)))
  dn q d c := match q with
    | 0 => (inferInstance : BI.Storable (upEmb : UEmb _ 𝕄) (bigSep Finset.univ fun i : Fin ((K (F := F)).nSub 0) => tilePts d (Pf d) (outF (Pf d)) (tileNo c i)))
  go q d c i := match q with
    | 0 => tilePts_storable d (Pf d) (of d) (tileNo c i)
  td q d c i := match q with
    | 0 => tilePts_storable d (Pf d) (outF (Pf d)) (tileNo c i)

theorem vecSplit : (K (F := F)).VecSplit' (pay Pf of) 0 := by
  intro d c
  show (bigSep Finset.univ fun i : Fin ((K (F := F)).nSub 0) => tilePts d (Pf d) (of d) (tileNo c i)) ⊢ |={Set.univ}=> iprop(
      (bigSep Finset.univ fun i : Fin ((K (F := F)).nSub 0) => tilePts d (Pf d) (of d) (tileNo c i))
      ∗ ((bigSep Finset.univ fun i : Fin ((K (F := F)).nSub 0) => tilePts d (Pf d) (outF (Pf d)) (tileNo c i))
          -∗ (bigSep Finset.univ fun i : Fin ((K (F := F)).nSub 0) => tilePts d (Pf d) (outF (Pf d)) (tileNo c i))))
  iintro H; imodintro
  isplitl [H]; · iexact H
  iintro H; iexact H

/-! ## The scoped resources of a tile -/

section Own

variable (d : Dev nD) (L : grid1.Coords)

/-- The tile's buffers, in order. -/
def bufL (L : grid1.Coords) : List (DevRef τ sig) :=
  [cc1_scratch0, cc1_scratch1, cc1_scratch2, cc1_scratch3, cc1_scratch4, cc1_scratch5, cc1_scratch6, cc1_scratch7, cc1_scratch8, cc1_scratch9,
    cc1_scratch10, cc1_scratch11].map (Proc.scVector (cV L) (jV L)).devRef

/-- The tile's copies' semaphores, in order. -/
def semL (d : Dev nD) (L : grid1.Coords) : List (GSem nD τ sig) :=
  [cc1_scoped0.sem, cc1_scoped1.sem, cc1_scoped2.sem, cc1_scoped3.sem, cc1_scoped4.sem, cc1_scoped5.sem, cc1_scoped6.sem, cc1_scoped7.sem,
    cc1_scoped8.sem, cc1_scoped9.sem, cc1_scoped10.sem].map fun s => (thr d L, SemLoc.dma s)

theorem ownBufs_V :
    (ownBufs (thr d L) : sProp 𝕄)
      = (bufL L).foldr (fun b R => iprop((∃ f, ((d, b) : Loc nD τ sig) ↦{fullShare} f) ∗ R))
          (bigSep ((bufL L).foldl Finset.erase (ownRefs (τ := τ) (.scVector (cV L) (jV L)))) fun b => iprop(∃ f, ((d, b) : Loc nD τ sig) ↦{fullShare} f)) := by
  unfold SparseCore.Cfg.ownBufs
  refine bigSep_list _ _ _ ?_ ?_
  · exact List.Nodup.map (Proc.devRef_injective _) (show ([cc1_scratch0, cc1_scratch1, cc1_scratch2, cc1_scratch3, cc1_scratch4, cc1_scratch5,
      cc1_scratch6, cc1_scratch7, cc1_scratch8, cc1_scratch9, cc1_scratch10, cc1_scratch11] : List (Ref sig .scVector)).Nodup by decide)
  · intro x hx
    obtain ⟨b, hb, rfl⟩ := List.mem_map.mp hx
    refine SparseCore.Cfg.mem_ownRefs_of_owner (p := Proc.scVector (cV L) (jV L)) ?_
    fin_cases hb <;> rfl

theorem ownSems0_V :
    (ownSems0 (thr d L) : sProp 𝕄)
      = (semL d L).foldr (fun g R => iprop(semVal g 0 ∗ R)) (bigSep ((semL d L).foldl Finset.erase (ownCells (thr d L))) fun g => semVal g 0) := by
  unfold SparseCore.Cfg.ownSems0
  refine bigSep_list _ _ _ ?_ ?_
  · refine List.Nodup.map (fun a b e => ?_) (by decide)
    have := (Prod.mk.inj e).2
    exact SemLoc.dma.inj this
  · intro x hx
    obtain ⟨b, hb, rfl⟩ := List.mem_map.mp hx
    refine mem_ownCells.mpr ⟨rfl, ?_⟩
    show (SemLoc.dma b : SemLoc sig).isScoped .scVector = true
    fin_cases hb <;> decide

/-- The six rows of a tile, as its copies out name them. -/
theorem tileRows_eq (f : Vec F S6x32x128 .f32) :
    (tileRows d f (wid L) : sProp 𝕄) = iprop(((oRow (k1_off6 L) (k1_off6_inb L)).view.loc (thr d L) ↦[(oRow (k1_off6 L) (k1_off6_inb L)).view.set]{fullShare} f)
      ∗ ((oRow (k1_off7 L) (k1_off7_inb L)).view.loc (thr d L) ↦[(oRow (k1_off7 L) (k1_off7_inb L)).view.set]{fullShare} f)
      ∗ ((oRow (k1_off8 L) (k1_off8_inb L)).view.loc (thr d L) ↦[(oRow (k1_off8 L) (k1_off8_inb L)).view.set]{fullShare} f)
      ∗ ((oRow (k1_off9 L) (k1_off9_inb L)).view.loc (thr d L) ↦[(oRow (k1_off9 L) (k1_off9_inb L)).view.set]{fullShare} f)
      ∗ ((oRow (k1_off10 L) (k1_off10_inb L)).view.loc (thr d L) ↦[(oRow (k1_off10 L) (k1_off10_inb L)).view.set]{fullShare} f)
      ∗ ((oRow (k1_off11 L) (k1_off11_inb L)).view.loc (thr d L) ↦[(oRow (k1_off11 L) (k1_off11_inb L)).view.set]{fullShare} f)) := by
  unfold tileRows
  rw [oRow_set (k1_off6 L) (k1_off6_inb L) 0 (wid L) (off6_eq L), oRow_set (k1_off7 L) (k1_off7_inb L) 1 (wid L) (off7_eq L), oRow_set (k1_off8 L) (k1_off8_inb L) 2 (wid L) (off8_eq L), oRow_set (k1_off9 L) (k1_off9_inb L) 3 (wid L) (off9_eq L), oRow_set (k1_off10 L) (k1_off10_inb L) 4 (wid L) (off10_eq L), oRow_set (k1_off11 L) (k1_off11_inb L) 5 (wid L) (off11_eq L)]

/-- The task of a tile, from what the sequencer hands it to what it hands back. -/
theorem tile_task (hF : (K (F := F)).Facts) (O : CellTallies nD τ sig (HIx 1)) (W : Waits sig (HIx 1)) (hO : ∀ g, O g none = 0) (P : Vec F S409600 .f32)
    (f : Vec F S6x32x128 .f32) (w : Fin 32) (hw : w.val = wid L) :
    iprop(levAts (K (F := F)).L (K (F := F)).lev ∗ emp ∗ tilePts d P f w ∗ scopedBufs (thr d L) ∗ scopedSems0 (thr d L) ∗ owes (thr d L) O W)
      ⊢ wp frame (wpE (defs₀ (F := F)) 𝒱₀ (thr d L) none) Set.univ
      (cc1__compact_body L pV (Memref.isWhole_whole _) oV (Memref.isWhole_whole _)
        b0 (Memref.isWhole_whole _) b1 (Memref.isWhole_whole _) b2 (Memref.isWhole_whole _) b3 (Memref.isWhole_whole _)
        b4 (Memref.isWhole_whole _) b5 (Memref.isWhole_whole _) b6 (Memref.isWhole_whole _) b7 (Memref.isWhole_whole _)
        b8 (Memref.isWhole_whole _) b9 (Memref.isWhole_whole _) b10 (Memref.isWhole_whole _) b11 (Memref.isWhole_whole _)
        cc1_scoped0 cc1_scoped1 cc1_scoped2 cc1_scoped3 cc1_scoped4 cc1_scoped5 cc1_scoped6 cc1_scoped7 cc1_scoped8
        cc1_scoped9 cc1_scoped10)
          fun _ => iprop(tilePts d P (outF P) w ∗ scopedBufs (thr d L) ∗ scopedSems0 (thr d L)
            ∗ ∃ W', ⌜∀ p ∈ W', p ∈ W ∨ p.2 = none⌝ ∗ owes (thr d L) O W') := by
  unfold tilePts
  rw [hw, tileRows_eq, tileRows_eq]
  rw [(K (F := F)).scopedBufs_V hF d (cV L) (jV L), SparseCore.Cfg.scopedSems0_V (Val := Elt F) d (cV L) (jV L), ownSems0_V, ownBufs_V]
  simp only [bufL, semL, List.map_cons, List.map_nil, List.foldr_cons, List.foldr_nil]
  iintro ⟨#Hlv, -, ⟨Hp, Ho0, Ho1, Ho2, Ho3, Ho4, Ho5⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, Hbufs⟩, ⟨Hs0, Hs1, Hs2, Hs3, Hs4, Hs5, Hs6, Hs7, Hs8, Hs9, Hs10, Hsems⟩, HO⟩
  iapply (tile_body d L O W (tileShare w) P f0 f1 f2 f3 f4 f5 f6 f7 f8 f9 f10 f11 f f f f f f)
  isplitr; · iapply ((K (F := F)).mayWaits_none (thr := thr d L) hO); iexact Hlv
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [HO]; · iexact HO
  unfold tilePost
  iintro ⟨Hp, H0, H1, H2, H3, H4, H5, H6, H7, H8, H9, H10, H11, Ho0, Ho1, Ho2, Ho3, Ho4, Ho5, Hs0, Hs1, Hs2, Hs3, Hs4, Hs5, Hs6, Hs7, Hs8, Hs9, Hs10, HO⟩
  isplitl [Hp Ho0 Ho1 Ho2 Ho3 Ho4 Ho5]
  · isplitl [Hp]; · iexact Hp
    isplitl [Ho0]; · iexact Ho0
    isplitl [Ho1]; · iexact Ho1
    isplitl [Ho2]; · iexact Ho2
    isplitl [Ho3]; · iexact Ho3
    isplitl [Ho4]; · iexact Ho4
    iexact Ho5
  isplitl [H0 H1 H2 H3 H4 H5 H6 H7 H8 H9 H10 H11 Hbufs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hbufs
  isplitl [Hs0 Hs1 Hs2 Hs3 Hs4 Hs5 Hs6 Hs7 Hs8 Hs9 Hs10 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexact HO

end Own

/-! ## The launch theorem's obligation for the tiles -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__compact_body (coordsV c s) pV (Memref.isWhole_whole _) oV (Memref.isWhole_whole _)
        b0 (Memref.isWhole_whole _) b1 (Memref.isWhole_whole _) b2 (Memref.isWhole_whole _) b3 (Memref.isWhole_whole _)
        b4 (Memref.isWhole_whole _) b5 (Memref.isWhole_whole _) b6 (Memref.isWhole_whole _) b7 (Memref.isWhole_whole _)
        b8 (Memref.isWhole_whole _) b9 (Memref.isWhole_whole _) b10 (Memref.isWhole_whole _) b11 (Memref.isWhole_whole _)
        cc1_scoped0 cc1_scoped1 cc1_scoped2 cc1_scoped3 cc1_scoped4 cc1_scoped5 cc1_scoped6 cc1_scoped7 cc1_scoped8
        cc1_scoped9 cc1_scoped10) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (pay Pf of) v₀ 0 := by
  intro d c i O W hO _ _
  simp only [show (pay (F := F) Pf of).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task d (coordsV ⟨_, hc.1⟩ ⟨_, hc.2⟩) facts O W hO (Pf d) (of d) (tileNo c i) rfl).trans (wp_mono frame _ _ fun _ => obl_post)

end Cert.Proof.KI

end
-- ==== Proof.Launch.lean ====
/-
  The whole program of the TensorCore and the launch: the host's operations, the dense stage, the SparseCore call and
  the suppression stage in order, over a chain of valuations of the core's buffers; then the run of all threads.
-/
module

public import proofs.«01_k».proof.Proof.TC
public import proofs.«01_k».proof.Proof.Pay
public import Idealize.ShloMosaic.Lib.Pipeline.Frame

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The program in pieces -/

/-- The labels of the whole program. -/
abbrev ΛS : Labels := SparseCore.Sig (ΛP (F := F)) 1

/-- The host's operations before the dense stage. -/
def ops1 : List (HloOp τ sig (Elt F)) := [
    StableHlo.reshape main_arg2 main_v0 (rfl : (.f32 : EltTy) = .f32) shapeCasts_S1000x320_S1000x80x4,
    StableHlo.unary main_v0 main_v1 ((extractStridedSlice S1000x80x1 ![0, 0, 0] · slices_S1000x80x4_S1000x80x1_0_0_0) : (⟨S1000x80x4, .f32⟩ : BufTy).Contents (Elt F) → (⟨S1000x80x1, .f32⟩ : BufTy).Contents (Elt F)),
    StableHlo.reshape main_v1 main_v2 (rfl : (.f32 : EltTy) = .f32) shapeCasts_S1000x80x1_S1000x80,
    StableHlo.unary main_v0 main_v3 ((extractStridedSlice S1000x80x1 ![0, 0, 1] · slices_S1000x80x4_S1000x80x1_0_0_1) : (⟨S1000x80x4, .f32⟩ : BufTy).Contents (Elt F) → (⟨S1000x80x1, .f32⟩ : BufTy).Contents (Elt F)),
    StableHlo.reshape main_v3 main_v4 (rfl : (.f32 : EltTy) = .f32) shapeCasts_S1000x80x1_S1000x80,
    StableHlo.unary main_v0 main_v5 ((extractStridedSlice S1000x80x1 ![0, 0, 2] · slices_S1000x80x4_S1000x80x1_0_0_2) : (⟨S1000x80x4, .f32⟩ : BufTy).Contents (Elt F) → (⟨S1000x80x1, .f32⟩ : BufTy).Contents (Elt F)),
    StableHlo.reshape main_v5 main_v6 (rfl : (.f32 : EltTy) = .f32) shapeCasts_S1000x80x1_S1000x80,
    StableHlo.unary main_v0 main_v7 ((extractStridedSlice S1000x80x1 ![0, 0, 3] · slices_S1000x80x4_S1000x80x1_0_0_3) : (⟨S1000x80x4, .f32⟩ : BufTy).Contents (Elt F) → (⟨S1000x80x1, .f32⟩ : BufTy).Contents (Elt F)),
    StableHlo.reshape main_v7 main_v8 (rfl : (.f32 : EltTy) = .f32) shapeCasts_S1000x80x1_S1000x80]

/-- The planes laid out flat. -/
def opsR : List (HloOp τ sig (Elt F)) := [
    StableHlo.reshape main_v9 main_v10 (rfl : (.f32 : EltTy) = .f32) shapeCasts_S5x1024x80_S409600]

/-- The host's operations after the suppression stage. -/
def ops2 : List (HloOp τ sig (Elt F)) := [
    StableHlo.unary main_v12 main_v13 ((extractStridedSlice S1x100 ![0, 0] · slices_S6x128_S1x100_0_0) : (⟨S6x128, .f32⟩ : BufTy).Contents (Elt F) → (⟨S1x100, .f32⟩ : BufTy).Contents (Elt F)),
    StableHlo.reshape main_v13 main_v14 (rfl : (.f32 : EltTy) = .f32) shapeCasts_S1x100_S100,
    StableHlo.unary main_v12 main_v15 ((extractStridedSlice S1x100 ![1, 0] · slices_S6x128_S1x100_1_0) : (⟨S6x128, .f32⟩ : BufTy).Contents (Elt F) → (⟨S1x100, .f32⟩ : BufTy).Contents (Elt F)),
    StableHlo.reshape main_v15 main_v16 (rfl : (.f32 : EltTy) = .f32) shapeCasts_S1x100_S100,
    StableHlo.unary main_v12 main_v17 ((extractStridedSlice S1x100 ![2, 0] · slices_S6x128_S1x100_2_0) : (⟨S6x128, .f32⟩ : BufTy).Contents (Elt F) → (⟨S1x100, .f32⟩ : BufTy).Contents (Elt F)),
    StableHlo.reshape main_v17 main_v18 (rfl : (.f32 : EltTy) = .f32) shapeCasts_S1x100_S100,
    StableHlo.unary main_v12 main_v19 ((extractStridedSlice S1x100 ![3, 0] · slices_S6x128_S1x100_3_0) : (⟨S6x128, .f32⟩ : BufTy).Contents (Elt F) → (⟨S1x100, .f32⟩ : BufTy).Contents (Elt F)),
    StableHlo.reshape main_v19 main_v20 (rfl : (.f32 : EltTy) = .f32) shapeCasts_S1x100_S100,
    StableHlo.unary main_v14 main_v21 (broadcastInDim S100x1 ![0] bcast_S100_S100x1_0 : (⟨S100, .f32⟩ : BufTy).Contents (Elt F) → (⟨S100x1, .f32⟩ : BufTy).Contents (Elt F)),
    StableHlo.unary main_v16 main_v22 (broadcastInDim S100x1 ![0] bcast_S100_S100x1_0 : (⟨S100, .f32⟩ : BufTy).Contents (Elt F) → (⟨S100x1, .f32⟩ : BufTy).Contents (Elt F)),
    StableHlo.unary main_v18 main_v23 (broadcastInDim S100x1 ![0] bcast_S100_S100x1_0 : (⟨S100, .f32⟩ : BufTy).Contents (Elt F) → (⟨S100x1, .f32⟩ : BufTy).Contents (Elt F)),
    StableHlo.unary main_v20 main_v24 (broadcastInDim S100x1 ![0] bcast_S100_S100x1_0 : (⟨S100, .f32⟩ : BufTy).Contents (Elt F) → (⟨S100x1, .f32⟩ : BufTy).Contents (Elt F)),
    StableHlo.nary ![main_v21, main_v22, main_v23, main_v24] main_v25 (fun u => (concatenate S100x4 1 [⟨S100x1, (u 0 : (⟨S100x1, .f32⟩ : BufTy).Contents (Elt F))⟩, ⟨S100x1, (u 1 : (⟨S100x1, .f32⟩ : BufTy).Contents (Elt F))⟩, ⟨S100x1, (u 2 : (⟨S100x1, .f32⟩ : BufTy).Contents (Elt F))⟩, ⟨S100x1, (u 3 : (⟨S100x1, .f32⟩ : BufTy).Contents (Elt F))⟩] concatenates_S100x1_S100x1_S100x1_S100x1_S100x4_d1 : (⟨S100x4, .f32⟩ : BufTy).Contents (Elt F))),
    StableHlo.unary main_v12 main_v26 ((extractStridedSlice S1x100 ![4, 0] · slices_S6x128_S1x100_4_0) : (⟨S6x128, .f32⟩ : BufTy).Contents (Elt F) → (⟨S1x100, .f32⟩ : BufTy).Contents (Elt F)),
    StableHlo.reshape main_v26 main_v27 (rfl : (.f32 : EltTy) = .f32) shapeCasts_S1x100_S100,
    StableHlo.unary main_v12 main_v28 ((extractStridedSlice S1x100 ![5, 0] · slices_S6x128_S1x100_5_0) : (⟨S6x128, .f32⟩ : BufTy).Contents (Elt F) → (⟨S1x100, .f32⟩ : BufTy).Contents (Elt F)),
    StableHlo.reshape main_v28 main_v29 (rfl : (.f32 : EltTy) = .f32) shapeCasts_S1x100_S100,
    StableHlo.unary main_v29 main_v30 (fptosi 32 : (⟨S100, .f32⟩ : BufTy).Contents (Elt F) → (⟨S100, .i32⟩ : BufTy).Contents (Elt F))]

theorem main_eq (d : Dev nD) : main (F := F) d =
    (StableHlo.seq (ops1 (F := F)) >>= fun _ => (Prog.lift (.customCall (SparseCore.inner (Pipeline.entry 0)) ())) >>= fun _ =>
      StableHlo.seq (opsR (F := F)) >>= fun _ => (K (F := F)).run d 0 >>= fun _ =>
      (Prog.lift (.customCall (SparseCore.inner (Pipeline.entry 1)) ())) >>= fun _ => StableHlo.seq (ops2 (F := F)) >>= fun _ => pure ⟨⟩) := by
  rw [StableHlo.seq_bind_seqK, StableHlo.seq_bind_seqK, StableHlo.seq_bind_seqK]
  rfl

theorem ops1_sub : ∀ op ∈ ops1 (F := F), op.bufs ⊆ Pipeline.ucRefs τ sig := by
  refine List.forall_iff_forall_mem.mp ?_
  refine ⟨?_, ?_, ?_, ?_, ?_, ?_, ?_, ?_, ?_⟩ <;> exact Pipeline.sub_ucRefs _ (by first | exact StableHlo.reshape_bufs_sub .. | exact StableHlo.unary_bufs_sub ..)
theorem opsR_sub : ∀ op ∈ opsR (F := F), op.bufs ⊆ Pipeline.ucRefs τ sig := by
  refine List.forall_iff_forall_mem.mp ?_
  exact Pipeline.sub_ucRefs _ (StableHlo.reshape_bufs_sub ..)
theorem ops2_sub : ∀ op ∈ ops2 (F := F), op.bufs ⊆ Pipeline.ucRefs τ sig := by
  refine List.forall_iff_forall_mem.mp ?_
  refine ⟨?_, ?_, ?_, ?_, ?_, ?_, ?_, ?_, ?_, ?_, ?_, ?_, ?_, ?_, ?_, ?_, ?_, ?_⟩ <;> exact Pipeline.sub_ucRefs _ (by first | exact StableHlo.reshape_bufs_sub .. | exact StableHlo.unary_bufs_sub .. | exact StableHlo.nary_bufs_sub ..)
theorem ops1_fresh : ∀ op ∈ ops1 (F := F), op.fresh = ∅ := by
  refine List.forall_iff_forall_mem.mp ?_
  refine ⟨?_, ?_, ?_, ?_, ?_, ?_, ?_, ?_, ?_⟩ <;> rfl
theorem opsR_fresh : ∀ op ∈ opsR (F := F), op.fresh = ∅ := by
  refine List.forall_iff_forall_mem.mp ?_
  exact rfl
theorem ops2_fresh : ∀ op ∈ ops2 (F := F), op.fresh = ∅ := by
  refine List.forall_iff_forall_mem.mp ?_
  refine ⟨?_, ?_, ?_, ?_, ?_, ?_, ?_, ?_, ?_, ?_, ?_, ?_, ?_, ?_, ?_, ?_, ?_, ?_⟩ <;> rfl

/-! ## The chain of valuations -/

variable (m : (ℓ : Loc nD τ sig) → Buf (Elt F) ℓ) (ρ : Dev nD → PrngReg)

/-- The valuation `W` of every core as the regions take it. -/
abbrev toVT (W : Dev nD → Valuation τ sig (Elt F)) : VT F := fun c b => W c (Proc.devRef .tc b)

/-- At the launch. -/
def V0 (d : Dev nD) : Valuation τ sig (Elt F) := fun b => m (d, b)
/-- After the host's first operations. -/
def V1 (d : Dev nD) : Valuation τ sig (Elt F) := StableHlo.after ops1 (V0 m d)
/-- After the dense stage. -/
def V1' (d : Dev nD) : Valuation τ sig (Elt F) := Function.update (V1 m d) (Proc.devRef .tc main_v9) (dense0 (toVT (V1 m)) d)
/-- After the planes are laid out flat. -/
def V2 (d : Dev nD) : Valuation τ sig (Elt F) := StableHlo.after opsR (V1' m d)
/-- The planes the tiles read, and what the output holds before. -/
def planes (d : Dev nD) : Vec F S409600 .f32 := V2 m d (Proc.devRef .tc main_v10)
def before (d : Dev nD) : Vec F S6x32x128 .f32 := V2 m d (Proc.devRef .tc main_v11)
/-- After the SparseCore call. -/
def V2' (d : Dev nD) : Valuation τ sig (Elt F) := Function.update (V2 m d) (Proc.devRef .tc main_v11) (outF (planes m d))
/-- After the suppression stage. -/
def V3 (d : Dev nD) : Valuation τ sig (Elt F) := Function.update (V2' m d) (Proc.devRef .tc main_v12) (nmsV (V2' m d (Proc.devRef .tc main_v11)))
/-- At the end. -/
def V4 (d : Dev nD) : Valuation τ sig (Elt F) := StableHlo.after ops2 (V3 m d)

/-- The payloads of the SparseCore call. -/
abbrev PAY := pay (F := F) (planes m) (before m)

/-! ## The ghost state at the launch -/

theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem ownU_split (a : UH) (b : UP) (c : Counters) : (ownU (a, (b, c)) : sProp 𝕄) ⊢ iprop(BI.own (EH a) ∗ BI.own (EP b)) := by
  refine (show (ownU (a, (b, c)) : sProp 𝕄) ⊢ BI.own ((uEmb (nD := nD) (sig := sig) (Ix := HIx 1) (Val := Elt F) (Name := ℕ) (U := UU) (Lvl := ℕ)).toEmb (a, (b, c))) from Entails.of_eq rfl).trans ?_
  iintro H
  ihave H1 := (own_pair_emb (uEmb (nD := nD) (sig := sig) (Ix := HIx 1) (Val := Elt F) (Name := ℕ) (U := UU) (Lvl := ℕ)).toEmb a (b, c)) $$ H
  icases H1 with ⟨Ha, Hbc⟩
  ihave H2 := (own_pair_emb ((Emb.inr : Emb (UP × Counters) UU).trans (uEmb (nD := nD) (sig := sig) (Ix := HIx 1) (Val := Elt F) (Name := ℕ) (U := UU) (Lvl := ℕ)).toEmb) b c) $$ Hbc
  icases H2 with ⟨Hb, -⟩
  isplitl [Ha]; · iexact Ha
  iexact Hb

/-- What the core holds of the pipelines' ghost state. -/
def ghost (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem Px (Pf : Dev nD → Vec F S409600 .f32) (of : Dev nD → Vec F S6x32x128 .f32) :
    (bigSep Finset.univ fun thr : Thread nD τ => bigSep Finset.univ fun q : Fin 1 => (pay (F := F) Pf of).x q thr) = iprop(emp) :=
  (bigSep_congr fun _ _ => bigSep_emp_const (Finset.univ : Finset (Fin 1))).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PAY m).x q thr) := by
  unfold u₀
  iintro Hu
  ihave H := (ownU_split _ _ _) $$ Hu
  icases H with ⟨HH, HP⟩
  imod (Pipeline.fund_ghost (Pipeline.pin (pcfgs (F := F)) adm) EP pin_inj) $$ HP with ⟨Hc, Ht⟩
  imodintro
  isplitl [HH]; · iexact HH
  isplitl [Hc Ht]
  · unfold ghost
    rw [bigSep_sep']
    isplitl [Hc] <;> iassumption
  rw [Px]; iempintro

/-! ## The TensorCore's program -/

/-- The pipelines' call lifted beneath the SparseCore's labels. -/
theorem region_wp {p : Fin 2} {V : VT F} {n : ℕ} (R : Pipeline.RegionSeg (pcfgs (F := F)) adm (pdats V n) none defs₀ 𝒱₀ (K (F := F)).L (K (F := F)).lev p) [∀ e, Nonempty (Elt F e)] (d : Dev nD) (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  refine BI.Entails.trans ?_ ((K (F := F)).wp_liftProg (D (F := F)) 𝒱 (SparseCore.T d) Set.univ none (.op (.customCall (Pipeline.entry p) ()) .ret) Q)
  refine BI.Entails.trans ?_ (Pipeline.RegionSeg.wp (pcfgs (F := F)) adm (pdats V n) none pin_inj EP defs₀ 𝒱₀ (K (F := F)).L (K (F := F)).lev R d none (fun _ h => nomatch h) .ret Q)
  rw [wp_ret]
  change (_ : sProp 𝕄) ⊢ _
  iintro ⟨Hk, H⟩
  isplitl [Hk]
  · iintro H; ihave H' := Hk $$ H; imodintro; iexact H'
  iexact H

/-- Every buffer of the core at the end's valuation. -/
abbrev FIN (d : Dev nD) : sProp 𝕄 := StableHlo.held (d.tc : Thread nD τ) (Pipeline.ucRefs τ sig) (V4 m d)

def SP : Finset (DevRef τ sig) := ((Pipeline.ucRefs τ sig).erase (Proc.devRef .tc main_v10)).erase (Proc.devRef .tc main_v11)

theorem held_split (d : Dev nD) (W : Valuation τ sig (Elt F)) :
    (StableHlo.held (d.tc : Thread nD τ) (Pipeline.ucRefs τ sig) W : sProp 𝕄)
      = iprop((pLoc d ↦{fullShare} W (Proc.devRef .tc main_v10)) ∗ (oLoc d ↦{fullShare} W (Proc.devRef .tc main_v11)) ∗ StableHlo.held (d.tc : Thread nD τ) SP W) := by
  unfold StableHlo.held SP
  rw [SparseCore.bigSep_erase' (show (Proc.devRef .tc main_v10 : DevRef τ sig) ∈ Pipeline.ucRefs τ sig from Finset.mem_filter.mpr ⟨StableHlo.devRef_mem_tcRefs _, by decide⟩),
    SparseCore.bigSep_erase' (show (Proc.devRef .tc main_v11 : DevRef τ sig) ∈ (Pipeline.ucRefs τ sig).erase (Proc.devRef .tc main_v10) from
      Finset.mem_erase.mpr ⟨by decide, Finset.mem_filter.mpr ⟨StableHlo.devRef_mem_tcRefs _, by decide⟩⟩)]

theorem V1'_out (c : Dev nD) : toVT (V1' m) c main_v9 = dense0 (toVT (V1 m)) c := Function.update_self ..
theorem V1'_ne (c : Dev nD) (b : Ref sig .tc) (h : b ≠ main_v9) : toVT (V1' m) c b = toVT (V1 m) c b :=
  Function.update_of_ne (StableHlo.devRef_ne_of_ne h) ..
theorem V3_out (c : Dev nD) : toVT (V3 m) c main_v12 = nmsV (toVT (V2' m) c main_v11) := Function.update_self ..
theorem V3_ne (c : Dev nD) (b : Ref sig .tc) (h : b ≠ main_v12) : toVT (V3 m) c b = toVT (V2' m) c b :=
  Function.update_of_ne (StableHlo.devRef_ne_of_ne h) ..

theorem held_V2' (d : Dev nD) : (StableHlo.held (d.tc : Thread nD τ) SP (V2 m d) : sProp 𝕄) = StableHlo.held (d.tc : Thread nD τ) SP (V2' m d) := by
  unfold StableHlo.held
  refine bigSep_congr fun b hb => ?_
  rw [V2', Function.update_of_ne (Finset.mem_erase.mp hb).1]

theorem st0_eq (d : Dev nD) : (bigSep Finset.univ fun c : Fin ((K (F := F)).nCore 0) => (PAY m).st 0 d c)
    = iprop((pLoc d ↦{fullShare} planes m d) ∗ (oLoc d ↦{fullShare} before m d)) := by
  rw [deal_all, deal_tiles (F := F)]; rfl
theorem dn0_eq (d : Dev nD) : (bigSep Finset.univ fun c : Fin ((K (F := F)).nCore 0) => (PAY m).dn 0 d c)
    = iprop((pLoc d ↦{fullShare} planes m d) ∗ (oLoc d ↦{fullShare} outF (planes m d))) := by
  rw [deal_all, deal_tiles (F := F)]; rfl

theorem V2'_planes (d : Dev nD) : V2' m d (Proc.devRef .tc main_v10) = planes m d := Function.update_of_ne (StableHlo.devRef_ne_of_ne (by decide)) ..
theorem V2'_out (d : Dev nD) : V2' m d (Proc.devRef .tc main_v11) = outF (planes m d) := Function.update_self ..

theorem pre0_eq (d : Dev nD) : ((reg0 (toVT (V1 m)) 0 (toVT (V1' m)) (fun _ => iprop(emp)) (V1'_out m) (V1'_ne m)).pre d : sProp 𝕄)
    = iprop(StableHlo.held (d.tc : Thread nD τ) (Pipeline.ucRefs τ sig) (V1 m d)
      ∗ ∃ W, ⌜(K (F := F)).WBelow (SparseCore.T d) W (8 * 0)⌝ ∗ owes (SparseCore.T d) ((K (F := F)).Otc d 0) W) := by
  rw [← Pipeline.unscopedBufs_held]
  exact congrArg (BI.sep _) (emp_sep_eq _)
theorem post0_eq (d : Dev nD) : ((reg0 (toVT (V1 m)) 0 (toVT (V1' m)) (fun _ => iprop(emp)) (V1'_out m) (V1'_ne m)).post d : sProp 𝕄)
    = iprop(StableHlo.held (d.tc : Thread nD τ) (Pipeline.ucRefs τ sig) (V1' m d)
      ∗ ∃ W, ⌜(K (F := F)).WBelow (SparseCore.T d) W (8 * 0)⌝ ∗ owes (SparseCore.T d) ((K (F := F)).Otc d 0) W) := by
  rw [← Pipeline.unscopedBufs_held]
  exact congrArg (BI.sep _) (emp_sep_eq _)
theorem pre2_eq (d : Dev nD) : ((reg2 (toVT (V2' m)) 1 (toVT (V3 m)) (fun _ => iprop(emp)) (V3_out m) (V3_ne m)).pre d : sProp 𝕄)
    = iprop(StableHlo.held (d.tc : Thread nD τ) (Pipeline.ucRefs τ sig) (V2' m d)
      ∗ ∃ W, ⌜(K (F := F)).WBelow (SparseCore.T d) W (8 * 1)⌝ ∗ owes (SparseCore.T d) ((K (F := F)).Otc d 1) W) := by
  rw [← Pipeline.unscopedBufs_held]
  exact congrArg (BI.sep _) (emp_sep_eq _)
theorem post2_eq (d : Dev nD) : ((reg2 (toVT (V2' m)) 1 (toVT (V3 m)) (fun _ => iprop(emp)) (V3_out m) (V3_ne m)).post d : sProp 𝕄)
    = iprop(StableHlo.held (d.tc : Thread nD τ) (Pipeline.ucRefs τ sig) (V3 m d)
      ∗ ∃ W, ⌜(K (F := F)).WBelow (SparseCore.T d) W (8 * 1)⌝ ∗ owes (SparseCore.T d) ((K (F := F)).Otc d 1) W) := by
  rw [← Pipeline.unscopedBufs_held]
  exact congrArg (BI.sep _) (emp_sep_eq _)

theorem held_V2'_all (d : Dev nD) : (StableHlo.held (d.tc : Thread nD τ) (Pipeline.ucRefs τ sig) (V2' m d) : sProp 𝕄)
    = iprop((pLoc d ↦{fullShare} planes m d) ∗ (oLoc d ↦{fullShare} outF (planes m d)) ∗ StableHlo.held (d.tc : Thread nD τ) SP (V2 m d)) := by
  rw [held_split, held_V2', V2'_planes, V2'_out]

/-- @main on a device's TensorCore. -/
theorem hmain [∀ e, Nonempty (Elt F e)] (κ : GSem nD τ sig → ℕ) (d : Dev nD) :
    iprop((K (F := F)).ctx EH (PAY m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = StableHlo.held (d.tc : Thread nD τ) (Pipeline.ucRefs τ sig) (V0 m d)
    from Pipeline.unscopedBufs_held d (V0 m d)]
  iintro ⟨#Hctx, Hst, ⟨Hb, Hh, Hts, -⟩, Hg⟩
  ihave #Hlev := (SparseCore.Cfg.ctx_levAts κ) $$ Hctx
  unfold ghost
  rw [show (Finset.univ : Finset (Fin 2)) = {0, 1} from rfl, SparseCore.bigSep_insert' (by decide), SparseCore.bigSep_insert' (by decide), bigSep_singleton, bigSep_singleton]
  icases Hg with ⟨⟨Hc0, Hc1⟩, Ht0, Ht1⟩
  iapply (StableHlo.wp_seq 𝒱 none Set.univ d (Pipeline.ucRefs τ sig) _ ops1 ops1_sub ops1_fresh (V0 m d)) $$ [Hb Hh]
  · isplitl [Hb] <;> iassumption
  iintro ⟨Hb, Hh⟩
  rw [wp_bind]
  unfold SparseCore.Cfg.tcSt
  icases Hst with ⟨HO, Hst⟩
  iapply (region_wp (reg0 (toVT (V1 m)) 0 (toVT (V1' m)) (fun _ => iprop(emp)) (V1'_out m) (V1'_ne m)) d)
  isplitr [Hb Hh HO Hc0 Ht0]
  swap
  · isplitl [Hb]; · iexact Hb
    isplitl [Hh HO]
    · iapply (Entails.of_eq (pre0_eq m d).symm)
      isplitl [Hh]; · iexact Hh
      iexact HO
    isplitr; · iexact Hlev
    isplitl [Hc0] <;> iassumption
  iintro ⟨Hb, Hp⟩
  ihave Hp' := (Entails.of_eq (post0_eq m d)) $$ Hp
  icases Hp' with ⟨Hh, HO⟩
  iapply (StableHlo.wp_seq 𝒱 none Set.univ d (Pipeline.ucRefs τ sig) _ opsR opsR_sub opsR_fresh (V1' m d)) $$ [Hb Hh]
  · isplitl [Hb] <;> iassumption
  iintro ⟨Hb, Hh⟩
  rw [wp_bind]
  ihave Hh1 := (Entails.of_eq (held_split d (StableHlo.after opsR (V1' m d)))) $$ Hh
  icases Hh1 with ⟨Hp, Ho, Hh⟩
  iapply ((K (F := F)).wp_run (D (F := F)) 𝒱 (EH := EH) (P := PAY m) κ d 0)
  isplitr; · iexact Hctx
  isplitl [HO Hst]
  · unfold SparseCore.Cfg.tcSt
    isplitl [HO]; · iexact HO
    iexact Hst
  isplitl [Hp Ho]
  · rw [st0_eq]
    isplitl [Hp]; · iexact Hp
    iexact Ho
  iintro ⟨Hst, Hdn⟩
  ihave Hdn' := (Entails.of_eq (dn0_eq m d)) $$ Hdn
  icases Hdn' with ⟨Hp, Ho⟩
  ihave Hh' := (Entails.of_eq (held_V2'_all m d).symm) $$ [Hp Ho Hh]
  · isplitl [Hp]; · iexact Hp
    isplitl [Ho]; · iexact Ho
    iexact Hh
  unfold SparseCore.Cfg.tcSt
  icases Hst with ⟨HO, Hst⟩
  rw [wp_bind]
  iapply (region_wp (reg2 (toVT (V2' m)) 1 (toVT (V3 m)) (fun _ => iprop(emp)) (V3_out m) (V3_ne m)) d)
  isplitr [Hb Hh' HO Hc1 Ht1]
  swap
  · isplitl [Hb]; · iexact Hb
    isplitl [Hh' HO]
    · iapply (Entails.of_eq (pre2_eq m d).symm)
      isplitl [Hh']; · iexact Hh'
      iexact HO
    isplitr; · iexact Hlev
    isplitl [Hc1] <;> iassumption
  iintro ⟨Hb, Hp⟩
  ihave Hp' := (Entails.of_eq (post2_eq m d)) $$ Hp
  icases Hp' with ⟨Hh, HO⟩
  iapply (StableHlo.wp_seq 𝒱 none Set.univ d (Pipeline.ucRefs τ sig) _ ops2 ops2_sub ops2_fresh (V3 m d)) $$ [Hb Hh]
  · isplitl [Hb] <;> iassumption
  iintro ⟨Hb, Hh⟩
  rw [wp_pure]
  imodintro
  isplitl [HO Hst]
  · isplitl [HO]; · iexact HO
    iexact Hst
  isplitl [Hh]; · iexact Hh
  isplitl [Hb] <;> iassumption

/-- A buffer of the core at the end. -/
theorem fin_one (d : Dev nD) (s' : Phys nD τ sig (Elt F)) (b : Ref sig .tc) (hb : b.isScoped = false) :
    iprop(FIN m d ∗ SI s') ⊢ (⌜s'.mem.mem ((d.tc : Thread nD τ).loc b) = V4 m d (Proc.devRef .tc b)⌝ : sProp 𝕄) := by
  unfold FIN StableHlo.held
  rw [SparseCore.bigSep_erase' (show (Proc.devRef .tc b : DevRef τ sig) ∈ Pipeline.ucRefs τ sig from
    Finset.mem_filter.mpr ⟨StableHlo.devRef_mem_tcRefs _, fun h => Bool.false_ne_true (hb.symm.trans h)⟩)]
  iintro ⟨⟨Hb, -⟩, HSI⟩
  ihave H := (SI_pointsTo_agree (st := s') (ℓ := (d.tc : Thread nD τ).loc b) (I := Finset.univ) (q := fullShare) (f := V4 m d (Proc.devRef .tc b))) $$ [HSI Hb]
  · isplitl [HSI] <;> iassumption
  icases H with %h
  ipureintro; exact funext fun i => h i (Finset.mem_univ i)

/-- What the end's memory holds on a device. -/
def fq (d : Dev nD) (s' : Phys nD τ sig (Elt F)) : Prop :=
  ∀ b : Ref sig .tc, b.isScoped = false → s'.mem.mem ((d.tc : Thread nD τ).loc b) = V4 m d (Proc.devRef .tc b)

theorem hfin (d : Dev nD) (s' : Phys nD τ sig (Elt F)) : iprop(FIN m d ∗ SI s') ⊢ (⌜fq m d s'⌝ : sProp 𝕄) :=
  (Laws.forall_intro fun b => (Laws.forall_intro fun hb => fin_one m d s' b hb).trans Laws.pure_forall.2).trans Laws.pure_forall.2

def QC : PUnit × MemSt nD τ sig (Elt F) → Prop := fun r =>
  (∀ d : Dev nD, ∀ b : Ref sig .tc, b.isScoped = false → r.2.mem ((d.tc : Thread nD τ).loc b) = V4 m d (Proc.devRef .tc b)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PAY m) (A := ∅) facts v₀
    (fun q hq => match q with | 0 => nomatch hq)
    (fun q _ => match q with | 0 => tileObl (planes m) (before m))
    (fun q _ => match q with | 0 => SparseCore.Cfg.VecSplit.of_plain (vecSplit (planes m) (before m)))
    m ρ main (fun d => ghost (F := F) d) (FIN m) (u₀ (F := F)) (sep_elim_left.trans (hu₀ m)) (hmain m ρ) (fq m) (hfin m) (QC m) (fun _ h hz => ⟨h, hz⟩)

end Cert.Proof.KI

end
-- ==== Proof.Frames.lean ====
/-
  What a run of the kernel leaves: its arguments unchanged and every semaphore at zero, for any float values.
-/
module

public import proofs.«01_k».proof.Proof.Launch

@[expose] public section

set_option maxRecDepth 16384

noncomputable section

namespace Cert.Proof.KI

open Cert.KernelIdeal Cert.KernelIdeal.Gen

open Idealize.ShloMosaic Idealize.ShloMosaic.TcCoe
open Idealize.ShloMosaic.StableHlo
open Idealize.SL Idealize.SL.RA Idealize.SL.BI Idealize.SL.Sem

variable {F : FTy → Type} [FloatOps F]
variable (m : (ℓ : Loc nD τ sig) → Buf (Elt F) ℓ) (ρ : Dev nD → PrngReg)

/-- The buffers that some operation of the host, a TensorCore stage or the SparseCore call writes. -/
def written : List (Ref sig .tc) := [main_v0, main_v1, main_v2, main_v3, main_v4, main_v5, main_v6, main_v7, main_v8, main_v9, main_v10,
  main_v11, main_v12, main_v13, main_v14, main_v15, main_v16, main_v17, main_v18, main_v19, main_v20, main_v21, main_v22, main_v23, main_v24,
  main_v25, main_v26, main_v27, main_v28, main_v29, main_v30]

theorem mem_written {y : Ref sig .tc} (h : y ∈ written) : ({Proc.devRef .tc y} : Finset (DevRef τ sig)) ⊆ (written.map (Proc.devRef (τ := τ) .tc)).toFinset :=
  Finset.singleton_subset_iff.mpr (List.mem_toFinset.mpr (List.mem_map_of_mem h))

theorem ops1_writes : (ops1 (F := F)).Forall fun op => op.writes ⊆ (written.map (Proc.devRef (τ := τ) .tc)).toFinset := by
  refine ⟨?_, ?_, ?_, ?_, ?_, ?_, ?_, ?_, ?_⟩ <;> exact mem_written (by decide)
theorem opsR_writes : (opsR (F := F)).Forall fun op => op.writes ⊆ (written.map (Proc.devRef (τ := τ) .tc)).toFinset :=
  mem_written (y := main_v10) (by decide)
theorem ops2_writes : (ops2 (F := F)).Forall fun op => op.writes ⊆ (written.map (Proc.devRef (τ := τ) .tc)).toFinset := by
  refine ⟨?_, ?_, ?_, ?_, ?_, ?_, ?_, ?_, ?_, ?_, ?_, ?_, ?_, ?_, ?_, ?_, ?_, ?_⟩ <;> exact mem_written (by decide)

/-- A buffer that nothing writes ends as it began. -/
theorem V4_kept (d : Dev nD) {b : Ref sig .tc} (h : b ∉ written) : V4 m d (Proc.devRef .tc b) = m ((d.tc : Thread nD τ).loc b) := by
  have ne {y : Ref sig .tc} (hy : y ∈ written) : (Proc.devRef .tc b : DevRef τ sig) ≠ Proc.devRef .tc y :=
    devRef_ne_of_ne fun e => h (e ▸ hy)
  rw [V4, after_of_writes_sub ops2 _ ops2_writes h, V3, Function.update_of_ne (ne (by decide)), V2', Function.update_of_ne (ne (by decide)), V2,
    after_of_writes_sub opsR _ opsR_writes h, V1', Function.update_of_ne (ne (by decide)), V1, after_of_writes_sub ops1 _ ops1_writes h]
  rfl

/-- The frame, at any float values. -/
theorem run_frame [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run Cert.KernelIdeal.defs _ _).mono (fun _ h => ⟨fun c =>
    ⟨(h.1 c main_arg0 rfl).trans (V4_kept m c (by decide)), (h.1 c main_arg1 rfl).trans (V4_kept m c (by decide)),
      (h.1 c main_arg2 rfl).trans (V4_kept m c (by decide))⟩, h.2⟩) (run_main m ρ)

end Cert.Proof.KI

end
-- ==== Proof.Ref.lean ====
/- The run of the reference: its main function is host operations, then one counted loop of a hundred trips. The operations
   before the loop are five lists, the loop's body twelve; every buffer ends at the fold of those lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- A buffer's contents at a shape and an element type. -/
abbrev CT (F : FTy → Type) [FloatOps F] (s : Shape) (e : EltTy) : Type := (⟨s, e⟩ : BufTy).Contents (Elt F)
local notation "C" => CT F
/-- A typed reference at a shape and an element type. -/
abbrev TR (s : Shape) (e : EltTy) : Type := StableHlo.TRef sig ⟨s, e⟩
/-- A program of the reference on one device. -/
abbrev RP (F : FTy → Type) [FloatOps F] (α : Type) : Type 1 :=
  Prog (TpuEff nD τ sig (Elt F) (HostLoop.Sig (Pipeline.Sig Λ₀ (Fin 0) fun p => (pcfgs (F := F) p).Adm) 1) .tc) α

/-! ## The operations -/

set_option maxHeartbeats 40000000 in
/-- Operations of the part before the loop, list 0. -/
abbrev pre0 : List (HloOp τ sig (Elt F)) :=
  [ StableHlo.unary main_arg0 main_v0 ((extractStridedSlice S1000x1 ![0, 2] · slices_S1000x4_S1000x1_0_2) : C S1000x4 .f32 → C S1000x1 .f32),
    StableHlo.reshape main_v0 main_v1 (rfl : (.f32 : EltTy) = .f32) shapeCasts_S1000x1_S1000,
    StableHlo.unary main_arg0 main_v2 ((extractStridedSlice S1000x1 ![0, 0] · slices_S1000x4_S1000x1_0_0) : C S1000x4 .f32 → C S1000x1 .f32),
    StableHlo.reshape main_v2 main_v3 (rfl : (.f32 : EltTy) = .f32) shapeCasts_S1000x1_S1000,
    StableHlo.binary main_v1 main_v3 main_v4 (subf : C S1000 .f32 → C S1000 .f32 → C S1000 .f32),
    StableHlo.unary main_arg0 main_v5 ((extractStridedSlice S1000x1 ![0, 3] · slices_S1000x4_S1000x1_0_3) : C S1000x4 .f32 → C S1000x1 .f32),
    StableHlo.reshape main_v5 main_v6 (rfl : (.f32 : EltTy) = .f32) shapeCasts_S1000x1_S1000,
    StableHlo.unary main_arg0 main_v7 ((extractStridedSlice S1000x1 ![0, 1] · slices_S1000x4_S1000x1_0_1) : C S1000x4 .f32 → C S1000x1 .f32),
    StableHlo.reshape main_v7 main_v8 (rfl : (.f32 : EltTy) = .f32) shapeCasts_S1000x1_S1000,
    StableHlo.binary main_v6 main_v8 main_v9 (subf : C S1000 .f32 → C S1000 .f32 → C S1000 .f32),
    StableHlo.unary main_arg0 main_v10 ((extractStridedSlice S1000x1 ![0, 0] · slices_S1000x4_S1000x1_0_0) : C S1000x4 .f32 → C S1000x1 .f32),
    StableHlo.reshape main_v10 main_v11 (rfl : (.f32 : EltTy) = .f32) shapeCasts_S1000x1_S1000,
    StableHlo.nullary main_cst (constant S_ .f32 0x3F000000#32),
    StableHlo.unary main_cst main_v12 (broadcastInDim S1000 ![] bcast_S_S1000 : C S_ .f32 → C S1000 .f32),
    StableHlo.binary main_v12 main_v4 main_v13 (mulf : C S1000 .f32 → C S1000 .f32 → C S1000 .f32),
    StableHlo.binary main_v11 main_v13 main_v14 (addf : C S1000 .f32 → C S1000 .f32 → C S1000 .f32),
    StableHlo.unary main_arg0 main_v15 ((extractStridedSlice S1000x1 ![0, 1] · slices_S1000x4_S1000x1_0_1) : C S1000x4 .f32 → C S1000x1 .f32),
    StableHlo.reshape main_v15 main_v16 (rfl : (.f32 : EltTy) = .f32) shapeCasts_S1000x1_S1000,
    StableHlo.nullary main_cst_0 (constant S_ .f32 0x3F000000#32),
    StableHlo.unary main_cst_0 main_v17 (broadcastInDim S1000 ![] bcast_S_S1000 : C S_ .f32 → C S1000 .f32),
    StableHlo.binary main_v17 main_v9 main_v18 (mulf : C S1000 .f32 → C S1000 .f32 → C S1000 .f32),
    StableHlo.binary main_v16 main_v18 main_v19 (addf : C S1000 .f32 → C S1000 .f32 → C S1000 .f32),
    StableHlo.reshape main_arg2 main_v20 (rfl : (.f32 : EltTy) = .f32) shapeCasts_S1000x320_S1000x80x4,
    StableHlo.unary main_v20 main_v21 ((extractStridedSlice S1000x80x1 ![0, 0, 0] · slices_S1000x80x4_S1000x80x1_0_0_0) : C S1000x80x4 .f32 → C S1000x80x1 .f32),
    StableHlo.reshape main_v21 main_v22 (rfl : (.f32 : EltTy) = .f32) shapeCasts_S1000x80x1_S1000x80,
    StableHlo.nullary main_cst_1 (constant S_ .f32 0x41200000#32),
    StableHlo.unary main_cst_1 main_v23 (broadcastInDim S1000x80 ![] bcast_S_S1000x80 : C S_ .f32 → C S1000x80 .f32),
    StableHlo.binary main_v22 main_v23 main_v24 (Host.divf : C S1000x80 .f32 → C S1000x80 .f32 → C S1000x80 .f32),
    StableHlo.unary main_v20 main_v25 ((extractStridedSlice S1000x80x1 ![0, 0, 1] · slices_S1000x80x4_S1000x80x1_0_0_1) : C S1000x80x4 .f32 → C S1000x80x1 .f32),
    StableHlo.reshape main_v25 main_v26 (rfl : (.f32 : EltTy) = .f32) shapeCasts_S1000x80x1_S1000x80,
    StableHlo.nullary main_cst_2 (constant S_ .f32 0x41200000#32),
    StableHlo.unary main_cst_2 main_v27 (broadcastInDim S1000x80 ![] bcast_S_S1000x80 : C S_ .f32 → C S1000x80 .f32),
    StableHlo.binary main_v26 main_v27 main_v28 (Host.divf : C S1000x80 .f32 → C S1000x80 .f32 → C S1000x80 .f32),
    StableHlo.unary main_v20 main_v29 ((extractStridedSlice S1000x80x1 ![0, 0, 2] · slices_S1000x80x4_S1000x80x1_0_0_2) : C S1000x80x4 .f32 → C S1000x80x1 .f32),
    StableHlo.reshape main_v29 main_v30 (rfl : (.f32 : EltTy) = .f32) shapeCasts_S1000x80x1_S1000x80,
    StableHlo.nullary main_cst_3 (constant S_ .f32 0x40A00000#32),
    StableHlo.unary main_cst_3 main_v31 (broadcastInDim S1000x80 ![] bcast_S_S1000x80 : C S_ .f32 → C S1000x80 .f32),
    StableHlo.binary main_v30 main_v31 main_v32 (Host.divf : C S1000x80 .f32 → C S1000x80 .f32 → C S1000x80 .f32),
    StableHlo.nullary main_cst_4 (constant S_ .f32 0x40845349#32),
    StableHlo.unary main_cst_4 main_v33 (broadcastInDim S1000x80 ![] bcast_S_S1000x80 : C S_ .f32 → C S1000x80 .f32),
    StableHlo.binary main_v32 main_v33 main_v34 (minimumf : C S1000x80 .f32 → C S1000x80 .f32 → C S1000x80 .f32),
    StableHlo.unary main_v20 main_v35 ((extractStridedSlice S1000x80x1 ![0, 0, 3] · slices_S1000x80x4_S1000x80x1_0_0_3) : C S1000x80x4 .f32 → C S1000x80x1 .f32),
    StableHlo.reshape main_v35 main_v36 (rfl : (.f32 : EltTy) = .f32) shapeCasts_S1000x80x1_S1000x80,
    StableHlo.nullary main_cst_5 (constant S_ .f32 0x40A00000#32),
    StableHlo.unary main_cst_5 main_v37 (broadcastInDim S1000x80 ![] bcast_S_S1000x80 : C S_ .f32 → C S1000x80 .f32),
    StableHlo.binary main_v36 main_v37 main_v38 (Host.divf : C S1000x80 .f32 → C S1000x80 .f32 → C S1000x80 .f32),
    StableHlo.nullary main_cst_6 (constant S_ .f32 0x40845349#32),
    StableHlo.unary main_cst_6 main_v39 (broadcastInDim S1000x80 ![] bcast_S_S1000x80 : C S_ .f32 → C S1000x80 .f32),
    StableHlo.binary main_v38 main_v39 main_v40 (minimumf : C S1000x80 .f32 → C S1000x80 .f32 → C S1000x80 .f32),
    StableHlo.unary main_v4 main_v41 (broadcastInDim S1000x1 ![0] bcast_S1000_S1000x1_0 : C S1000 .f32 → C S1000x1 .f32),
    StableHlo.unary main_v41 main_v42 (broadcastInDim S1000x80 ![0, 1] bcast_S1000x1_S1000x80_0_1 : C S1000x1 .f32 → C S1000x80 .f32),
    StableHlo.binary main_v24 main_v42 main_v43 (mulf : C S1000x80 .f32 → C S1000x80 .f32 → C S1000x80 .f32),
    StableHlo.unary main_v14 main_v44 (broadcastInDim S1000x1 ![0] bcast_S1000_S1000x1_0 : C S1000 .f32 → C S1000x1 .f32),
    StableHlo.unary main_v44 main_v45 (broadcastInDim S1000x80 ![0, 1] bcast_S1000x1_S1000x80_0_1 : C S1000x1 .f32 → C S1000x80 .f32),
    StableHlo.binary main_v43 main_v45 main_v46 (addf : C S1000x80 .f32 → C S1000x80 .f32 → C S1000x80 .f32),
    StableHlo.unary main_v9 main_v47 (broadcastInDim S1000x1 ![0] bcast_S1000_S1000x1_0 : C S1000 .f32 → C S1000x1 .f32),
    StableHlo.unary main_v47 main_v48 (broadcastInDim S1000x80 ![0, 1] bcast_S1000x1_S1000x80_0_1 : C S1000x1 .f32 → C S1000x80 .f32),
    StableHlo.binary main_v28 main_v48 main_v49 (mulf : C S1000x80 .f32 → C S1000x80 .f32 → C S1000x80 .f32),
    StableHlo.unary main_v19 main_v50 (broadcastInDim S1000x1 ![0] bcast_S1000_S1000x1_0 : C S1000 .f32 → C S1000x1 .f32),
    StableHlo.unary main_v50 main_v51 (broadcastInDim S1000x80 ![0, 1] bcast_S1000x1_S1000x80_0_1 : C S1000x1 .f32 → C S1000x80 .f32) ]
theorem pre0_sub : (pre0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩
theorem pre0_fresh : (pre0 : List (HloOp τ sig (Elt F))).Forall fun op => op.fresh = ∅ :=
  StableHlo.forall_fresh_of_map rfl
/-- What the list writes, in order. -/
abbrev pre0_W : List (Ref sig .tc) := [main_v0, main_v1, main_v2, main_v3, main_v4, main_v5, main_v6, main_v7, main_v8, main_v9, main_v10, main_v11, main_cst, main_v12, main_v13, main_v14, main_v15, main_v16, main_cst_0, main_v17, main_v18, main_v19, main_v20, main_v21, main_v22, main_cst_1, main_v23, main_v24, main_v25, main_v26, main_cst_2, main_v27, main_v28, main_v29, main_v30, main_cst_3, main_v31, main_v32, main_cst_4, main_v33, main_v34, main_v35, main_v36, main_cst_5, main_v37, main_v38, main_cst_6, main_v39, main_v40, main_v41, main_v42, main_v43, main_v44, main_v45, main_v46, main_v47, main_v48, main_v49, main_v50, main_v51]

set_option maxHeartbeats 40000000 in
/-- Operations of the part before the loop, list 1. -/
abbrev pre1 : List (HloOp τ sig (Elt F)) :=
  [ StableHlo.binary main_v49 main_v51 main_v52 (addf : C S1000x80 .f32 → C S1000x80 .f32 → C S1000x80 .f32),
    StableHlo.unary main_v34 main_v53 (Host.exp : C S1000x80 .f32 → C S1000x80 .f32),
    StableHlo.unary main_v4 main_v54 (broadcastInDim S1000x1 ![0] bcast_S1000_S1000x1_0 : C S1000 .f32 → C S1000x1 .f32),
    StableHlo.unary main_v54 main_v55 (broadcastInDim S1000x80 ![0, 1] bcast_S1000x1_S1000x80_0_1 : C S1000x1 .f32 → C S1000x80 .f32),
    StableHlo.binary main_v53 main_v55 main_v56 (mulf : C S1000x80 .f32 → C S1000x80 .f32 → C S1000x80 .f32),
    StableHlo.unary main_v40 main_v57 (Host.exp : C S1000x80 .f32 → C S1000x80 .f32),
    StableHlo.unary main_v9 main_v58 (broadcastInDim S1000x1 ![0] bcast_S1000_S1000x1_0 : C S1000 .f32 → C S1000x1 .f32),
    StableHlo.unary main_v58 main_v59 (broadcastInDim S1000x80 ![0, 1] bcast_S1000x1_S1000x80_0_1 : C S1000x1 .f32 → C S1000x80 .f32),
    StableHlo.binary main_v57 main_v59 main_v60 (mulf : C S1000x80 .f32 → C S1000x80 .f32 → C S1000x80 .f32),
    StableHlo.nullary main_cst_7 (constant S_ .f32 0x3F000000#32),
    StableHlo.unary main_cst_7 main_v61 (broadcastInDim S1000x80 ![] bcast_S_S1000x80 : C S_ .f32 → C S1000x80 .f32),
    StableHlo.binary main_v61 main_v56 main_v62 (mulf : C S1000x80 .f32 → C S1000x80 .f32 → C S1000x80 .f32),
    StableHlo.binary main_v46 main_v62 main_v63 (subf : C S1000x80 .f32 → C S1000x80 .f32 → C S1000x80 .f32),
    StableHlo.nullary main_cst_8 (constant S_ .f32 0x3F000000#32),
    StableHlo.unary main_cst_8 main_v64 (broadcastInDim S1000x80 ![] bcast_S_S1000x80 : C S_ .f32 → C S1000x80 .f32),
    StableHlo.binary main_v64 main_v60 main_v65 (mulf : C S1000x80 .f32 → C S1000x80 .f32 → C S1000x80 .f32),
    StableHlo.binary main_v52 main_v65 main_v66 (subf : C S1000x80 .f32 → C S1000x80 .f32 → C S1000x80 .f32),
    StableHlo.nullary main_cst_9 (constant S_ .f32 0x3F000000#32),
    StableHlo.unary main_cst_9 main_v67 (broadcastInDim S1000x80 ![] bcast_S_S1000x80 : C S_ .f32 → C S1000x80 .f32),
    StableHlo.binary main_v67 main_v56 main_v68 (mulf : C S1000x80 .f32 → C S1000x80 .f32 → C S1000x80 .f32),
    StableHlo.binary main_v46 main_v68 main_v69 (addf : C S1000x80 .f32 → C S1000x80 .f32 → C S1000x80 .f32),
    StableHlo.nullary main_cst_10 (constant S_ .f32 0x3F000000#32),
    StableHlo.unary main_cst_10 main_v70 (broadcastInDim S1000x80 ![] bcast_S_S1000x80 : C S_ .f32 → C S1000x80 .f32),
    StableHlo.binary main_v70 main_v60 main_v71 (mulf : C S1000x80 .f32 → C S1000x80 .f32 → C S1000x80 .f32),
    StableHlo.binary main_v52 main_v71 main_v72 (addf : C S1000x80 .f32 → C S1000x80 .f32 → C S1000x80 .f32),
    StableHlo.unary main_v63 main_v73 (broadcastInDim S1000x80x1 ![0, 1] bcast_S1000x80_S1000x80x1_0_1 : C S1000x80 .f32 → C S1000x80x1 .f32),
    StableHlo.unary main_v66 main_v74 (broadcastInDim S1000x80x1 ![0, 1] bcast_S1000x80_S1000x80x1_0_1 : C S1000x80 .f32 → C S1000x80x1 .f32),
    StableHlo.unary main_v69 main_v75 (broadcastInDim S1000x80x1 ![0, 1] bcast_S1000x80_S1000x80x1_0_1 : C S1000x80 .f32 → C S1000x80x1 .f32),
    StableHlo.unary main_v72 main_v76 (broadcastInDim S1000x80x1 ![0, 1] bcast_S1000x80_S1000x80x1_0_1 : C S1000x80 .f32 → C S1000x80x1 .f32),
    StableHlo.nary ![main_v73, main_v74, main_v75, main_v76] main_v77 (fun u => (concatenate S1000x80x4 2 [⟨S1000x80x1, (u 0 : C S1000x80x1 .f32)⟩, ⟨S1000x80x1, (u 1 : C S1000x80x1 .f32)⟩, ⟨S1000x80x1, (u 2 : C S1000x80x1 .f32)⟩, ⟨S1000x80x1, (u 3 : C S1000x80x1 .f32)⟩] concatenates_S1000x80x1_S1000x80x1_S1000x80x1_S1000x80x1_S1000x80x4_d2 : C S1000x80x4 .f32)),
    StableHlo.nullary main_cst_11 (constant S_ .f32 0xFF800000#32),
    StableHlo.binary main_arg1 main_cst_11 main_v78 ((fun x v => Host.reduce FloatOps.maximumf x v reducesTo_S1000x81_S1000_d1 h_S_) : C S1000x81 .f32 → C S_ .f32 → C S1000 .f32),
    StableHlo.nullary main_cst_12 (constant S_ .f32 0xFF800000#32),
    StableHlo.unary main_cst_12 main_v79 (broadcastInDim S1000 ![] bcast_S_S1000 : C S_ .f32 → C S1000 .f32),
    StableHlo.binary main_v79 main_v78 main_v80 (maximumf : C S1000 .f32 → C S1000 .f32 → C S1000 .f32),
    StableHlo.unary main_v80 main_v81 (broadcastInDim S1000x1 ![0] bcast_S1000_S1000x1_0 : C S1000 .f32 → C S1000x1 .f32),
    StableHlo.unary main_v81 main_v82 (broadcastInDim S1000x81 ![0, 1] bcast_S1000x1_S1000x81_0_1 : C S1000x1 .f32 → C S1000x81 .f32),
    StableHlo.binary main_arg1 main_v82 main_v83 (subf : C S1000x81 .f32 → C S1000x81 .f32 → C S1000x81 .f32),
    StableHlo.unary main_v83 main_v84 (Host.exp : C S1000x81 .f32 → C S1000x81 .f32),
    StableHlo.nullary main_cst_13 (constant S_ .f32 0x00000000#32),
    StableHlo.binary main_v84 main_cst_13 main_v85 ((fun x v => Host.reduceAdd x v reducesTo_S1000x81_S1000_d1 h_S_) : C S1000x81 .f32 → C S_ .f32 → C S1000 .f32),
    StableHlo.unary main_v85 main_v86 (broadcastInDim S1000x1 ![0] bcast_S1000_S1000x1_0 : C S1000 .f32 → C S1000x1 .f32),
    StableHlo.unary main_v86 main_v87 (broadcastInDim S1000x81 ![0, 1] bcast_S1000x1_S1000x81_0_1 : C S1000x1 .f32 → C S1000x81 .f32),
    StableHlo.binary main_v84 main_v87 main_v88 (Host.divf : C S1000x81 .f32 → C S1000x81 .f32 → C S1000x81 .f32),
    StableHlo.unary main_v88 main_v89 ((extractStridedSlice S1000x80 ![0, 0] · slices_S1000x81_S1000x80_0_0) : C S1000x81 .f32 → C S1000x80 .f32),
    StableHlo.nullary main_cst_14 (constant S_ .f32 0x3D4CCCCD#32),
    StableHlo.unary main_cst_14 main_v90 (broadcastInDim S1000x80 ![] bcast_S_S1000x80 : C S_ .f32 → C S1000x80 .f32),
    StableHlo.binary main_v89 main_v90 main_v91 (cmpf .ogt : C S1000x80 .f32 → C S1000x80 .f32 → C S1000x80 .i1),
    StableHlo.nullary main_cst_15 (constant S_ .f32 0xCE6E6B28#32) ]
theorem pre1_sub : (pre1 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
theorem pre1_fresh : (pre1 : List (HloOp τ sig (Elt F))).Forall fun op => op.fresh = ∅ :=
  StableHlo.forall_fresh_of_map rfl
/-- What the list writes, in order. -/
abbrev pre1_W : List (Ref sig .tc) := [main_v52, main_v53, main_v54, main_v55, main_v56, main_v57, main_v58, main_v59, main_v60, main_cst_7, main_v61, main_v62, main_v63, main_cst_8, main_v64, main_v65, main_v66, main_cst_9, main_v67, main_v68, main_v69, main_cst_10, main_v70, main_v71, main_v72, main_v73, main_v74, main_v75, main_v76, main_v77, main_cst_11, main_v78, main_cst_12, main_v79, main_v80, main_v81, main_v82, main_v83, main_v84, main_cst_13, main_v85, main_v86, main_v87, main_v88, main_v89, main_cst_14, main_v90, main_v91, main_cst_15]

set_option maxHeartbeats 40000000 in
/-- Operations of the part before the loop, list 2. -/
abbrev pre2 : List (HloOp τ sig (Elt F)) :=
  [ StableHlo.TRef.unary (.of main_cst_15 : TR S_ .f32) (.of main_call0_v0 : TR S_ .f32) id,
    StableHlo.TRef.unary (.of main_call0_v0 : TR S_ .f32) (.of main_call0_v1 : TR S1000x80 .f32) (broadcastInDim S1000x80 ![] bcast_S_S1000x80),
    StableHlo.TRef.ternary (.of main_v91 : TR S1000x80 .i1) (.of main_v89 : TR S1000x80 .f32) (.of main_call0_v1 : TR S1000x80 .f32) (.of main_v92 : TR S1000x80 .f32) select ]
theorem pre2_sub : (pre2 : List (HloOp τ sig (Elt F))).Forall fun op => op.bufs ⊆ StableHlo.tcRefs τ sig :=
  ⟨StableHlo.unary_bufs_sub .., StableHlo.unary_bufs_sub .., StableHlo.ternary_bufs_sub ..⟩
theorem pre2_fresh : (pre2 : List (HloOp τ sig (Elt F))).Forall fun op => op.fresh = ∅ :=
  StableHlo.forall_fresh_of_map rfl
/-- What the list writes, in order. -/
abbrev pre2_W : List (Ref sig .tc) := [main_call0_v0, main_call0_v1, main_v92]

set_option maxHeartbeats 40000000 in
/-- Operations of the part before the loop, list 3. -/
abbrev pre3 : List (HloOp τ sig (Elt F)) :=
  [ StableHlo.reshape main_v77 main_v93 (rfl : (.f32 : EltTy) = .f32) shapeCasts_S1000x80x4_S80000x4,
    StableHlo.reshape main_v92 main_v94 (rfl : (.f32 : EltTy) = .f32) shapeCasts_S1000x80_S80000,
    StableHlo.nullary main_v95 (iotaInDim S80 32 0),
    StableHlo.reshape main_v95 main_v96 (rfl : (.i32 : EltTy) = .i32) shapeCasts_S80_S1x80,
    StableHlo.unary main_v96 main_v97 (broadcastInDim S1000x80 ![0, 1] bcast_S1x80_S1000x80_0_1 : C S1x80 .i32 → C S1000x80 .i32),
    StableHlo.reshape main_v97 main_v98 (rfl : (.i32 : EltTy) = .i32) shapeCasts_S1000x80_S80000,
    StableHlo.unary main_v98 main_v99 (sitofp .f32 : C S80000 .i32 → C S80000 .f32),
    StableHlo.nullary main_cst_16 (constant S_ .f32 0x45800000#32),
    StableHlo.unary main_cst_16 main_v100 (broadcastInDim S80000 ![] bcast_S_S80000 : C S_ .f32 → C S80000 .f32),
    StableHlo.binary main_v99 main_v100 main_v101 (mulf : C S80000 .f32 → C S80000 .f32 → C S80000 .f32) ]
theorem pre3_sub : (pre3 : List (HloOp τ sig (Elt F))).Forall fun op => op.bufs ⊆ StableHlo.tcRefs τ sig :=
  ⟨StableHlo.reshape_bufs_sub .., StableHlo.reshape_bufs_sub .., StableHlo.nullary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub ..⟩
theorem pre3_fresh : (pre3 : List (HloOp τ sig (Elt F))).Forall fun op => op.fresh = ∅ :=
  StableHlo.forall_fresh_of_map rfl
/-- What the list writes, in order. -/
abbrev pre3_W : List (Ref sig .tc) := [main_v93, main_v94, main_v95, main_v96, main_v97, main_v98, main_v99, main_cst_16, main_v100, main_v101]

set_option maxHeartbeats 40000000 in
/-- Operations of the part before the loop, list 4. -/
abbrev pre4 : List (HloOp τ sig (Elt F)) :=
  [ StableHlo.unary main_v101 main_v102 (broadcastInDim S80000x1 ![0] bcast_S80000_S80000x1_0 : C S80000 .f32 → C S80000x1 .f32),
    StableHlo.unary main_v102 main_v103 (broadcastInDim S80000x4 ![0, 1] bcast_S80000x1_S80000x4_0_1 : C S80000x1 .f32 → C S80000x4 .f32),
    StableHlo.binary main_v93 main_v103 main_v104 (addf : C S80000x4 .f32 → C S80000x4 .f32 → C S80000x4 .f32),
    StableHlo.nullary main_cst_17 (constant S_ .f32 0x00000000#32),
    StableHlo.unary main_cst_17 main_v105 (broadcastInDim S100x4 ![] bcast_S_S100x4 : C S_ .f32 → C S100x4 .f32),
    StableHlo.nullary main_cst_18 (constant S_ .f32 0x00000000#32),
    StableHlo.unary main_cst_18 main_v106 (broadcastInDim S100 ![] bcast_S_S100 : C S_ .f32 → C S100 .f32),
    StableHlo.nullary main_c (constantI S_ 32 0#32),
    StableHlo.unary main_c main_v107 (broadcastInDim S100 ![] bcast_S_S100 : C S_ .i32 → C S100 .i32),
    StableHlo.nullary main_c_19 (constantI S_ 32 0#32),
    StableHlo.unary main_v93 main_v108_0 id,
    StableHlo.unary main_v104 main_v108_1 id,
    StableHlo.unary main_v98 main_v108_2 id,
    StableHlo.unary main_c_19 main_v108_3 id,
    StableHlo.unary main_v94 main_v108_4 id,
    StableHlo.unary main_v105 main_v108_5 id,
    StableHlo.unary main_v106 main_v108_6 id,
    StableHlo.unary main_v107 main_v108_7 id ]
theorem pre4_sub : (pre4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre4_fresh : (pre4 : List (HloOp τ sig (Elt F))).Forall fun op => op.fresh = ∅ :=
  StableHlo.forall_fresh_of_map rfl
/-- What the list writes, in order. -/
abbrev pre4_W : List (Ref sig .tc) := [main_v102, main_v103, main_v104, main_cst_17, main_v105, main_cst_18, main_v106, main_c, main_v107, main_c_19, main_v108_0, main_v108_1, main_v108_2, main_v108_3, main_v108_4, main_v108_5, main_v108_6, main_v108_7]

set_option maxHeartbeats 40000000 in
/-- Operations of the loop body, list 0. -/
abbrev trip0 : List (HloOp τ sig (Elt F)) :=
  [ StableHlo.TRef.nullary (.of main_while0b_call1_v0 : TR S80000 .i32) (iotaInDim S80000 32 0),
    StableHlo.TRef.nullary (.of main_while0b_call1_cst : TR S_ .f32) (constant S_ .f32 0xFF800000#32),
    StableHlo.TRef.nullary (.of main_while0b_call1_c : TR S_ .i32) (constantI S_ 32 0#32),
    StableHlo.TRef.quaternary (.of main_v108_4 : TR S80000 .f32) (.of main_while0b_call1_v0 : TR S80000 .i32) (.of main_while0b_call1_cst : TR S_ .f32) (.of main_while0b_call1_c : TR S_ .i32) (.of main_while0b_call1_v1_0 : TR S_ .f32) (fun x y u v j => (Host.argReduce reducer_argmax_f32_i32 x y u v reducesTo_S80000_S_d0 h_S_ j).1),
    StableHlo.TRef.quaternary (.of main_v108_4 : TR S80000 .f32) (.of main_while0b_call1_v0 : TR S80000 .i32) (.of main_while0b_call1_cst : TR S_ .f32) (.of main_while0b_call1_c : TR S_ .i32) (.of main_while0b_v109 : TR S_ .i32) (fun x y u v j => (Host.argReduce reducer_argmax_f32_i32 x y u v reducesTo_S80000_S_d0 h_S_ j).2) ]
theorem trip0_sub : (trip0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem trip0_fresh : (trip0 : List (HloOp τ sig (Elt F))).Forall fun op => op.fresh = ∅ :=
  StableHlo.forall_fresh_of_map rfl
/-- What the list writes, in order. -/
abbrev trip0_W : List (Ref sig .tc) := [main_while0b_call1_v0, main_while0b_call1_cst, main_while0b_call1_c, main_while0b_call1_v1_0, main_while0b_v109]

set_option maxHeartbeats 40000000 in
/-- Operations of the loop body, list 1. -/
abbrev trip1 : List (HloOp τ sig (Elt F)) :=
  [ StableHlo.nullary main_while0b_c_27 (constantI S_ 32 0#32),
    StableHlo.binary main_while0b_v109 main_while0b_c_27 main_while0b_v110 (cmpi .slt : C S_ .i32 → C S_ .i32 → C S_ .i1),
    StableHlo.nullary main_while0b_c_28 (constantI S_ 32 80000#32),
    StableHlo.binary main_while0b_v109 main_while0b_c_28 main_while0b_v111 (addi : C S_ .i32 → C S_ .i32 → C S_ .i32),
    StableHlo.ternary main_while0b_v110 main_while0b_v111 main_while0b_v109 main_while0b_v112 (select : C S_ .i1 → C S_ .i32 → C S_ .i32 → C S_ .i32),
    StableHlo.unaryIndexed main_v108_4 ![main_while0b_v112] ⟨S_, .i32⟩ main_while0b_v113 ((fun x i => Host.dynamicSlice S1 x (fun k => (i k (Shape.Idx.first h_S_)).toInt) sliceFits_S80000_S1) : C S80000 .f32 → (Fin 1 → C S_ .i32) → C S1 .f32),
    StableHlo.reshape main_while0b_v113 main_while0b_v114 (rfl : (.f32 : EltTy) = .f32) shapeCasts_S1_S_,
    StableHlo.nullary main_while0b_c_29 (constantI S_ 32 0#32),
    StableHlo.binary main_while0b_v109 main_while0b_c_29 main_while0b_v115 (cmpi .slt : C S_ .i32 → C S_ .i32 → C S_ .i1),
    StableHlo.nullary main_while0b_c_30 (constantI S_ 32 80000#32),
    StableHlo.binary main_while0b_v109 main_while0b_c_30 main_while0b_v116 (addi : C S_ .i32 → C S_ .i32 → C S_ .i32),
    StableHlo.ternary main_while0b_v115 main_while0b_v116 main_while0b_v109 main_while0b_v117 (select : C S_ .i1 → C S_ .i32 → C S_ .i32 → C S_ .i32),
    StableHlo.nullary main_while0b_c_31 (constantI S_ 32 0#32),
    StableHlo.nullary main_while0b_c_32 (constantI S_ 32 0#32),
    StableHlo.binary main_while0b_c_31 main_while0b_c_32 main_while0b_v118 (cmpi .slt : C S_ .i32 → C S_ .i32 → C S_ .i1),
    StableHlo.nullary main_while0b_c_33 (constantI S_ 32 0#32),
    StableHlo.nullary main_while0b_c_34 (constantI S_ 32 4#32),
    StableHlo.binary main_while0b_c_33 main_while0b_c_34 main_while0b_v119 (addi : C S_ .i32 → C S_ .i32 → C S_ .i32),
    StableHlo.nullary main_while0b_c_35 (constantI S_ 32 0#32),
    StableHlo.ternary main_while0b_v118 main_while0b_v119 main_while0b_c_35 main_while0b_v120 (select : C S_ .i1 → C S_ .i32 → C S_ .i32 → C S_ .i32),
    StableHlo.unaryIndexed main_v108_0 ![main_while0b_v117, main_while0b_v120] ⟨S_, .i32⟩ main_while0b_v121 ((fun x i => Host.dynamicSlice S1x4 x (fun k => (i k (Shape.Idx.first h_S_)).toInt) sliceFits_S80000x4_S1x4) : C S80000x4 .f32 → (Fin 2 → C S_ .i32) → C S1x4 .f32),
    StableHlo.reshape main_while0b_v121 main_while0b_v122 (rfl : (.f32 : EltTy) = .f32) shapeCasts_S1x4_S4,
    StableHlo.nullary main_while0b_c_36 (constantI S_ 32 0#32),
    StableHlo.binary main_while0b_v109 main_while0b_c_36 main_while0b_v123 (cmpi .slt : C S_ .i32 → C S_ .i32 → C S_ .i1),
    StableHlo.nullary main_while0b_c_37 (constantI S_ 32 80000#32),
    StableHlo.binary main_while0b_v109 main_while0b_c_37 main_while0b_v124 (addi : C S_ .i32 → C S_ .i32 → C S_ .i32),
    StableHlo.ternary main_while0b_v123 main_while0b_v124 main_while0b_v109 main_while0b_v125 (select : C S_ .i1 → C S_ .i32 → C S_ .i32 → C S_ .i32),
    StableHlo.nullary main_while0b_c_38 (constantI S_ 32 0#32),
    StableHlo.nullary main_while0b_c_39 (constantI S_ 32 0#32),
    StableHlo.binary main_while0b_c_38 main_while0b_c_39 main_while0b_v126 (cmpi .slt : C S_ .i32 → C S_ .i32 → C S_ .i1),
    StableHlo.nullary main_while0b_c_40 (constantI S_ 32 0#32),
    StableHlo.nullary main_while0b_c_41 (constantI S_ 32 4#32),
    StableHlo.binary main_while0b_c_40 main_while0b_c_41 main_while0b_v127 (addi : C S_ .i32 → C S_ .i32 → C S_ .i32),
    StableHlo.nullary main_while0b_c_42 (constantI S_ 32 0#32),
    StableHlo.ternary main_while0b_v126 main_while0b_v127 main_while0b_c_42 main_while0b_v128 (select : C S_ .i1 → C S_ .i32 → C S_ .i32 → C S_ .i32),
    StableHlo.unaryIndexed main_v108_1 ![main_while0b_v125, main_while0b_v128] ⟨S_, .i32⟩ main_while0b_v129 ((fun x i => Host.dynamicSlice S1x4 x (fun k => (i k (Shape.Idx.first h_S_)).toInt) sliceFits_S80000x4_S1x4) : C S80000x4 .f32 → (Fin 2 → C S_ .i32) → C S1x4 .f32),
    StableHlo.reshape main_while0b_v129 main_while0b_v130 (rfl : (.f32 : EltTy) = .f32) shapeCasts_S1x4_S4,
    StableHlo.nullary main_while0b_c_43 (constantI S_ 32 0#32),
    StableHlo.binary main_while0b_v109 main_while0b_c_43 main_while0b_v131 (cmpi .slt : C S_ .i32 → C S_ .i32 → C S_ .i1),
    StableHlo.nullary main_while0b_c_44 (constantI S_ 32 80000#32),
    StableHlo.binary main_while0b_v109 main_while0b_c_44 main_while0b_v132 (addi : C S_ .i32 → C S_ .i32 → C S_ .i32),
    StableHlo.ternary main_while0b_v131 main_while0b_v132 main_while0b_v109 main_while0b_v133 (select : C S_ .i1 → C S_ .i32 → C S_ .i32 → C S_ .i32),
    StableHlo.unaryIndexed main_v108_2 ![main_while0b_v133] ⟨S_, .i32⟩ main_while0b_v134 ((fun x i => Host.dynamicSlice S1 x (fun k => (i k (Shape.Idx.first h_S_)).toInt) sliceFits_S80000_S1) : C S80000 .i32 → (Fin 1 → C S_ .i32) → C S1 .i32),
    StableHlo.reshape main_while0b_v134 main_while0b_v135 (rfl : (.i32 : EltTy) = .i32) shapeCasts_S1_S_,
    StableHlo.unary main_while0b_v130 main_while0b_v136 ((extractStridedSlice S1 ![0] · slices_S4_S1_0) : C S4 .f32 → C S1 .f32),
    StableHlo.reshape main_while0b_v136 main_while0b_v137 (rfl : (.f32 : EltTy) = .f32) shapeCasts_S1_S_,
    StableHlo.unary main_v108_1 main_while0b_v138 ((extractStridedSlice S80000x1 ![0, 0] · slices_S80000x4_S80000x1_0_0) : C S80000x4 .f32 → C S80000x1 .f32),
    StableHlo.reshape main_while0b_v138 main_while0b_v139 (rfl : (.f32 : EltTy) = .f32) shapeCasts_S80000x1_S80000,
    StableHlo.unary main_while0b_v137 main_while0b_v140 (broadcastInDim S80000 ![] bcast_S_S80000 : C S_ .f32 → C S80000 .f32),
    StableHlo.binary main_while0b_v140 main_while0b_v139 main_while0b_v141 (maximumf : C S80000 .f32 → C S80000 .f32 → C S80000 .f32),
    StableHlo.unary main_while0b_v130 main_while0b_v142 ((extractStridedSlice S1 ![1] · slices_S4_S1_1) : C S4 .f32 → C S1 .f32),
    StableHlo.reshape main_while0b_v142 main_while0b_v143 (rfl : (.f32 : EltTy) = .f32) shapeCasts_S1_S_,
    StableHlo.unary main_v108_1 main_while0b_v144 ((extractStridedSlice S80000x1 ![0, 1] · slices_S80000x4_S80000x1_0_1) : C S80000x4 .f32 → C S80000x1 .f32),
    StableHlo.reshape main_while0b_v144 main_while0b_v145 (rfl : (.f32 : EltTy) = .f32) shapeCasts_S80000x1_S80000,
    StableHlo.unary main_while0b_v143 main_while0b_v146 (broadcastInDim S80000 ![] bcast_S_S80000 : C S_ .f32 → C S80000 .f32),
    StableHlo.binary main_while0b_v146 main_while0b_v145 main_while0b_v147 (maximumf : C S80000 .f32 → C S80000 .f32 → C S80000 .f32),
    StableHlo.unary main_while0b_v130 main_while0b_v148 ((extractStridedSlice S1 ![2] · slices_S4_S1_2) : C S4 .f32 → C S1 .f32),
    StableHlo.reshape main_while0b_v148 main_while0b_v149 (rfl : (.f32 : EltTy) = .f32) shapeCasts_S1_S_,
    StableHlo.unary main_v108_1 main_while0b_v150 ((extractStridedSlice S80000x1 ![0, 2] · slices_S80000x4_S80000x1_0_2) : C S80000x4 .f32 → C S80000x1 .f32),
    StableHlo.reshape main_while0b_v150 main_while0b_v151 (rfl : (.f32 : EltTy) = .f32) shapeCasts_S80000x1_S80000,
    StableHlo.unary main_while0b_v149 main_while0b_v152 (broadcastInDim S80000 ![] bcast_S_S80000 : C S_ .f32 → C S80000 .f32),
    StableHlo.binary main_while0b_v152 main_while0b_v151 main_while0b_v153 (minimumf : C S80000 .f32 → C S80000 .f32 → C S80000 .f32),
    StableHlo.unary main_while0b_v130 main_while0b_v154 ((extractStridedSlice S1 ![3] · slices_S4_S1_3) : C S4 .f32 → C S1 .f32),
    StableHlo.reshape main_while0b_v154 main_while0b_v155 (rfl : (.f32 : EltTy) = .f32) shapeCasts_S1_S_,
    StableHlo.unary main_v108_1 main_while0b_v156 ((extractStridedSlice S80000x1 ![0, 3] · slices_S80000x4_S80000x1_0_3) : C S80000x4 .f32 → C S80000x1 .f32),
    StableHlo.reshape main_while0b_v156 main_while0b_v157 (rfl : (.f32 : EltTy) = .f32) shapeCasts_S80000x1_S80000,
    StableHlo.unary main_while0b_v155 main_while0b_v158 (broadcastInDim S80000 ![] bcast_S_S80000 : C S_ .f32 → C S80000 .f32),
    StableHlo.binary main_while0b_v158 main_while0b_v157 main_while0b_v159 (minimumf : C S80000 .f32 → C S80000 .f32 → C S80000 .f32),
    StableHlo.binary main_while0b_v153 main_while0b_v141 main_while0b_v160 (subf : C S80000 .f32 → C S80000 .f32 → C S80000 .f32),
    StableHlo.nullary main_while0b_cst_45 (constant S_ .f32 0x00000000#32) ]
theorem trip1_sub : (trip1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub ..⟩
theorem trip1_fresh : (trip1 : List (HloOp τ sig (Elt F))).Forall fun op => op.fresh = ∅ :=
  StableHlo.forall_fresh_of_map rfl
/-- What the list writes, in order. -/
abbrev trip1_W : List (Ref sig .tc) := [main_while0b_c_27, main_while0b_v110, main_while0b_c_28, main_while0b_v111, main_while0b_v112, main_while0b_v113, main_while0b_v114, main_while0b_c_29, main_while0b_v115, main_while0b_c_30, main_while0b_v116, main_while0b_v117, main_while0b_c_31, main_while0b_c_32, main_while0b_v118, main_while0b_c_33, main_while0b_c_34, main_while0b_v119, main_while0b_c_35, main_while0b_v120, main_while0b_v121, main_while0b_v122, main_while0b_c_36, main_while0b_v123, main_while0b_c_37, main_while0b_v124, main_while0b_v125, main_while0b_c_38, main_while0b_c_39, main_while0b_v126, main_while0b_c_40, main_while0b_c_41, main_while0b_v127, main_while0b_c_42, main_while0b_v128, main_while0b_v129, main_while0b_v130, main_while0b_c_43, main_while0b_v131, main_while0b_c_44, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_cst_45]

set_option maxHeartbeats 40000000 in
/-- Operations of the loop body, list 2. -/
abbrev trip2 : List (HloOp τ sig (Elt F)) :=
  [ StableHlo.TRef.unary (.of main_while0b_cst_45 : TR S_ .f32) (.of main_while0b_call2_v0 : TR S_ .f32) id,
    StableHlo.TRef.unary (.of main_while0b_call2_v0 : TR S_ .f32) (.of main_while0b_call2_v1 : TR S80000 .f32) (broadcastInDim S80000 ![] bcast_S_S80000),
    StableHlo.TRef.binary (.of main_while0b_call2_v1 : TR S80000 .f32) (.of main_while0b_v160 : TR S80000 .f32) (.of main_while0b_v161 : TR S80000 .f32) maximumf ]
theorem trip2_sub : (trip2 : List (HloOp τ sig (Elt F))).Forall fun op => op.bufs ⊆ StableHlo.tcRefs τ sig :=
  ⟨StableHlo.unary_bufs_sub .., StableHlo.unary_bufs_sub .., StableHlo.binary_bufs_sub ..⟩
theorem trip2_fresh : (trip2 : List (HloOp τ sig (Elt F))).Forall fun op => op.fresh = ∅ :=
  StableHlo.forall_fresh_of_map rfl
/-- What the list writes, in order. -/
abbrev trip2_W : List (Ref sig .tc) := [main_while0b_call2_v0, main_while0b_call2_v1, main_while0b_v161]

set_option maxHeartbeats 40000000 in
/-- Operations of the loop body, list 3. -/
abbrev trip3 : List (HloOp τ sig (Elt F)) :=
  [ StableHlo.binary main_while0b_v159 main_while0b_v147 main_while0b_v162 (subf : C S80000 .f32 → C S80000 .f32 → C S80000 .f32),
    StableHlo.nullary main_while0b_cst_46 (constant S_ .f32 0x00000000#32) ]
theorem trip3_sub : (trip3 : List (HloOp τ sig (Elt F))).Forall fun op => op.bufs ⊆ StableHlo.tcRefs τ sig :=
  ⟨StableHlo.binary_bufs_sub .., StableHlo.nullary_bufs_sub ..⟩
theorem trip3_fresh : (trip3 : List (HloOp τ sig (Elt F))).Forall fun op => op.fresh = ∅ :=
  StableHlo.forall_fresh_of_map rfl
/-- What the list writes, in order. -/
abbrev trip3_W : List (Ref sig .tc) := [main_while0b_v162, main_while0b_cst_46]

set_option maxHeartbeats 40000000 in
/-- Operations of the loop body, list 4. -/
abbrev trip4 : List (HloOp τ sig (Elt F)) :=
  [ StableHlo.TRef.unary (.of main_while0b_cst_46 : TR S_ .f32) (.of main_while0b_call3_v0 : TR S_ .f32) id,
    StableHlo.TRef.unary (.of main_while0b_call3_v0 : TR S_ .f32) (.of main_while0b_call3_v1 : TR S80000 .f32) (broadcastInDim S80000 ![] bcast_S_S80000),
    StableHlo.TRef.binary (.of main_while0b_call3_v1 : TR S80000 .f32) (.of main_while0b_v162 : TR S80000 .f32) (.of main_while0b_v163 : TR S80000 .f32) maximumf ]
theorem trip4_sub : (trip4 : List (HloOp τ sig (Elt F))).Forall fun op => op.bufs ⊆ StableHlo.tcRefs τ sig :=
  ⟨StableHlo.unary_bufs_sub .., StableHlo.unary_bufs_sub .., StableHlo.binary_bufs_sub ..⟩
theorem trip4_fresh : (trip4 : List (HloOp τ sig (Elt F))).Forall fun op => op.fresh = ∅ :=
  StableHlo.forall_fresh_of_map rfl
/-- What the list writes, in order. -/
abbrev trip4_W : List (Ref sig .tc) := [main_while0b_call3_v0, main_while0b_call3_v1, main_while0b_v163]

set_option maxHeartbeats 40000000 in
/-- Operations of the loop body, list 5. -/
abbrev trip5 : List (HloOp τ sig (Elt F)) :=
  [ StableHlo.binary main_while0b_v161 main_while0b_v163 main_while0b_v164 (mulf : C S80000 .f32 → C S80000 .f32 → C S80000 .f32),
    StableHlo.unary main_while0b_v130 main_while0b_v165 ((extractStridedSlice S1 ![2] · slices_S4_S1_2) : C S4 .f32 → C S1 .f32),
    StableHlo.reshape main_while0b_v165 main_while0b_v166 (rfl : (.f32 : EltTy) = .f32) shapeCasts_S1_S_,
    StableHlo.unary main_while0b_v130 main_while0b_v167 ((extractStridedSlice S1 ![0] · slices_S4_S1_0) : C S4 .f32 → C S1 .f32),
    StableHlo.reshape main_while0b_v167 main_while0b_v168 (rfl : (.f32 : EltTy) = .f32) shapeCasts_S1_S_,
    StableHlo.binary main_while0b_v166 main_while0b_v168 main_while0b_v169 (subf : C S_ .f32 → C S_ .f32 → C S_ .f32),
    StableHlo.unary main_while0b_v130 main_while0b_v170 ((extractStridedSlice S1 ![3] · slices_S4_S1_3) : C S4 .f32 → C S1 .f32),
    StableHlo.reshape main_while0b_v170 main_while0b_v171 (rfl : (.f32 : EltTy) = .f32) shapeCasts_S1_S_,
    StableHlo.unary main_while0b_v130 main_while0b_v172 ((extractStridedSlice S1 ![1] · slices_S4_S1_1) : C S4 .f32 → C S1 .f32),
    StableHlo.reshape main_while0b_v172 main_while0b_v173 (rfl : (.f32 : EltTy) = .f32) shapeCasts_S1_S_,
    StableHlo.binary main_while0b_v171 main_while0b_v173 main_while0b_v174 (subf : C S_ .f32 → C S_ .f32 → C S_ .f32),
    StableHlo.binary main_while0b_v169 main_while0b_v174 main_while0b_v175 (mulf : C S_ .f32 → C S_ .f32 → C S_ .f32),
    StableHlo.unary main_v108_1 main_while0b_v176 ((extractStridedSlice S80000x1 ![0, 2] · slices_S80000x4_S80000x1_0_2) : C S80000x4 .f32 → C S80000x1 .f32),
    StableHlo.reshape main_while0b_v176 main_while0b_v177 (rfl : (.f32 : EltTy) = .f32) shapeCasts_S80000x1_S80000,
    StableHlo.unary main_v108_1 main_while0b_v178 ((extractStridedSlice S80000x1 ![0, 0] · slices_S80000x4_S80000x1_0_0) : C S80000x4 .f32 → C S80000x1 .f32),
    StableHlo.reshape main_while0b_v178 main_while0b_v179 (rfl : (.f32 : EltTy) = .f32) shapeCasts_S80000x1_S80000,
    StableHlo.binary main_while0b_v177 main_while0b_v179 main_while0b_v180 (subf : C S80000 .f32 → C S80000 .f32 → C S80000 .f32),
    StableHlo.unary main_v108_1 main_while0b_v181 ((extractStridedSlice S80000x1 ![0, 3] · slices_S80000x4_S80000x1_0_3) : C S80000x4 .f32 → C S80000x1 .f32),
    StableHlo.reshape main_while0b_v181 main_while0b_v182 (rfl : (.f32 : EltTy) = .f32) shapeCasts_S80000x1_S80000,
    StableHlo.unary main_v108_1 main_while0b_v183 ((extractStridedSlice S80000x1 ![0, 1] · slices_S80000x4_S80000x1_0_1) : C S80000x4 .f32 → C S80000x1 .f32),
    StableHlo.reshape main_while0b_v183 main_while0b_v184 (rfl : (.f32 : EltTy) = .f32) shapeCasts_S80000x1_S80000,
    StableHlo.binary main_while0b_v182 main_while0b_v184 main_while0b_v185 (subf : C S80000 .f32 → C S80000 .f32 → C S80000 .f32),
    StableHlo.binary main_while0b_v180 main_while0b_v185 main_while0b_v186 (mulf : C S80000 .f32 → C S80000 .f32 → C S80000 .f32),
    StableHlo.unary main_while0b_v175 main_while0b_v187 (broadcastInDim S80000 ![] bcast_S_S80000 : C S_ .f32 → C S80000 .f32),
    StableHlo.binary main_while0b_v187 main_while0b_v186 main_while0b_v188 (addf : C S80000 .f32 → C S80000 .f32 → C S80000 .f32),
    StableHlo.binary main_while0b_v188 main_while0b_v164 main_while0b_v189 (subf : C S80000 .f32 → C S80000 .f32 → C S80000 .f32),
    StableHlo.nullary main_while0b_cst_47 (constant S_ .f32 0x3089705F#32),
    StableHlo.unary main_while0b_cst_47 main_while0b_v190 (broadcastInDim S80000 ![] bcast_S_S80000 : C S_ .f32 → C S80000 .f32),
    StableHlo.binary main_while0b_v189 main_while0b_v190 main_while0b_v191 (addf : C S80000 .f32 → C S80000 .f32 → C S80000 .f32),
    StableHlo.binary main_while0b_v164 main_while0b_v191 main_while0b_v192 (Host.divf : C S80000 .f32 → C S80000 .f32 → C S80000 .f32),
    StableHlo.nullary main_while0b_cst_48 (constant S_ .f32 0x3F000000#32),
    StableHlo.unary main_while0b_cst_48 main_while0b_v193 (broadcastInDim S80000 ![] bcast_S_S80000 : C S_ .f32 → C S80000 .f32),
    StableHlo.binary main_while0b_v192 main_while0b_v193 main_while0b_v194 (cmpf .ogt : C S80000 .f32 → C S80000 .f32 → C S80000 .i1),
    StableHlo.nullary main_while0b_cst_49 (constant S_ .f32 0xCE6E6B28#32) ]
theorem trip5_sub : (trip5 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
theorem trip5_fresh : (trip5 : List (HloOp τ sig (Elt F))).Forall fun op => op.fresh = ∅ :=
  StableHlo.forall_fresh_of_map rfl
/-- What the list writes, in order. -/
abbrev trip5_W : List (Ref sig .tc) := [main_while0b_v164, main_while0b_v165, main_while0b_v166, main_while0b_v167, main_while0b_v168, main_while0b_v169, main_while0b_v170, main_while0b_v171, main_while0b_v172, main_while0b_v173, main_while0b_v174, main_while0b_v175, main_while0b_v176, main_while0b_v177, main_while0b_v178, main_while0b_v179, main_while0b_v180, main_while0b_v181, main_while0b_v182, main_while0b_v183, main_while0b_v184, main_while0b_v185, main_while0b_v186, main_while0b_v187, main_while0b_v188, main_while0b_v189, main_while0b_cst_47, main_while0b_v190, main_while0b_v191, main_while0b_v192, main_while0b_cst_48, main_while0b_v193, main_while0b_v194, main_while0b_cst_49]

set_option maxHeartbeats 40000000 in
/-- Operations of the loop body, list 6. -/
abbrev trip6 : List (HloOp τ sig (Elt F)) :=
  [ StableHlo.TRef.unary (.of main_while0b_cst_49 : TR S_ .f32) (.of main_while0b_call4_v0 : TR S_ .f32) id,
    StableHlo.TRef.unary (.of main_while0b_call4_v0 : TR S_ .f32) (.of main_while0b_call4_v1 : TR S80000 .f32) (broadcastInDim S80000 ![] bcast_S_S80000),
    StableHlo.TRef.ternary (.of main_while0b_v194 : TR S80000 .i1) (.of main_while0b_call4_v1 : TR S80000 .f32) (.of main_v108_4 : TR S80000 .f32) (.of main_while0b_v195 : TR S80000 .f32) select ]
theorem trip6_sub : (trip6 : List (HloOp τ sig (Elt F))).Forall fun op => op.bufs ⊆ StableHlo.tcRefs τ sig :=
  ⟨StableHlo.unary_bufs_sub .., StableHlo.unary_bufs_sub .., StableHlo.ternary_bufs_sub ..⟩
theorem trip6_fresh : (trip6 : List (HloOp τ sig (Elt F))).Forall fun op => op.fresh = ∅ :=
  StableHlo.forall_fresh_of_map rfl
/-- What the list writes, in order. -/
abbrev trip6_W : List (Ref sig .tc) := [main_while0b_call4_v0, main_while0b_call4_v1, main_while0b_v195]

set_option maxHeartbeats 40000000 in
/-- Operations of the loop body, list 7. -/
abbrev trip7 : List (HloOp τ sig (Elt F)) :=
  [ StableHlo.TRef.unary (.of main_while0b_v122 : TR S4 .f32) (.of main_while0b_call5_v0 : TR S1x4 .f32) (broadcastInDim S1x4 ![1] bcast_S4_S1x4_1),
    StableHlo.TRef.nullary (.of main_while0b_call5_c : TR S_ .i32) (constantI S_ 32 0#32),
    StableHlo.TRef.binaryIndexed (.of main_v108_5 : TR S100x4 .f32) (.of main_while0b_call5_v0 : TR S1x4 .f32) ![(.of main_v108_3 : TR S_ .i32), (.of main_while0b_call5_c : TR S_ .i32)] (.of main_while0b_v196 : TR S100x4 .f32) (fun x u i => Host.dynamicUpdateSlice x u (fun k => (i k (Shape.Idx.first h_S_)).toInt) updateFits_S100x4_S1x4) ]
theorem trip7_sub : (trip7 : List (HloOp τ sig (Elt F))).Forall fun op => op.bufs ⊆ StableHlo.tcRefs τ sig :=
  ⟨StableHlo.unary_bufs_sub .., StableHlo.nullary_bufs_sub .., StableHlo.binaryIndexed_bufs_sub ..⟩
theorem trip7_fresh : (trip7 : List (HloOp τ sig (Elt F))).Forall fun op => op.fresh = ∅ :=
  StableHlo.forall_fresh_of_map rfl
/-- What the list writes, in order. -/
abbrev trip7_W : List (Ref sig .tc) := [main_while0b_call5_v0, main_while0b_call5_c, main_while0b_v196]

set_option maxHeartbeats 40000000 in
/-- Operations of the loop body, list 8. -/
abbrev trip8 : List (HloOp τ sig (Elt F)) :=
  [ StableHlo.TRef.unary (.of main_while0b_v114 : TR S_ .f32) (.of main_while0b_call6_v0 : TR S1 .f32) (broadcastInDim S1 ![] bcast_S_S1),
    StableHlo.TRef.binaryIndexed (.of main_v108_6 : TR S100 .f32) (.of main_while0b_call6_v0 : TR S1 .f32) ![(.of main_v108_3 : TR S_ .i32)] (.of main_while0b_v197 : TR S100 .f32) (fun x u i => Host.dynamicUpdateSlice x u (fun k => (i k (Shape.Idx.first h_S_)).toInt) updateFits_S100_S1) ]
theorem trip8_sub : (trip8 : List (HloOp τ sig (Elt F))).Forall fun op => op.bufs ⊆ StableHlo.tcRefs τ sig :=
  ⟨StableHlo.unary_bufs_sub .., StableHlo.binaryIndexed_bufs_sub ..⟩
theorem trip8_fresh : (trip8 : List (HloOp τ sig (Elt F))).Forall fun op => op.fresh = ∅ :=
  StableHlo.forall_fresh_of_map rfl
/-- What the list writes, in order. -/
abbrev trip8_W : List (Ref sig .tc) := [main_while0b_call6_v0, main_while0b_v197]

set_option maxHeartbeats 40000000 in
/-- Operations of the loop body, list 9. -/
abbrev trip9 : List (HloOp τ sig (Elt F)) :=
  [ StableHlo.TRef.unary (.of main_while0b_v135 : TR S_ .i32) (.of main_while0b_call7_v0 : TR S1 .i32) (broadcastInDim S1 ![] bcast_S_S1),
    StableHlo.TRef.binaryIndexed (.of main_v108_7 : TR S100 .i32) (.of main_while0b_call7_v0 : TR S1 .i32) ![(.of main_v108_3 : TR S_ .i32)] (.of main_while0b_v198 : TR S100 .i32) (fun x u i => Host.dynamicUpdateSlice x u (fun k => (i k (Shape.Idx.first h_S_)).toInt) updateFits_S100_S1) ]
theorem trip9_sub : (trip9 : List (HloOp τ sig (Elt F))).Forall fun op => op.bufs ⊆ StableHlo.tcRefs τ sig :=
  ⟨StableHlo.unary_bufs_sub .., StableHlo.binaryIndexed_bufs_sub ..⟩
theorem trip9_fresh : (trip9 : List (HloOp τ sig (Elt F))).Forall fun op => op.fresh = ∅ :=
  StableHlo.forall_fresh_of_map rfl
/-- What the list writes, in order. -/
abbrev trip9_W : List (Ref sig .tc) := [main_while0b_call7_v0, main_while0b_v198]

set_option maxHeartbeats 40000000 in
/-- Operations of the loop body, list 10. -/
abbrev trip10 : List (HloOp τ sig (Elt F)) :=
  [ StableHlo.nullary main_while0b_c_50 (constantI S_ 32 1#32),
    StableHlo.binary main_v108_3 main_while0b_c_50 main_while0b_v199 (addi : C S_ .i32 → C S_ .i32 → C S_ .i32) ]
theorem trip10_sub : (trip10 : List (HloOp τ sig (Elt F))).Forall fun op => op.bufs ⊆ StableHlo.tcRefs τ sig :=
  ⟨StableHlo.nullary_bufs_sub .., StableHlo.binary_bufs_sub ..⟩
theorem trip10_fresh : (trip10 : List (HloOp τ sig (Elt F))).Forall fun op => op.fresh = ∅ :=
  StableHlo.forall_fresh_of_map rfl
/-- What the list writes, in order. -/
abbrev trip10_W : List (Ref sig .tc) := [main_while0b_c_50, main_while0b_v199]

set_option maxHeartbeats 40000000 in
/-- Operations of the loop body, list 11. -/
abbrev trip11 : List (HloOp τ sig (Elt F)) :=
  [ StableHlo.unary main_while0b_v199 main_v108_3 id,
    StableHlo.unary main_while0b_v195 main_v108_4 id,
    StableHlo.unary main_while0b_v196 main_v108_5 id,
    StableHlo.unary main_while0b_v197 main_v108_6 id,
    StableHlo.unary main_while0b_v198 main_v108_7 id ]
theorem trip11_sub : (trip11 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
theorem trip11_fresh : (trip11 : List (HloOp τ sig (Elt F))).Forall fun op => op.fresh = ∅ :=
  StableHlo.forall_fresh_of_map rfl
/-- What the list writes, in order. -/
abbrev trip11_W : List (Ref sig .tc) := [main_v108_3, main_v108_4, main_v108_5, main_v108_6, main_v108_7]

/-! ## The program as the chain of the lists -/

theorem part0_chain (c : Dev nD) : main_part0 (F := F) c = (Pipeline.chainK [] (StableHlo.seq pre0) : RP F PUnit) := by
  chain_rfl

theorem part1_chain (c : Dev nD) : main_part1 (F := F) c
    = (Pipeline.chainK [StableHlo.seq pre1, StableHlo.seq pre2] (StableHlo.seq pre3) : RP F PUnit) := by
  rewrite [StableHlo.chainK_seq_cons, Pipeline.chainK_cons]
  chain_rfl

theorem part2_chain (c : Dev nD) : main_part2 (F := F) c
    = (Pipeline.chain [StableHlo.seq pre4, HostLoop.enter 0] : RP F PUnit) := by
  rewrite [StableHlo.chain_seq_cons, Pipeline.chain_cons]
  chain_rfl

theorem main_chain (c : Dev nD) : main (F := F) c
    = (Pipeline.chain [StableHlo.seq pre0, StableHlo.seq pre1, StableHlo.seq pre2, StableHlo.seq pre3, StableHlo.seq pre4,
        HostLoop.enter 0] : RP F PUnit) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

theorem body_chain : main_while0_body (F := F) = (Pipeline.chain
    [StableHlo.seq trip0, StableHlo.seq trip1, StableHlo.seq trip2, StableHlo.seq trip3, StableHlo.seq trip4,
      StableHlo.seq trip5, StableHlo.seq trip6, StableHlo.seq trip7, StableHlo.seq trip8, StableHlo.seq trip9,
      StableHlo.seq trip10, StableHlo.seq trip11] : RP F PUnit) := by
  rewrite [Pipeline.chain_cons, StableHlo.chain_seq_cons, Pipeline.chain_cons, StableHlo.chain_seq_cons, Pipeline.chain_cons,
    StableHlo.chain_seq_cons, Pipeline.chain_cons, Pipeline.chain_cons, Pipeline.chain_cons, Pipeline.chain_cons,
    StableHlo.chain_seq_cons, StableHlo.chain_seq_cons]
  chain_rfl

/-! ## The lists together, the loop's condition and the run -/

/-- The condition's operations. -/
abbrev condOps : List (HloOp τ sig (Elt F)) :=
  [ StableHlo.nullary main_while0c_c_27 (constantI S_ 32 100#32),
    StableHlo.binary main_v108_3 main_while0c_c_27 main_while0c_v109 (cmpi .slt) ]
abbrev condOps_W : List (Ref sig .tc) := [main_while0c_c_27, main_while0c_v109]

abbrev preI : List (List (HloOp τ sig (Elt F))) := [pre0, pre1, pre2, pre3, pre4]
abbrev bodyI : List (List (HloOp τ sig (Elt F))) :=
  [trip0, trip1, trip2, trip3, trip4, trip5, trip6, trip7, trip8, trip9, trip10, trip11]

theorem hpreI : Plain (preI (F := F)) :=
  .cons pre0_sub (hf := List.forall_iff_forall_mem.mp pre0_fresh) (.cons pre1_sub (hf := List.forall_iff_forall_mem.mp pre1_fresh) (.cons pre2_sub (hf := List.forall_iff_forall_mem.mp pre2_fresh) (.cons pre3_sub (hf := List.forall_iff_forall_mem.mp pre3_fresh) (.cons pre4_sub (hf := List.forall_iff_forall_mem.mp pre4_fresh) (.nil)))))

theorem hbodyI : Plain (bodyI (F := F)) :=
  .cons trip0_sub (hf := List.forall_iff_forall_mem.mp trip0_fresh) (.cons trip1_sub (hf := List.forall_iff_forall_mem.mp trip1_fresh) (.cons trip2_sub (hf := List.forall_iff_forall_mem.mp trip2_fresh) (.cons trip3_sub (hf := List.forall_iff_forall_mem.mp trip3_fresh) (.cons trip4_sub (hf := List.forall_iff_forall_mem.mp trip4_fresh) (.cons trip5_sub (hf := List.forall_iff_forall_mem.mp trip5_fresh) (.cons trip6_sub (hf := List.forall_iff_forall_mem.mp trip6_fresh) (.cons trip7_sub (hf := List.forall_iff_forall_mem.mp trip7_fresh) (.cons trip8_sub (hf := List.forall_iff_forall_mem.mp trip8_fresh) (.cons trip9_sub (hf := List.forall_iff_forall_mem.mp trip9_fresh) (.cons trip10_sub (hf := List.forall_iff_forall_mem.mp trip10_fresh) (.cons trip11_sub (hf := List.forall_iff_forall_mem.mp trip11_fresh) (.nil))))))))))))

theorem condOps_writes : (condOps : List (HloOp τ sig (Elt F))).Forall fun op => op.writes ⊆ (condOps_W.map (Proc.devRef (τ := τ) .tc)).toFinset :=
  StableHlo.forall_writes_sub_of_map rfl
theorem pre0_writes : (pre0 : List (HloOp τ sig (Elt F))).Forall fun op => op.writes ⊆ (pre0_W.map (Proc.devRef (τ := τ) .tc)).toFinset :=
  StableHlo.forall_writes_sub_of_map rfl
theorem pre1_writes : (pre1 : List (HloOp τ sig (Elt F))).Forall fun op => op.writes ⊆ (pre1_W.map (Proc.devRef (τ := τ) .tc)).toFinset :=
  StableHlo.forall_writes_sub_of_map rfl
theorem pre2_writes : (pre2 : List (HloOp τ sig (Elt F))).Forall fun op => op.writes ⊆ (pre2_W.map (Proc.devRef (τ := τ) .tc)).toFinset :=
  StableHlo.forall_writes_sub_of_map rfl
theorem pre3_writes : (pre3 : List (HloOp τ sig (Elt F))).Forall fun op => op.writes ⊆ (pre3_W.map (Proc.devRef (τ := τ) .tc)).toFinset :=
  StableHlo.forall_writes_sub_of_map rfl
theorem pre4_writes : (pre4 : List (HloOp τ sig (Elt F))).Forall fun op => op.writes ⊆ (pre4_W.map (Proc.devRef (τ := τ) .tc)).toFinset :=
  StableHlo.forall_writes_sub_of_map rfl
theorem trip0_writes : (trip0 : List (HloOp τ sig (Elt F))).Forall fun op => op.writes ⊆ (trip0_W.map (Proc.devRef (τ := τ) .tc)).toFinset :=
  StableHlo.forall_writes_sub_of_map rfl
theorem trip1_writes : (trip1 : List (HloOp τ sig (Elt F))).Forall fun op => op.writes ⊆ (trip1_W.map (Proc.devRef (τ := τ) .tc)).toFinset :=
  StableHlo.forall_writes_sub_of_map rfl
theorem trip2_writes : (trip2 : List (HloOp τ sig (Elt F))).Forall fun op => op.writes ⊆ (trip2_W.map (Proc.devRef (τ := τ) .tc)).toFinset :=
  StableHlo.forall_writes_sub_of_map rfl
theorem trip3_writes : (trip3 : List (HloOp τ sig (Elt F))).Forall fun op => op.writes ⊆ (trip3_W.map (Proc.devRef (τ := τ) .tc)).toFinset :=
  StableHlo.forall_writes_sub_of_map rfl
theorem trip4_writes : (trip4 : List (HloOp τ sig (Elt F))).Forall fun op => op.writes ⊆ (trip4_W.map (Proc.devRef (τ := τ) .tc)).toFinset :=
  StableHlo.forall_writes_sub_of_map rfl
theorem trip5_writes : (trip5 : List (HloOp τ sig (Elt F))).Forall fun op => op.writes ⊆ (trip5_W.map (Proc.devRef (τ := τ) .tc)).toFinset :=
  StableHlo.forall_writes_sub_of_map rfl
theorem trip6_writes : (trip6 : List (HloOp τ sig (Elt F))).Forall fun op => op.writes ⊆ (trip6_W.map (Proc.devRef (τ := τ) .tc)).toFinset :=
  StableHlo.forall_writes_sub_of_map rfl
theorem trip7_writes : (trip7 : List (HloOp τ sig (Elt F))).Forall fun op => op.writes ⊆ (trip7_W.map (Proc.devRef (τ := τ) .tc)).toFinset :=
  StableHlo.forall_writes_sub_of_map rfl
theorem trip8_writes : (trip8 : List (HloOp τ sig (Elt F))).Forall fun op => op.writes ⊆ (trip8_W.map (Proc.devRef (τ := τ) .tc)).toFinset :=
  StableHlo.forall_writes_sub_of_map rfl
theorem trip9_writes : (trip9 : List (HloOp τ sig (Elt F))).Forall fun op => op.writes ⊆ (trip9_W.map (Proc.devRef (τ := τ) .tc)).toFinset :=
  StableHlo.forall_writes_sub_of_map rfl
theorem trip10_writes : (trip10 : List (HloOp τ sig (Elt F))).Forall fun op => op.writes ⊆ (trip10_W.map (Proc.devRef (τ := τ) .tc)).toFinset :=
  StableHlo.forall_writes_sub_of_map rfl
theorem trip11_writes : (trip11 : List (HloOp τ sig (Elt F))).Forall fun op => op.writes ⊆ (trip11_W.map (Proc.devRef (τ := τ) .tc)).toFinset :=
  StableHlo.forall_writes_sub_of_map rfl

/-- The references no list before the loop writes keep their contents. -/
theorem pre_keep (V : Valuation τ sig (Elt F)) (b : Ref sig .tc)
    (h : b ∉ pre0_W ++ pre1_W ++ pre2_W ++ pre3_W ++ pre4_W) : afterL preI V (Proc.devRef .tc b) = V (Proc.devRef .tc b) := by
  simp only [List.mem_append, not_or] at h
  simp only [afterL_cons, afterL_nil]
  rw [after_of_writes_sub pre4 _ pre4_writes h.2, after_of_writes_sub pre3 _ pre3_writes h.1.2,
    after_of_writes_sub pre2 _ pre2_writes h.1.1.2, after_of_writes_sub pre1 _ pre1_writes h.1.1.1.2,
    after_of_writes_sub pre0 _ pre0_writes h.1.1.1.1]

/-- The references no list of the body but the last writes keep their contents over those lists. -/
theorem trip_keep (V : Valuation τ sig (Elt F)) (b : Ref sig .tc)
    (h : b ∉ trip0_W ++ trip1_W ++ trip2_W ++ trip3_W ++ trip4_W ++ trip5_W ++ trip6_W ++ trip7_W ++ trip8_W ++ trip9_W ++ trip10_W) :
    afterL [trip0, trip1, trip2, trip3, trip4, trip5, trip6, trip7, trip8, trip9, trip10] V (Proc.devRef .tc b)
      = V (Proc.devRef .tc b) := by
  simp only [List.mem_append, not_or] at h
  simp only [afterL_cons, afterL_nil]
  rw [after_of_writes_sub trip10 _ trip10_writes h.2, after_of_writes_sub trip9 _ trip9_writes h.1.2,
    after_of_writes_sub trip8 _ trip8_writes h.1.1.2, after_of_writes_sub trip7 _ trip7_writes h.1.1.1.2,
    after_of_writes_sub trip6 _ trip6_writes h.1.1.1.1.2, after_of_writes_sub trip5 _ trip5_writes h.1.1.1.1.1.2,
    after_of_writes_sub trip4 _ trip4_writes h.1.1.1.1.1.1.2, after_of_writes_sub trip3 _ trip3_writes h.1.1.1.1.1.1.1.2,
    after_of_writes_sub trip2 _ trip2_writes h.1.1.1.1.1.1.1.1.2, after_of_writes_sub trip1 _ trip1_writes h.1.1.1.1.1.1.1.1.1.2,
    after_of_writes_sub trip0 _ trip0_writes h.1.1.1.1.1.1.1.1.1.1]

variable (m : (ℓ : Loc nD τ sig) → Buf (Elt F) ℓ) (ρ : Dev nD → PrngReg)

/-- Every buffer before the `k`-th run of the condition. -/
abbrev atK (k : ℕ) (c : Dev nD) : Valuation τ sig (Elt F) := atTrip condOps bodyI (entryContents preI m) k c

/-- Every buffer in trip `k` once the body has computed and before it copies the carried values back. -/
abbrev midK (k : ℕ) (c : Dev nD) : Valuation τ sig (Elt F) :=
  afterL [trip0, trip1, trip2, trip3, trip4, trip5, trip6, trip7, trip8, trip9, trip10] (after condOps (atK m k c))

theorem atK_succ (k : ℕ) (c : Dev nD) : atK m (k + 1) c = after trip11 (midK m k c) := rfl

theorem cond_keep (V : Valuation τ sig (Elt F)) (b : Ref sig .tc) (h : b ∉ condOps_W) :
    after condOps V (Proc.devRef .tc b) = V (Proc.devRef .tc b) :=
  after_of_writes_sub condOps V condOps_writes h

set_option maxRecDepth 100000 in
theorem copy_ctr (X : Valuation τ sig (Elt F)) :
    after trip11 X (Proc.devRef .tc main_v108_3) = X (Proc.devRef .tc main_while0b_v199) := by
  after_results
  rfl

set_option maxRecDepth 100000 in
theorem trip10_ctr (X : Valuation τ sig (Elt F)) :
    after trip10 X (Proc.devRef .tc main_while0b_v199) = addi (X (Proc.devRef .tc main_v108_3)) (constantI S_ 32 1#32) := by
  after_results

theorem mid_ctr (V : Valuation τ sig (Elt F)) :
    afterL [trip0, trip1, trip2, trip3, trip4, trip5, trip6, trip7, trip8, trip9, trip10] V (Proc.devRef .tc main_while0b_v199)
      = addi (V (Proc.devRef .tc main_v108_3)) (constantI S_ 32 1#32) := by
  have h := trip_keep V main_v108_3 (by decide +kernel)
  simp only [afterL_cons, afterL_nil] at h ⊢
  rw [trip10_ctr]
  rw [after_of_writes_sub trip10 _ trip10_writes (by decide +kernel)] at h
  rw [h]

theorem ctr_entry (c : Dev nD) : entryContents preI m c (Proc.devRef .tc main_v108_3) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v108_3) = fun _ => Scf.iv 0#32 1#32 k
  | 0 => by rw [show atK m 0 c = entryContents preI m c from rfl, ctr_entry, Scf.iv_zero]
  | k + 1 => by
    rw [atK_succ, copy_ctr, midK, mid_ctr, cond_keep _ _ (by decide +kernel), atK_ctr c k, Scf.iv_succ]
    rfl

set_option backward.isDefEq.respectTransparency.types false in
/-- The loop's condition holds exactly before the hundredth trip is over. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v108_3 HostLoop.idx0)
        (HloOp.result _ (atK m k c) main_while0c_c_27 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

/-- Every buffer at the end. -/
abbrev endV (c : Dev nD) : Valuation τ sig (Elt F) := after condOps (atK m 100 c)

set_option maxRecDepth 100000 in
/-- Every execution of the reference ends, with every buffer at its fold. -/
theorem run_ref : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = endV m c (Proc.devRef .tc b)) :=
  run_loop (pcfgs (F := F)) defs₀ loops main 0 main_while0_cond main_while0_body rfl preI bodyI [] condOps hpreI hbodyI .nil
    (fun c => by rw [main_chain]; rfl) (by rw [body_chain]; rfl) 100 m ρ (cond_spec m)

/-! ## What is kept -/

/-- A reference that nothing writes keeps its contents through every trip. -/
theorem atK_keep (c : Dev nD) (b : Ref sig .tc)
    (h₂ : b ∉ trip0_W ++ trip1_W ++ trip2_W ++ trip3_W ++ trip4_W ++ trip5_W ++ trip6_W ++ trip7_W ++ trip8_W ++ trip9_W ++ trip10_W)
    (h₃ : b ∉ trip11_W) (h₄ : b ∉ condOps_W) :
    ∀ k, atK m k c (Proc.devRef .tc b) = entryContents preI m c (Proc.devRef .tc b)
  | 0 => rfl
  | k + 1 => by
    rw [atK_succ, after_of_writes_sub trip11 _ trip11_writes h₃, midK, trip_keep _ _ h₂, cond_keep _ _ h₄,
      atK_keep c b h₂ h₃ h₄ k]

theorem arg_kept (c : Dev nD) (b : Ref sig .tc)
    (h₁ : b ∉ pre0_W ++ pre1_W ++ pre2_W ++ pre3_W ++ pre4_W)
    (h₂ : b ∉ trip0_W ++ trip1_W ++ trip2_W ++ trip3_W ++ trip4_W ++ trip5_W ++ trip6_W ++ trip7_W ++ trip8_W ++ trip9_W ++ trip10_W)
    (h₃ : b ∉ trip11_W) (h₄ : b ∉ condOps_W) :
    endV m c (Proc.devRef .tc b) = m ((c.tc : Thread nD τ).loc b) := by
  rw [endV, cond_keep _ _ h₄, atK_keep m c b h₂ h₃ h₄, entryContents, pre_keep _ _ h₁]

/-- The reference leaves its arguments alone, and has no semaphore. -/
theorem ref_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h c main_arg0 rfl).trans (arg_kept m c main_arg0 (by decide +kernel) (by decide +kernel) (by decide +kernel) (by decide +kernel)),
      (h c main_arg1 rfl).trans (arg_kept m c main_arg1 (by decide +kernel) (by decide +kernel) (by decide +kernel) (by decide +kernel)),
      (h c main_arg2 rfl).trans (arg_kept m c main_arg2 (by decide +kernel) (by decide +kernel) (by decide +kernel) (by decide +kernel))⟩,
    sem_eq_zero_of_no_sems (by decide) r.2⟩) (run_ref m ρ)

end Cert.Proof.RI

end
-- ==== Proof.Spec.lean ====
/-
  The problem's values over the extended reals, from the three arguments as plain functions: the scores, the decoded
  boxes, the offset boxes and the overlap of two boxes.
-/
module

public import Idealize.ShloMosaic.PureOps.Ideal
public import Idealize.ShloMosaic.PureOps.Ideal.Laws

@[expose] public section

noncomputable section

namespace Cert.Proof.Sp

open Idealize.ShloMosaic

/-- The score below which nothing is listed. -/
def thr : EReal := Ideal.ofBits FTy.f32 0x3D4CCCCD#32
/-- The score that stands for none. -/
def neg : EReal := Ideal.ofBits FTy.f32 0xCE6E6B28#32

/-- The greatest logit of a row. -/
def top (G : Fin 1000 → Fin 81 → EReal) (r : Fin 1000) : EReal :=
  Finset.fold max (Ideal.ofBits FTy.f32 0xFF800000#32) (fun k => G r k) Finset.univ

/-- The probability of a class. -/
def prob (G : Fin 1000 → Fin 81 → EReal) (r : Fin 1000) (c : Fin 81) : EReal :=
  Ideal.div (Ideal.exp (G r c - top G r)) (∑ k, Ideal.exp (G r k - top G r))

/-- The score of a class: its probability when that is above the threshold, and none otherwise. -/
def score (G : Fin 1000 → Fin 81 → EReal) (r : Fin 1000) (c : Fin 81) : EReal := if thr < prob G r c then prob G r c else neg

/-- Half of the extent that a box's width or height decodes to. -/
def halfExt (a b e : EReal) : EReal :=
  Ideal.ofBits FTy.f32 0x3F000000#32
    * (Ideal.exp (min (Ideal.div e (Ideal.ofBits FTy.f32 0x40A00000#32)) (Ideal.ofBits FTy.f32 0x40845349#32)) * (b - a))
/-- The centre that a box decodes to, along one axis. -/
def centre (a b d : EReal) : EReal :=
  Ideal.div d (Ideal.ofBits FTy.f32 0x41200000#32) * (b - a) + (a + Ideal.ofBits FTy.f32 0x3F000000#32 * (b - a))

/-- A coordinate of the decoded box of a proposal and a class. -/
def box (P : Fin 1000 → Fin 4 → EReal) (D : Fin 1000 → Fin 320 → EReal) (r : Fin 1000) (c : Fin 80) (p : Fin 4) : EReal :=
  match p with
  | 0 => centre (P r 0) (P r 2) (D r ⟨c.val * 4, by omega⟩) - halfExt (P r 0) (P r 2) (D r ⟨c.val * 4 + 2, by omega⟩)
  | 1 => centre (P r 1) (P r 3) (D r ⟨c.val * 4 + 1, by omega⟩) - halfExt (P r 1) (P r 3) (D r ⟨c.val * 4 + 3, by omega⟩)
  | 2 => centre (P r 0) (P r 2) (D r ⟨c.val * 4, by omega⟩) + halfExt (P r 0) (P r 2) (D r ⟨c.val * 4 + 2, by omega⟩)
  | 3 => centre (P r 1) (P r 3) (D r ⟨c.val * 4 + 1, by omega⟩) + halfExt (P r 1) (P r 3) (D r ⟨c.val * 4 + 3, by omega⟩)

/-- The offset that keeps the boxes of different classes apart. -/
def off (c : ℕ) : EReal := FloatOps.sitofp (F := Ideal) FTy.f32 (BitVec.ofNat 32 c) * Ideal.ofBits FTy.f32 0x45800000#32

/-- The proposal of a flat position. -/
def row (n : Fin 80000) : Fin 1000 := ⟨n.val / 80, by omega⟩
/-- The class of a flat position. -/
def col (n : Fin 80000) : Fin 80 := ⟨n.val % 80, by omega⟩

/-- The scores in order of flat position. -/
def sc (G : Fin 1000 → Fin 81 → EReal) (n : Fin 80000) : EReal := score G (row n) ⟨(col n).val, by omega⟩
/-- The offset boxes in order of flat position. -/
def ob (P : Fin 1000 → Fin 4 → EReal) (D : Fin 1000 → Fin 320 → EReal) (n : Fin 80000) (p : Fin 4) : EReal :=
  box P D (row n) (col n) p + off (col n).val

/-- The area common to two boxes. -/
def inter (a b : Fin 4 → EReal) : EReal :=
  max (Ideal.ofBits FTy.f32 0x00000000#32) (min (a 2) (b 2) - max (a 0) (b 0))
    * max (Ideal.ofBits FTy.f32 0x00000000#32) (min (a 3) (b 3) - max (a 1) (b 1))
/-- The area of a box. -/
def area (a : Fin 4 → EReal) : EReal := (a 2 - a 0) * (a 3 - a 1)
/-- The overlap of two boxes. -/
def iou (a b : Fin 4 → EReal) : EReal :=
  Ideal.div (inter a b) (area a + area b - inter a b + Ideal.ofBits FTy.f32 0x3089705F#32)
/-- Whether the first box suppresses the second. -/
def supp (a b : Fin 4 → EReal) : Prop := Ideal.ofBits FTy.f32 0x3F000000#32 < iou a b

/-- `j` is the first of the greatest. -/
def IsArg (x : Fin 80000 → EReal) (j : Fin 80000) : Prop := (∀ n, x n ≤ x j) ∧ ∀ n, n < j → x n < x j

theorem IsArg.unique {x : Fin 80000 → EReal} {i j : Fin 80000} (hi : IsArg x i) (hj : IsArg x j) : i = j := by
  rcases lt_trichotomy i j with h | h | h
  · exact absurd (hj.2 i h) (not_lt.2 (hi.1 j))
  · exact h
  · exact absurd (hi.2 j h) (not_lt.2 (hj.1 i))

/-- The first position of the greatest score. -/
def arg (x : Fin 80000 → EReal) : Fin 80000 := Classical.epsilon (IsArg x)

theorem IsArg.arg_eq {x : Fin 80000 → EReal} {j : Fin 80000} (hj : IsArg x j) : arg x = j :=
  (Classical.epsilon_spec (p := IsArg x) ⟨j, hj⟩).unique hj

open Classical in
/-- The scores after a pick: those that the picked box suppresses are dropped. -/
def drop (O : Fin 80000 → Fin 4 → EReal) (x : Fin 80000 → EReal) : Fin 80000 → EReal :=
  fun n => if supp (O (arg x)) (O n) then neg else x n

/-- The scores after a number of picks. -/
def run (O : Fin 80000 → Fin 4 → EReal) (x : Fin 80000 → EReal) : ℕ → Fin 80000 → EReal
  | 0 => x
  | k + 1 => drop O (run O x k)

end Cert.Proof.Sp

end
-- ==== Proof.RefVal.lean ====
/-
  What the reference computes, over the extended reals: the scores and the boxes before the loop, and one trip of the
  loop.
-/
module

public import proofs.«01_k».proof.Proof.Ref
public import proofs.«01_k».proof.Proof.Spec
public import Idealize.ShloMosaic.PureOps.Ideal
public import Idealize.ShloMosaic.PureOps.Ideal.Laws
public import Idealize.ShloMosaic.Lib.Pointwise
public import Idealize.ShloMosaic.Lib.IdealHost
public import Idealize.ShloMosaic.Lib.StableHlo.RunRead

@[expose] public section

set_option maxRecDepth 16384

noncomputable section

namespace Cert.Proof.RI

open Cert.ReferenceIdeal Cert.ReferenceIdeal.Gen

open Idealize.ShloMosaic Idealize.ShloMosaic.TcCoe
open Idealize.ShloMosaic.StableHlo
open Idealize.ShloMosaic.Pipeline

/-- The arguments as plain functions. -/
abbrev fP (V : Valuation τ sig (Elt Ideal)) : Fin 1000 → Fin 4 → EReal := fun r k => (V (Proc.devRef .tc main_arg0) : Vec Ideal S1000x4 .f32) (ix2 r k)
abbrev fG (V : Valuation τ sig (Elt Ideal)) : Fin 1000 → Fin 81 → EReal := fun r k => (V (Proc.devRef .tc main_arg1) : Vec Ideal S1000x81 .f32) (ix2 r k)
abbrev fD (V : Valuation τ sig (Elt Ideal)) : Fin 1000 → Fin 320 → EReal := fun r k => (V (Proc.devRef .tc main_arg2) : Vec Ideal S1000x320 .f32) (ix2 r k)

/-! ## Before the loop -/

theorem pre2_v92 (X : Valuation τ sig (Elt Ideal)) :
    (after pre2 X (Proc.devRef .tc main_v92) : Vec Ideal S1000x80 .f32)
      = select (X (Proc.devRef .tc main_v91) : Vec Ideal S1000x80 .i1) (X (Proc.devRef .tc main_v89) : Vec Ideal S1000x80 .f32)
          (broadcastInDim S1000x80 ![] bcast_S_S1000x80 (X (Proc.devRef .tc main_cst_15) : Vec Ideal S_ .f32)) := by
  after_reads_simp
  rfl

set_option maxRecDepth 100000 in
theorem pre34_v94 (Y : Valuation τ sig (Elt Ideal)) (n : Fin 80000) :
    (after pre4 (after pre3 Y) (Proc.devRef .tc main_v94) : Vec Ideal S80000 .f32) (ix1 n)
      = (Y (Proc.devRef .tc main_v92) : Vec Ideal S1000x80 .f32) (ix2 (Sp.row n) (Sp.col n)) := by
  after_reads_simp
  pointwise
  rfl

set_option maxRecDepth 100000 in
theorem pre01_v89 (V : Valuation τ sig (Elt Ideal)) (r : Fin 1000) (c : Fin 80) :
    (after pre1 (after pre0 V) (Proc.devRef .tc main_v89) : Vec Ideal S1000x80 .f32) (ix2 r c) = Sp.prob (fG V) r ⟨c.val, by omega⟩ := by
  after_reads_simp
  pointwise
  rw [max_eq_right ((Finset.le_fold_max _).2 (Or.inl le_rfl))]
  rfl

set_option maxRecDepth 100000 in
theorem pre01_v91 (V : Valuation τ sig (Elt Ideal)) :
    (after pre1 (after pre0 V) (Proc.devRef .tc main_v91) : Vec Ideal S1000x80 .i1)
      = cmpf .ogt (after pre1 (after pre0 V) (Proc.devRef .tc main_v89) : Vec Ideal S1000x80 .f32) (broadcastInDim S1000x80 ![] bcast_S_S1000x80 (constant (F := Ideal) S_ .f32 0x3D4CCCCD#32)) := by
  after_reads_simp

set_option maxRecDepth 100000 in
theorem pre_v93 (V : Valuation τ sig (Elt Ideal)) (n : Fin 80000) (p : Fin 4) :
    (afterL preI V (Proc.devRef .tc main_v93) : Vec Ideal S80000x4 .f32) (ix2 n p) = Sp.box (fP V) (fD V) (Sp.row n) (Sp.col n) p := by
  simp only [afterL_cons, afterL_nil]
  after_reads_simp
  match p with
  | 0 => pointwise; after_reads_simp; pointwise; rfl
  | 1 => pointwise; after_reads_simp; pointwise; rfl
  | 2 => pointwise; after_reads_simp; pointwise; rfl
  | 3 => pointwise; after_reads_simp; pointwise; rfl

set_option maxRecDepth 100000 in
theorem pre_v104 (V : Valuation τ sig (Elt Ideal)) (n : Fin 80000) (p : Fin 4) :
    (afterL preI V (Proc.devRef .tc main_v104) : Vec Ideal S80000x4 .f32) (ix2 n p) = Sp.ob (fP V) (fD V) n p := by
  unfold Sp.ob
  rw [← pre_v93 V n p]
  simp only [afterL_cons, afterL_nil]
  after_reads_simp
  pointwise
  rfl

set_option maxRecDepth 100000 in
theorem pre_v98 (V : Valuation τ sig (Elt Ideal)) (n : Fin 80000) :
    (afterL preI V (Proc.devRef .tc main_v98) : Vec Ideal S80000 .i32) (ix1 n) = BitVec.ofNat 32 (n.val % 80) := by
  simp only [afterL_cons, afterL_nil]
  after_reads_simp
  pointwise

set_option maxRecDepth 100000 in
theorem pre01_c15 (V : Valuation τ sig (Elt Ideal)) :
    (after pre1 (after pre0 V) (Proc.devRef .tc main_cst_15) : Vec Ideal S_ .f32) = fun _ => Sp.neg := by
  after_reads_simp
  rfl

theorem pre_v94 (V : Valuation τ sig (Elt Ideal)) (n : Fin 80000) :
    (afterL preI V (Proc.devRef .tc main_v94) : Vec Ideal S80000 .f32) (ix1 n) = Sp.sc (fG V) n := by
  simp only [afterL_cons, afterL_nil]
  rw [pre34_v94, pre2_v92, pre01_v91, pre01_c15]
  pointwise
  rw [pre01_v89]
  rfl

end Cert.Proof.RI

end
-- ==== Proof.RefStep.lean ====
/-
  One trip of the reference's loop, over the extended reals: the index it picks, the scores it leaves, and the entries it
  writes into the results.
-/
module

public import proofs.«01_k».proof.Proof.RefVal
public import Idealize.ShloMosaic.Lib.DynamicIndex

@[expose] public section

set_option maxRecDepth 16384

noncomputable section

namespace Cert.Proof.RI

open Cert.ReferenceIdeal Cert.ReferenceIdeal.Gen

open Idealize.ShloMosaic Idealize.ShloMosaic.TcCoe
open Idealize.ShloMosaic.StableHlo
open Idealize.ShloMosaic.Pipeline

/-- A vector over the flat positions, as a function. -/
abbrev fv (x : Vec Ideal S80000 .f32) : Fin 80000 → EReal := fun n => x (ix1 n)
/-- A table of boxes over the flat positions, as a function. -/
abbrev fb (x : Vec Ideal S80000x4 .f32) : Fin 80000 → Fin 4 → EReal := fun n p => x (ix2 n p)
/-- One box, as a function. -/
abbrev f4 (x : Vec Ideal S4 .f32) : Fin 4 → EReal := fun p => x (ix1 p)
/-- One number. -/
abbrev f0 (x : Vec Ideal S_ .f32) : EReal := x ix0
/-- The classes over the flat positions, as a function. -/
abbrev fi (x : Vec Ideal S80000 .i32) : Fin 80000 → BitVec 32 := fun n => x (ix1 n)

/-- One entry of a vector over the flat positions, cut out at an index read from a number. -/
theorem pick1 {α : Type} (x : S80000.Idx → α) (start : Fin 1 → Int) (j : Fin 80000) (e : start 0 = (j.val : Int)) :
    shapeCast S_ (Host.dynamicSlice S1 x start sliceFits_S80000_S1) shapeCasts_S1_S_ ix0 = x (ix1 j) := by
  rw [Host.dynamicSlice_eq_extractStridedSlice S1 x _ (fun _ => j.val) _
    ⟨rfl, fun a => by match a with | 0 => (have := j.isLt; show j.val + 1 ≤ 80000; omega)⟩ (fun a => by match a with | 0 => exact e)]
  pointwise

/-- One box of a table over the flat positions, cut out at an index read from a number. -/
theorem pick4 {α : Type} (x : S80000x4.Idx → α) (start : Fin 2 → Int) (j : Fin 80000) (e : start 0 = (j.val : Int)) (e' : start 1 = ((0 : Nat) : Int)) (p : Fin 4) :
    shapeCast S4 (Host.dynamicSlice S1x4 x start sliceFits_S80000x4_S1x4) shapeCasts_S1x4_S4 (ix1 p) = x (ix2 j p) := by
  rw [Host.dynamicSlice_eq_extractStridedSlice S1x4 x _ ![j.val, 0] _
    ⟨rfl, fun a => by match a with | 0 => (have := j.isLt; show j.val + 1 ≤ 80000; omega) | 1 => exact (by decide : 0 + 4 ≤ 4)⟩
    (fun a => by match a with | 0 => exact e | 1 => exact e')]
  pointwise

theorem trip0_v109 (X : Valuation τ sig (Elt Ideal)) :
    (after trip0 X (Proc.devRef .tc main_while0b_v109) : Vec Ideal S_ .i32)
      = fun j => (Host.argReduce reducer_argmax_f32_i32 (X (Proc.devRef .tc main_v108_4) : Vec Ideal S80000 .f32) (iotaInDim S80000 32 0)
          (constant (F := Ideal) S_ .f32 0xFF800000#32) (constantI S_ 32 0#32) reducesTo_S80000_S_d0 h_S_ j).2 := by
  after_reads_simp
  rfl

section

variable {F : FTy → Type} [FloatOps F]

local notation "C" => CT F

/-- Stretch 0 of the loop body's list 1. -/
abbrev trip1a : List (HloOp τ sig (Elt F)) :=
  [ StableHlo.nullary main_while0b_c_27 (constantI S_ 32 0#32),
    StableHlo.binary main_while0b_v109 main_while0b_c_27 main_while0b_v110 (cmpi .slt : C S_ .i32 → C S_ .i32 → C S_ .i1),
    StableHlo.nullary main_while0b_c_28 (constantI S_ 32 80000#32),
    StableHlo.binary main_while0b_v109 main_while0b_c_28 main_while0b_v111 (addi : C S_ .i32 → C S_ .i32 → C S_ .i32),
    StableHlo.ternary main_while0b_v110 main_while0b_v111 main_while0b_v109 main_while0b_v112 (select : C S_ .i1 → C S_ .i32 → C S_ .i32 → C S_ .i32) ]

/-- Stretch 1 of the loop body's list 1. -/
abbrev trip1b : List (HloOp τ sig (Elt F)) :=
  [ StableHlo.unaryIndexed main_v108_4 ![main_while0b_v112] ⟨S_, .i32⟩ main_while0b_v113 ((fun x i => Host.dynamicSlice S1 x (fun k => (i k (Shape.Idx.first h_S_)).toInt) sliceFits_S80000_S1) : C S80000 .f32 → (Fin 1 → C S_ .i32) → C S1 .f32),
    StableHlo.reshape main_while0b_v113 main_while0b_v114 (rfl : (.f32 : EltTy) = .f32) shapeCasts_S1_S_ ]

/-- Stretch 2 of the loop body's list 1. -/
abbrev trip1c : List (HloOp τ sig (Elt F)) :=
  [ StableHlo.nullary main_while0b_c_29 (constantI S_ 32 0#32),
    StableHlo.binary main_while0b_v109 main_while0b_c_29 main_while0b_v115 (cmpi .slt : C S_ .i32 → C S_ .i32 → C S_ .i1),
    StableHlo.nullary main_while0b_c_30 (constantI S_ 32 80000#32),
    StableHlo.binary main_while0b_v109 main_while0b_c_30 main_while0b_v116 (addi : C S_ .i32 → C S_ .i32 → C S_ .i32),
    StableHlo.ternary main_while0b_v115 main_while0b_v116 main_while0b_v109 main_while0b_v117 (select : C S_ .i1 → C S_ .i32 → C S_ .i32 → C S_ .i32),
    StableHlo.nullary main_while0b_c_31 (constantI S_ 32 0#32),
    StableHlo.nullary main_while0b_c_32 (constantI S_ 32 0#32),
    StableHlo.binary main_while0b_c_31 main_while0b_c_32 main_while0b_v118 (cmpi .slt : C S_ .i32 → C S_ .i32 → C S_ .i1),
    StableHlo.nullary main_while0b_c_33 (constantI S_ 32 0#32),
    StableHlo.nullary main_while0b_c_34 (constantI S_ 32 4#32),
    StableHlo.binary main_while0b_c_33 main_while0b_c_34 main_while0b_v119 (addi : C S_ .i32 → C S_ .i32 → C S_ .i32),
    StableHlo.nullary main_while0b_c_35 (constantI S_ 32 0#32),
    StableHlo.ternary main_while0b_v118 main_while0b_v119 main_while0b_c_35 main_while0b_v120 (select : C S_ .i1 → C S_ .i32 → C S_ .i32 → C S_ .i32) ]

/-- Stretch 3 of the loop body's list 1. -/
abbrev trip1d : List (HloOp τ sig (Elt F)) :=
  [ StableHlo.unaryIndexed main_v108_0 ![main_while0b_v117, main_while0b_v120] ⟨S_, .i32⟩ main_while0b_v121 ((fun x i => Host.dynamicSlice S1x4 x (fun k => (i k (Shape.Idx.first h_S_)).toInt) sliceFits_S80000x4_S1x4) : C S80000x4 .f32 → (Fin 2 → C S_ .i32) → C S1x4 .f32),
    StableHlo.reshape main_while0b_v121 main_while0b_v122 (rfl : (.f32 : EltTy) = .f32) shapeCasts_S1x4_S4 ]

/-- Stretch 4 of the loop body's list 1. -/
abbrev trip1e : List (HloOp τ sig (Elt F)) :=
  [ StableHlo.nullary main_while0b_c_36 (constantI S_ 32 0#32),
    StableHlo.binary main_while0b_v109 main_while0b_c_36 main_while0b_v123 (cmpi .slt : C S_ .i32 → C S_ .i32 → C S_ .i1),
    StableHlo.nullary main_while0b_c_37 (constantI S_ 32 80000#32),
    StableHlo.binary main_while0b_v109 main_while0b_c_37 main_while0b_v124 (addi : C S_ .i32 → C S_ .i32 → C S_ .i32),
    StableHlo.ternary main_while0b_v123 main_while0b_v124 main_while0b_v109 main_while0b_v125 (select : C S_ .i1 → C S_ .i32 → C S_ .i32 → C S_ .i32),
    StableHlo.nullary main_while0b_c_38 (constantI S_ 32 0#32),
    StableHlo.nullary main_while0b_c_39 (constantI S_ 32 0#32),
    StableHlo.binary main_while0b_c_38 main_while0b_c_39 main_while0b_v126 (cmpi .slt : C S_ .i32 → C S_ .i32 → C S_ .i1),
    StableHlo.nullary main_while0b_c_40 (constantI S_ 32 0#32),
    StableHlo.nullary main_while0b_c_41 (constantI S_ 32 4#32),
    StableHlo.binary main_while0b_c_40 main_while0b_c_41 main_while0b_v127 (addi : C S_ .i32 → C S_ .i32 → C S_ .i32),
    StableHlo.nullary main_while0b_c_42 (constantI S_ 32 0#32),
    StableHlo.ternary main_while0b_v126 main_while0b_v127 main_while0b_c_42 main_while0b_v128 (select : C S_ .i1 → C S_ .i32 → C S_ .i32 → C S_ .i32) ]

/-- Stretch 5 of the loop body's list 1. -/
abbrev trip1f : List (HloOp τ sig (Elt F)) :=
  [ StableHlo.unaryIndexed main_v108_1 ![main_while0b_v125, main_while0b_v128] ⟨S_, .i32⟩ main_while0b_v129 ((fun x i => Host.dynamicSlice S1x4 x (fun k => (i k (Shape.Idx.first h_S_)).toInt) sliceFits_S80000x4_S1x4) : C S80000x4 .f32 → (Fin 2 → C S_ .i32) → C S1x4 .f32),
    StableHlo.reshape main_while0b_v129 main_while0b_v130 (rfl : (.f32 : EltTy) = .f32) shapeCasts_S1x4_S4 ]

/-- Stretch 6 of the loop body's list 1. -/
abbrev trip1g : List (HloOp τ sig (Elt F)) :=
  [ StableHlo.nullary main_while0b_c_43 (constantI S_ 32 0#32),
    StableHlo.binary main_while0b_v109 main_while0b_c_43 main_while0b_v131 (cmpi .slt : C S_ .i32 → C S_ .i32 → C S_ .i1),
    StableHlo.nullary main_while0b_c_44 (constantI S_ 32 80000#32),
    StableHlo.binary main_while0b_v109 main_while0b_c_44 main_while0b_v132 (addi : C S_ .i32 → C S_ .i32 → C S_ .i32),
    StableHlo.ternary main_while0b_v131 main_while0b_v132 main_while0b_v109 main_while0b_v133 (select : C S_ .i1 → C S_ .i32 → C S_ .i32 → C S_ .i32) ]

/-- Stretch 7 of the loop body's list 1. -/
abbrev trip1h : List (HloOp τ sig (Elt F)) :=
  [ StableHlo.unaryIndexed main_v108_2 ![main_while0b_v133] ⟨S_, .i32⟩ main_while0b_v134 ((fun x i => Host.dynamicSlice S1 x (fun k => (i k (Shape.Idx.first h_S_)).toInt) sliceFits_S80000_S1) : C S80000 .i32 → (Fin 1 → C S_ .i32) → C S1 .i32),
    StableHlo.reshape main_while0b_v134 main_while0b_v135 (rfl : (.i32 : EltTy) = .i32) shapeCasts_S1_S_ ]

/-- Stretch 8 of the loop body's list 1. -/
abbrev trip1i : List (HloOp τ sig (Elt F)) :=
  [ StableHlo.unary main_while0b_v130 main_while0b_v136 ((extractStridedSlice S1 ![0] · slices_S4_S1_0) : C S4 .f32 → C S1 .f32),
    StableHlo.reshape main_while0b_v136 main_while0b_v137 (rfl : (.f32 : EltTy) = .f32) shapeCasts_S1_S_,
    StableHlo.unary main_v108_1 main_while0b_v138 ((extractStridedSlice S80000x1 ![0, 0] · slices_S80000x4_S80000x1_0_0) : C S80000x4 .f32 → C S80000x1 .f32),
    StableHlo.reshape main_while0b_v138 main_while0b_v139 (rfl : (.f32 : EltTy) = .f32) shapeCasts_S80000x1_S80000,
    StableHlo.unary main_while0b_v137 main_while0b_v140 (broadcastInDim S80000 ![] bcast_S_S80000 : C S_ .f32 → C S80000 .f32),
    StableHlo.binary main_while0b_v140 main_while0b_v139 main_while0b_v141 (maximumf : C S80000 .f32 → C S80000 .f32 → C S80000 .f32),
    StableHlo.unary main_while0b_v130 main_while0b_v142 ((extractStridedSlice S1 ![1] · slices_S4_S1_1) : C S4 .f32 → C S1 .f32),
    StableHlo.reshape main_while0b_v142 main_while0b_v143 (rfl : (.f32 : EltTy) = .f32) shapeCasts_S1_S_,
    StableHlo.unary main_v108_1 main_while0b_v144 ((extractStridedSlice S80000x1 ![0, 1] · slices_S80000x4_S80000x1_0_1) : C S80000x4 .f32 → C S80000x1 .f32),
    StableHlo.reshape main_while0b_v144 main_while0b_v145 (rfl : (.f32 : EltTy) = .f32) shapeCasts_S80000x1_S80000,
    StableHlo.unary main_while0b_v143 main_while0b_v146 (broadcastInDim S80000 ![] bcast_S_S80000 : C S_ .f32 → C S80000 .f32),
    StableHlo.binary main_while0b_v146 main_while0b_v145 main_while0b_v147 (maximumf : C S80000 .f32 → C S80000 .f32 → C S80000 .f32),
    StableHlo.unary main_while0b_v130 main_while0b_v148 ((extractStridedSlice S1 ![2] · slices_S4_S1_2) : C S4 .f32 → C S1 .f32),
    StableHlo.reshape main_while0b_v148 main_while0b_v149 (rfl : (.f32 : EltTy) = .f32) shapeCasts_S1_S_,
    StableHlo.unary main_v108_1 main_while0b_v150 ((extractStridedSlice S80000x1 ![0, 2] · slices_S80000x4_S80000x1_0_2) : C S80000x4 .f32 → C S80000x1 .f32),
    StableHlo.reshape main_while0b_v150 main_while0b_v151 (rfl : (.f32 : EltTy) = .f32) shapeCasts_S80000x1_S80000,
    StableHlo.unary main_while0b_v149 main_while0b_v152 (broadcastInDim S80000 ![] bcast_S_S80000 : C S_ .f32 → C S80000 .f32),
    StableHlo.binary main_while0b_v152 main_while0b_v151 main_while0b_v153 (minimumf : C S80000 .f32 → C S80000 .f32 → C S80000 .f32),
    StableHlo.unary main_while0b_v130 main_while0b_v154 ((extractStridedSlice S1 ![3] · slices_S4_S1_3) : C S4 .f32 → C S1 .f32),
    StableHlo.reshape main_while0b_v154 main_while0b_v155 (rfl : (.f32 : EltTy) = .f32) shapeCasts_S1_S_,
    StableHlo.unary main_v108_1 main_while0b_v156 ((extractStridedSlice S80000x1 ![0, 3] · slices_S80000x4_S80000x1_0_3) : C S80000x4 .f32 → C S80000x1 .f32),
    StableHlo.reshape main_while0b_v156 main_while0b_v157 (rfl : (.f32 : EltTy) = .f32) shapeCasts_S80000x1_S80000,
    StableHlo.unary main_while0b_v155 main_while0b_v158 (broadcastInDim S80000 ![] bcast_S_S80000 : C S_ .f32 → C S80000 .f32),
    StableHlo.binary main_while0b_v158 main_while0b_v157 main_while0b_v159 (minimumf : C S80000 .f32 → C S80000 .f32 → C S80000 .f32),
    StableHlo.binary main_while0b_v153 main_while0b_v141 main_while0b_v160 (subf : C S80000 .f32 → C S80000 .f32 → C S80000 .f32),
    StableHlo.nullary main_while0b_cst_45 (constant S_ .f32 0x00000000#32) ]

end

theorem trip1_split (Y : Valuation τ sig (Elt Ideal)) : after trip1 Y
    = after trip1i (after trip1h (after trip1g (after trip1f (after trip1e (after trip1d (after trip1c (after trip1b (after trip1a Y)))))))) := rfl

section

variable (Y : Valuation τ sig (Elt Ideal)) (j : Fin 80000)

section

variable (h : (Y (Proc.devRef .tc main_while0b_v109) : Vec Ideal S_ .i32) = fun _ => BitVec.ofNat 32 j.val)

include h in
theorem idx_toInt (i : S_.Idx) : BitVec.toInt (select (cmpi .slt (Y (Proc.devRef .tc main_while0b_v109) : IVec S_ 32) (constantI S_ 32 0#32))
    (addi (Y (Proc.devRef .tc main_while0b_v109) : IVec S_ 32) (constantI S_ 32 80000#32)) (Y (Proc.devRef .tc main_while0b_v109) : IVec S_ 32) i) = (j.val : Int) := by
  rw [h]
  exact toInt_wrap_ofNat j.val (by omega)

include h in
theorem trip1a_v112 (i : S_.Idx) : BitVec.toInt ((after trip1a Y (Proc.devRef .tc main_while0b_v112) : IVec S_ 32) i) = (j.val : Int) := by
  after_reads_simp
  exact idx_toInt Y j h i

include h in
theorem trip1c_v117 (i : S_.Idx) : BitVec.toInt ((after trip1c Y (Proc.devRef .tc main_while0b_v117) : IVec S_ 32) i) = (j.val : Int) := by
  after_reads_simp
  exact idx_toInt Y j h i

theorem trip1c_v120 (i : S_.Idx) : BitVec.toInt ((after trip1c Y (Proc.devRef .tc main_while0b_v120) : IVec S_ 32) i) = ((0 : Nat) : Int) := by
  after_reads_simp
  rfl

include h in
theorem trip1e_v125 (i : S_.Idx) : BitVec.toInt ((after trip1e Y (Proc.devRef .tc main_while0b_v125) : IVec S_ 32) i) = (j.val : Int) := by
  after_reads_simp
  exact idx_toInt Y j h i

theorem trip1e_v128 (i : S_.Idx) : BitVec.toInt ((after trip1e Y (Proc.devRef .tc main_while0b_v128) : IVec S_ 32) i) = ((0 : Nat) : Int) := by
  after_reads_simp
  rfl

include h in
theorem trip1g_v133 (i : S_.Idx) : BitVec.toInt ((after trip1g Y (Proc.devRef .tc main_while0b_v133) : IVec S_ 32) i) = (j.val : Int) := by
  after_reads_simp
  exact idx_toInt Y j h i

end

theorem trip1b_v114' : ∃ start : Fin 1 → Int, start 0 = BitVec.toInt ((Y (Proc.devRef .tc main_while0b_v112) : IVec S_ 32) (Shape.Idx.first h_S_))
    ∧ (after trip1b Y (Proc.devRef .tc main_while0b_v114) : Vec Ideal S_ .f32)
      = shapeCast S_ (Host.dynamicSlice S1 (Y (Proc.devRef .tc main_v108_4) : Vec Ideal S80000 .f32) start sliceFits_S80000_S1) shapeCasts_S1_S_ := by
  after_reads_simp
  refine ⟨_, ?_, rfl⟩
  rfl

theorem trip1b_v114 (e : BitVec.toInt ((Y (Proc.devRef .tc main_while0b_v112) : IVec S_ 32) (Shape.Idx.first h_S_)) = (j.val : Int)) :
    (after trip1b Y (Proc.devRef .tc main_while0b_v114) : Vec Ideal S_ .f32) ix0 = (Y (Proc.devRef .tc main_v108_4) : Vec Ideal S80000 .f32) (ix1 j) := by
  obtain ⟨start, h₀, h⟩ := trip1b_v114' Y
  rw [h]
  exact pick1 _ start j (h₀.trans e)

theorem trip1h_v135' : ∃ start : Fin 1 → Int, start 0 = BitVec.toInt ((Y (Proc.devRef .tc main_while0b_v133) : IVec S_ 32) (Shape.Idx.first h_S_))
    ∧ (after trip1h Y (Proc.devRef .tc main_while0b_v135) : Vec Ideal S_ .i32)
      = shapeCast S_ (Host.dynamicSlice S1 (Y (Proc.devRef .tc main_v108_2) : Vec Ideal S80000 .i32) start sliceFits_S80000_S1) shapeCasts_S1_S_ := by
  after_reads_simp
  refine ⟨_, ?_, rfl⟩
  rfl

theorem trip1h_v135 (e : BitVec.toInt ((Y (Proc.devRef .tc main_while0b_v133) : IVec S_ 32) (Shape.Idx.first h_S_)) = (j.val : Int)) :
    (after trip1h Y (Proc.devRef .tc main_while0b_v135) : Vec Ideal S_ .i32) ix0 = (Y (Proc.devRef .tc main_v108_2) : Vec Ideal S80000 .i32) (ix1 j) := by
  obtain ⟨start, h₀, h⟩ := trip1h_v135' Y
  rw [h]
  exact pick1 _ start j (h₀.trans e)

theorem trip1d_v122' : ∃ start : Fin 2 → Int, start 0 = BitVec.toInt ((Y (Proc.devRef .tc main_while0b_v117) : IVec S_ 32) (Shape.Idx.first h_S_))
    ∧ start 1 = BitVec.toInt ((Y (Proc.devRef .tc main_while0b_v120) : IVec S_ 32) (Shape.Idx.first h_S_))
    ∧ (after trip1d Y (Proc.devRef .tc main_while0b_v122) : Vec Ideal S4 .f32)
      = shapeCast S4 (Host.dynamicSlice S1x4 (Y (Proc.devRef .tc main_v108_0) : Vec Ideal S80000x4 .f32) start sliceFits_S80000x4_S1x4) shapeCasts_S1x4_S4 := by
  after_reads_simp
  refine ⟨_, ?_, ?_, rfl⟩
  · rfl
  · rfl

theorem trip1d_v122 (e : BitVec.toInt ((Y (Proc.devRef .tc main_while0b_v117) : IVec S_ 32) (Shape.Idx.first h_S_)) = (j.val : Int)) (e' : BitVec.toInt ((Y (Proc.devRef .tc main_while0b_v120) : IVec S_ 32) (Shape.Idx.first h_S_)) = ((0 : Nat) : Int)) (p : Fin 4) :
    (after trip1d Y (Proc.devRef .tc main_while0b_v122) : Vec Ideal S4 .f32) (ix1 p) = (Y (Proc.devRef .tc main_v108_0) : Vec Ideal S80000x4 .f32) (ix2 j p) := by
  obtain ⟨start, h₀, h₁, h⟩ := trip1d_v122' Y
  rw [h]
  exact pick4 _ start j (h₀.trans e) (h₁.trans e') p

theorem trip1f_v130' : ∃ start : Fin 2 → Int, start 0 = BitVec.toInt ((Y (Proc.devRef .tc main_while0b_v125) : IVec S_ 32) (Shape.Idx.first h_S_))
    ∧ start 1 = BitVec.toInt ((Y (Proc.devRef .tc main_while0b_v128) : IVec S_ 32) (Shape.Idx.first h_S_))
    ∧ (after trip1f Y (Proc.devRef .tc main_while0b_v130) : Vec Ideal S4 .f32)
      = shapeCast S4 (Host.dynamicSlice S1x4 (Y (Proc.devRef .tc main_v108_1) : Vec Ideal S80000x4 .f32) start sliceFits_S80000x4_S1x4) shapeCasts_S1x4_S4 := by
  after_reads_simp
  refine ⟨_, ?_, ?_, rfl⟩
  · rfl
  · rfl

theorem trip1f_v130 (e : BitVec.toInt ((Y (Proc.devRef .tc main_while0b_v125) : IVec S_ 32) (Shape.Idx.first h_S_)) = (j.val : Int)) (e' : BitVec.toInt ((Y (Proc.devRef .tc main_while0b_v128) : IVec S_ 32) (Shape.Idx.first h_S_)) = ((0 : Nat) : Int)) (p : Fin 4) :
    (after trip1f Y (Proc.devRef .tc main_while0b_v130) : Vec Ideal S4 .f32) (ix1 p) = (Y (Proc.devRef .tc main_v108_1) : Vec Ideal S80000x4 .f32) (ix2 j p) := by
  obtain ⟨start, h₀, h₁, h⟩ := trip1f_v130' Y
  rw [h]
  exact pick4 _ start j (h₀.trans e) (h₁.trans e') p

set_option maxRecDepth 100000 in
theorem trip1i_v160 (n : Fin 80000) : fv (after trip1i Y (Proc.devRef .tc main_while0b_v160)) n
    = min (f4 (Y (Proc.devRef .tc main_while0b_v130)) 2) (fb (Y (Proc.devRef .tc main_v108_1)) n 2) - max (f4 (Y (Proc.devRef .tc main_while0b_v130)) 0) (fb (Y (Proc.devRef .tc main_v108_1)) n 0) := by
  after_reads_simp
  pointwise

set_option maxRecDepth 100000 in
theorem trip1i_v159 (n : Fin 80000) : fv (after trip1i Y (Proc.devRef .tc main_while0b_v159)) n
    = min (f4 (Y (Proc.devRef .tc main_while0b_v130)) 3) (fb (Y (Proc.devRef .tc main_v108_1)) n 3) := by
  after_reads_simp
  pointwise

set_option maxRecDepth 100000 in
theorem trip1i_v147 (n : Fin 80000) : fv (after trip1i Y (Proc.devRef .tc main_while0b_v147)) n
    = max (f4 (Y (Proc.devRef .tc main_while0b_v130)) 1) (fb (Y (Proc.devRef .tc main_v108_1)) n 1) := by
  after_reads_simp
  pointwise

theorem trip1i_c45 : f0 (after trip1i Y (Proc.devRef .tc main_while0b_cst_45)) = Ideal.ofBits FTy.f32 0x00000000#32 := by
  after_reads_simp
  rfl

theorem trip2_v161' : (after trip2 Y (Proc.devRef .tc main_while0b_v161) : Vec Ideal S80000 .f32)
    = maximumf (F := Ideal) (φ := .f32) (broadcastInDim S80000 ![] bcast_S_S80000 ((Y (Proc.devRef .tc main_while0b_cst_45)) : Vec Ideal S_ .f32)) (Y (Proc.devRef .tc main_while0b_v160)) := by
  after_reads_simp
  rfl

theorem trip2_v161 (n : Fin 80000) : fv (after trip2 Y (Proc.devRef .tc main_while0b_v161)) n = max (f0 (Y (Proc.devRef .tc main_while0b_cst_45))) (fv (Y (Proc.devRef .tc main_while0b_v160)) n) := by
  rw [trip2_v161']
  pointwise

theorem trip3_v162 (n : Fin 80000) : fv (after trip3 Y (Proc.devRef .tc main_while0b_v162)) n = fv (Y (Proc.devRef .tc main_while0b_v159)) n - fv (Y (Proc.devRef .tc main_while0b_v147)) n := by
  after_reads_simp
  rfl

theorem trip3_c46 : f0 (after trip3 Y (Proc.devRef .tc main_while0b_cst_46)) = Ideal.ofBits FTy.f32 0x00000000#32 := by
  after_reads_simp
  rfl

theorem trip4_v163' : (after trip4 Y (Proc.devRef .tc main_while0b_v163) : Vec Ideal S80000 .f32)
    = maximumf (F := Ideal) (φ := .f32) (broadcastInDim S80000 ![] bcast_S_S80000 ((Y (Proc.devRef .tc main_while0b_cst_46)) : Vec Ideal S_ .f32)) (Y (Proc.devRef .tc main_while0b_v162)) := by
  after_reads_simp
  rfl

theorem trip4_v163 (n : Fin 80000) : fv (after trip4 Y (Proc.devRef .tc main_while0b_v163)) n = max (f0 (Y (Proc.devRef .tc main_while0b_cst_46))) (fv (Y (Proc.devRef .tc main_while0b_v162)) n) := by
  rw [trip4_v163']
  pointwise

set_option maxRecDepth 100000 in
theorem trip5_v194 (n : Fin 80000) : (after trip5 Y (Proc.devRef .tc main_while0b_v194) : Vec Ideal S80000 .i1) (ix1 n) = BitVec.ofBool
      (decide
        (Ideal.ofBits FTy.f32 0x3F000000#32 <
          Ideal.div (fv (Y (Proc.devRef .tc main_while0b_v161)) n * fv (Y (Proc.devRef .tc main_while0b_v163)) n)
            (Sp.area (f4 (Y (Proc.devRef .tc main_while0b_v130))) + Sp.area (fb (Y (Proc.devRef .tc main_v108_1)) n) - fv (Y (Proc.devRef .tc main_while0b_v161)) n * fv (Y (Proc.devRef .tc main_while0b_v163)) n
              + Ideal.ofBits FTy.f32 0x3089705F#32))) := by
  after_reads_simp
  pointwise
  rfl

theorem trip5_c49 : f0 (after trip5 Y (Proc.devRef .tc main_while0b_cst_49)) = Sp.neg := by
  after_reads_simp
  rfl

theorem trip6_v195' : (after trip6 Y (Proc.devRef .tc main_while0b_v195) : Vec Ideal S80000 .f32)
    = select ((Y (Proc.devRef .tc main_while0b_v194)) : Vec Ideal S80000 .i1) (broadcastInDim S80000 ![] bcast_S_S80000 ((Y (Proc.devRef .tc main_while0b_cst_49)) : Vec Ideal S_ .f32)) ((Y (Proc.devRef .tc main_v108_4)) : Vec Ideal S80000 .f32) := by
  after_reads_simp
  rfl

theorem trip6_v195 (n : Fin 80000) : fv (after trip6 Y (Proc.devRef .tc main_while0b_v195)) n
    = Scalar.select ((Y (Proc.devRef .tc main_while0b_v194) : Vec Ideal S80000 .i1) (ix1 n)) (f0 (Y (Proc.devRef .tc main_while0b_cst_49))) (fv (Y (Proc.devRef .tc main_v108_4)) n) := by
  rw [trip6_v195']
  pointwise

end

end Cert.Proof.RI

end
-- ==== Proof.Argmax.lean ====
/-
  The reference's arg-max over the extended reals: the first position of the greatest score.
-/
module

public import proofs.«01_k».proof.Proof.Spec
public import proofs.«01_k».proof.Proof.Ref
public import Idealize.ShloMosaic.Lib.Routing.Ops
public import Idealize.ShloMosaic.Lib.Pointwise
public import Idealize.ShloMosaic.Lib.DynamicIndex
public import Idealize.ShloMosaic.PureOps.Ideal.Laws

@[expose] public section

set_option maxRecDepth 16384

noncomputable section

namespace Cert.Proof.RI

open Cert.ReferenceIdeal Cert.ReferenceIdeal.Gen
open Idealize.ShloMosaic Idealize.ShloMosaic.TcCoe

/-- One step of the fold, of an accumulator that comes before: keep it unless the new value is above it. -/
theorem argmax_step (a b : EReal × BitVec 32) (h : a.2.toInt < b.2.toInt) :
    reducer_argmax_f32_i32 (F := Ideal) a b = if b.1 ≤ a.1 then a else b := by
  have hs : a.2.slt b.2 = true := by simp only [BitVec.slt, decide_eq_true_eq]; exact h
  obtain ⟨x, i⟩ := a
  obtain ⟨y, k⟩ := b
  have hs' : IntOp.cmpi .slt i k = 1#1 := by show BitVec.ofBool (i.slt k) = _; rw [show i.slt k = true from hs]; rfl
  simp only [reducer_argmax_f32_i32, hs', Ideal.cmpf_def, Ideal.cmp]
  rcases lt_trichotomy x y with hxy | hxy | hxy
  · have h1 : ¬ y < x := not_lt.2 hxy.le
    have h2 : ¬ y ≤ x := not_le.2 hxy
    simp [h1, h2, hxy.ne, Scalar.select, IntOp.ori, IntOp.andi]
  · subst hxy
    simp [Scalar.select, IntOp.ori, IntOp.andi]
  · have h3 : x ≠ y := hxy.ne'
    simp [hxy, hxy.le, h3, Scalar.select, IntOp.ori, IntOp.andi]
    try decide

/-- The fold's first step takes the first value. -/
theorem argmax_first (b : EReal × BitVec 32) (hb : b.2 = 0#32) :
    reducer_argmax_f32_i32 (F := Ideal) (Ideal.ofBits FTy.f32 0xFF800000#32, 0#32) b = b := by
  obtain ⟨y, k⟩ := b
  obtain rfl : k = 0#32 := hb
  have h1 : ¬ y < Ideal.ofBits FTy.f32 0xFF800000#32 := by
    rw [show Ideal.ofBits FTy.f32 0xFF800000#32 = ⊥ from by simp [Ideal.ofBits, Ideal.ieee]]
    exact not_lt_bot
  simp only [reducer_argmax_f32_i32, Ideal.cmpf_def, Ideal.cmp]
  simp [h1, Scalar.select, IntOp.ori, IntOp.andi]

/-- The fold over a list in order of index: the first of the greatest. -/
theorem argmax_fold : ∀ (l : List (EReal × BitVec 32)) (a : EReal × BitVec 32),
    (a :: l).Pairwise (fun p q => p.2.toInt < q.2.toInt) →
    let r := l.foldl (reducer_argmax_f32_i32 (F := Ideal)) a
    r ∈ a :: l ∧ ∀ p ∈ a :: l, p.1 ≤ r.1 ∧ (p.2.toInt < r.2.toInt → p.1 < r.1)
  | [], a, _ => by simp
  | b :: l, a, hp => by
    obtain ⟨ha, hp'⟩ := List.pairwise_cons.1 hp
    obtain ⟨hb, hl⟩ := List.pairwise_cons.1 hp'
    have hab := ha b (by simp)
    intro r
    have hr : r = l.foldl (reducer_argmax_f32_i32 (F := Ideal)) (if b.1 ≤ a.1 then a else b) := by
      show (b :: l).foldl _ a = _
      rw [List.foldl_cons, argmax_step a b hab]
    clear_value r
    by_cases hle : b.1 ≤ a.1
    · rw [if_pos hle] at hr
      have ih := argmax_fold l a (List.pairwise_cons.2 ⟨fun q hq => ha q (by simp [hq]), hl⟩)
      rw [← hr] at ih
      refine ⟨?_, fun p hpm => ?_⟩
      · rcases List.mem_cons.1 ih.1 with h | h
        · simp [h]
        · simp [h]
      · have hra := ih.2 a (by simp)
        rcases List.mem_cons.1 hpm with h | h
        · subst h; exact hra
        rcases List.mem_cons.1 h with h | h
        · subst h
          refine ⟨hle.trans hra.1, fun hlt => ?_⟩
          rcases List.mem_cons.1 ih.1 with h' | h'
          · rw [h'] at hlt; exact absurd (hab.trans hlt) (lt_irrefl _)
          · exact lt_of_le_of_lt hle (hra.2 (ha r (by simp [h'])))
        · exact ih.2 p (by simp [h])
    · rw [if_neg hle] at hr
      have ih := argmax_fold l b hp'
      rw [← hr] at ih
      refine ⟨?_, fun p hpm => ?_⟩
      · exact List.mem_cons_of_mem _ ih.1
      · have hrb := ih.2 b (by simp)
        rcases List.mem_cons.1 hpm with h | h
        · subst h
          have : p.1 < r.1 := lt_of_lt_of_le (not_le.1 hle) hrb.1
          exact ⟨this.le, fun _ => this⟩
        · exact ih.2 p h

/-- The fold over the positions in order, from minus infinity. -/
theorem argmax_range (N : ℕ) (hN : N + 1 < 2 ^ 31) (f : Fin (N + 1) → EReal) : ∃ j : Fin (N + 1), (∀ n, f n ≤ f j) ∧ (∀ n, n < j → f n < f j) ∧
    (((List.finRange (N + 1)).map fun n => ((f n, BitVec.ofNat 32 n.val) : EReal × BitVec 32)).foldl (reducer_argmax_f32_i32 (F := Ideal))
      (Ideal.ofBits FTy.f32 0xFF800000#32, 0#32)).2 = BitVec.ofNat 32 j.val := by
  set g : Fin (N + 1) → EReal × BitVec 32 := fun n => (f n, BitVec.ofNat 32 n.val) with hg
  have hc : (List.finRange (N + 1)).map g = g 0 :: ((List.finRange N).map Fin.succ).map g := by
    rw [List.finRange_succ, List.map_cons]
  have hpw : ((List.finRange (N + 1)).map g).Pairwise (fun p q => p.2.toInt < q.2.toInt) := by
    rw [List.pairwise_map]
    refine (List.pairwise_lt_finRange (N + 1)).imp fun {a b} hab => ?_
    show (BitVec.ofNat 32 a.val).toInt < (BitVec.ofNat 32 b.val).toInt
    rw [toInt_ofNat_of_lt (by omega), toInt_ofNat_of_lt (by omega)]
    exact_mod_cast hab
  have mem : ∀ n, g n ∈ (List.finRange (N + 1)).map g := fun n => List.mem_map.2 ⟨n, List.mem_finRange n, rfl⟩
  rw [hc] at hpw mem ⊢
  rw [List.foldl_cons, argmax_first _ rfl]
  obtain ⟨h₁, h₂⟩ := argmax_fold _ _ hpw
  rw [← hc] at h₁
  obtain ⟨j, -, hj⟩ := List.mem_map.1 h₁
  rw [← hj] at h₂ ⊢
  refine ⟨j, fun n => (h₂ _ (mem n)).1, fun n hn => (h₂ _ (mem n)).2 ?_, rfl⟩
  show (BitVec.ofNat 32 n.val).toInt < (BitVec.ofNat 32 j.val).toInt
  rw [toInt_ofNat_of_lt (by omega), toInt_ofNat_of_lt (by omega)]
  exact_mod_cast hn

/-- The reference's arg-max is the first position of the greatest score. -/
theorem argmax_isArg (x : Vec Ideal S80000 .f32) (i : S_.Idx) : ∃ j : Fin 80000, Sp.IsArg (fun n => x (ix1 n)) j ∧
    (Host.argReduce reducer_argmax_f32_i32 x (iotaInDim S80000 32 0)
      (constant (F := Ideal) S_ .f32 0xFF800000#32) (constantI S_ 32 0#32) reducesTo_S80000_S_d0 h_S_ i).2 = BitVec.ofNat 32 j.val := by
  rw [Ideal.argReduce_eq_reduce2, Host.reduce2_eq_foldl_fiber]
  have hl : Host.argReduceFiber x (iotaInDim S80000 32 0) reducesTo_S80000_S_d0 i
      = (List.finRange S80000.numel).map fun n => ((x (ix1 (n.cast (Routing.numel1 80000))), BitVec.ofNat 32 n.val) : EReal × BitVec 32) := by
    unfold Host.argReduceFiber
    rw [List.filter_eq_self.2 (fun n _ => decide_eq_true (Subsingleton.elim _ _))]
    refine List.map_congr_left fun n _ => ?_
    rw [Routing.symm1]
    rfl
  rw [hl]
  have hn : S80000.numel = 80000 := Routing.numel1 80000
  have hf : ∀ M (hM : M = 80000) (_ : 0 < M), ∃ j : Fin 80000, Sp.IsArg (fun n => x (ix1 n)) j ∧
      (((List.finRange M).map fun n => ((x (ix1 (n.cast hM)), BitVec.ofNat 32 n.val) : EReal × BitVec 32)).foldl (reducer_argmax_f32_i32 (F := Ideal))
      (Ideal.ofBits FTy.f32 0xFF800000#32, 0#32)).2 = BitVec.ofNat 32 j.val := by
    intro M hM hpos
    obtain ⟨N, rfl⟩ : ∃ N, M = N + 1 := ⟨M - 1, by omega⟩
    obtain ⟨j, h₁, h₂, h₃⟩ := argmax_range N (by omega) (fun n => x (ix1 (n.cast hM)))
    exact ⟨j.cast hM, ⟨fun n => h₁ (n.cast hM.symm), fun n hn => h₂ (n.cast hM.symm) hn⟩, h₃⟩
  exact hf _ hn (by omega)

end Cert.Proof.RI

end
-- ==== Proof.RefTrip.lean ====
/-
  One trip of the reference's loop as a whole, and the loop's hundred trips.
-/
module

public import proofs.«01_k».proof.Proof.RefStep
public import proofs.«01_k».proof.Proof.Argmax

@[expose] public section

set_option maxRecDepth 16384

noncomputable section

namespace Cert.Proof.RI

open Cert.ReferenceIdeal Cert.ReferenceIdeal.Gen

open Idealize.ShloMosaic Idealize.ShloMosaic.TcCoe
open Idealize.ShloMosaic.StableHlo
open Idealize.ShloMosaic.Pipeline

/-- One entry put into a vector of a hundred, at an index read from a number. -/
theorem put1 {α : Type} (x : S100.Idx → α) (u : S1.Idx → α) (start : Fin 1 → Int) (k i : Fin 100) (e : start 0 = (k.val : Int)) :
    Host.dynamicUpdateSlice x u start updateFits_S100_S1 (ix1 i) = if i = k then u (ix1 0) else x (ix1 i) := by
  have hc : Host.clampedStart S100 S1 updateFits_S100_S1.1 start 0 = k.val :=
    Host.clampedStart_of_le (s := S100) (t := S1) updateFits_S100_S1.1 start 0 k.val e (by have := k.isLt; show k.val + 1 ≤ 100; omega)
  rw [Host.dynamicUpdateSlice_apply]
  by_cases hik : i = k
  · rw [if_pos hik, dif_pos]
    · exact congrArg u (funext fun b => match b with | 0 => Subsingleton.elim (α := Fin 1) _ _)
    · intro a
      match a with
      | 0 => rw [hc, hik]; exact ⟨le_rfl, Nat.lt_succ_self _⟩
  · rw [if_neg hik, dif_neg]
    intro h
    have h0 := h 0
    rw [hc] at h0
    exact hik (Fin.ext (Nat.le_antisymm (Nat.le_of_lt_succ h0.2) h0.1))

/-- One row put into a table of a hundred rows, at an index read from a number. -/
theorem put4 {α : Type} (x : S100x4.Idx → α) (u : S1x4.Idx → α) (start : Fin 2 → Int) (k i : Fin 100) (p : Fin 4)
    (e : start 0 = (k.val : Int)) (e' : start 1 = ((0 : Nat) : Int)) :
    Host.dynamicUpdateSlice x u start updateFits_S100x4_S1x4 (ix2 i p) = if i = k then u (ix2 0 p) else x (ix2 i p) := by
  have hc : Host.clampedStart S100x4 S1x4 updateFits_S100x4_S1x4.1 start 0 = k.val :=
    Host.clampedStart_of_le (s := S100x4) (t := S1x4) updateFits_S100x4_S1x4.1 start 0 k.val e (by have := k.isLt; show k.val + 1 ≤ 100; omega)
  have hc' : Host.clampedStart S100x4 S1x4 updateFits_S100x4_S1x4.1 start 1 = 0 :=
    Host.clampedStart_of_le (s := S100x4) (t := S1x4) updateFits_S100x4_S1x4.1 start 1 0 e' (by decide)
  rw [Host.dynamicUpdateSlice_apply]
  by_cases hik : i = k
  · rw [if_pos hik, dif_pos]
    · refine congrArg u (funext fun b => ?_)
      match b with
      | 0 => exact Subsingleton.elim (α := Fin 1) _ _
      | 1 =>
        refine Fin.ext ?_
        show p.val - Host.clampedStart S100x4 S1x4 updateFits_S100x4_S1x4.1 start 1 = p.val
        rw [hc', Nat.sub_zero]
    · intro a
      match a with
      | 0 => rw [hc, hik]; exact ⟨le_rfl, Nat.lt_succ_self _⟩
      | 1 => rw [hc']; exact ⟨Nat.zero_le _, by show p.val < 0 + 4; omega⟩
  · rw [if_neg hik, dif_neg]
    intro h
    have h0 := h 0
    rw [hc] at h0
    exact hik (Fin.ext (Nat.le_antisymm (Nat.le_of_lt_succ h0.2) h0.1))

section

variable (Y : Valuation τ sig (Elt Ideal)) (j : Fin 80000)

theorem trip7_v196' : ∃ start : Fin 2 → Int, start 0 = BitVec.toInt ((Y (Proc.devRef .tc main_v108_3) : IVec S_ 32) (Shape.Idx.first h_S_))
    ∧ start 1 = ((0 : Nat) : Int)
    ∧ (after trip7 Y (Proc.devRef .tc main_while0b_v196) : Vec Ideal S100x4 .f32)
      = Host.dynamicUpdateSlice (Y (Proc.devRef .tc main_v108_5) : Vec Ideal S100x4 .f32)
          (broadcastInDim S1x4 ![1] bcast_S4_S1x4_1 (Y (Proc.devRef .tc main_while0b_v122) : Vec Ideal S4 .f32)) start updateFits_S100x4_S1x4 := by
  after_reads_simp
  refine ⟨_, ?_, ?_, rfl⟩
  · rfl
  · rfl

theorem trip7_v196 (k i : Fin 100) (p : Fin 4) (h : BitVec.toInt ((Y (Proc.devRef .tc main_v108_3) : IVec S_ 32) (Shape.Idx.first h_S_)) = (k.val : Int)) :
    (after trip7 Y (Proc.devRef .tc main_while0b_v196) : Vec Ideal S100x4 .f32) (ix2 i p)
      = if i = k then (Y (Proc.devRef .tc main_while0b_v122) : Vec Ideal S4 .f32) (ix1 p) else (Y (Proc.devRef .tc main_v108_5) : Vec Ideal S100x4 .f32) (ix2 i p) := by
  obtain ⟨start, h₀, h₁, e⟩ := trip7_v196' Y
  rw [e, put4 _ _ start k i p (h₀.trans h) h₁]
  pointwise

theorem trip8_v197' : ∃ start : Fin 1 → Int, start 0 = BitVec.toInt ((Y (Proc.devRef .tc main_v108_3) : IVec S_ 32) (Shape.Idx.first h_S_))
    ∧ (after trip8 Y (Proc.devRef .tc main_while0b_v197) : Vec Ideal S100 .f32)
      = Host.dynamicUpdateSlice (Y (Proc.devRef .tc main_v108_6) : Vec Ideal S100 .f32)
          (broadcastInDim S1 ![] bcast_S_S1 (Y (Proc.devRef .tc main_while0b_v114) : Vec Ideal S_ .f32)) start updateFits_S100_S1 := by
  after_reads_simp
  refine ⟨_, ?_, rfl⟩
  rfl

theorem trip8_v197 (k i : Fin 100) (h : BitVec.toInt ((Y (Proc.devRef .tc main_v108_3) : IVec S_ 32) (Shape.Idx.first h_S_)) = (k.val : Int)) :
    (after trip8 Y (Proc.devRef .tc main_while0b_v197) : Vec Ideal S100 .f32) (ix1 i)
      = if i = k then (Y (Proc.devRef .tc main_while0b_v114) : Vec Ideal S_ .f32) ix0 else (Y (Proc.devRef .tc main_v108_6) : Vec Ideal S100 .f32) (ix1 i) := by
  obtain ⟨start, h₀, e⟩ := trip8_v197' Y
  rw [e, put1 _ _ start k i (h₀.trans h)]
  pointwise

theorem trip9_v198' : ∃ start : Fin 1 → Int, start 0 = BitVec.toInt ((Y (Proc.devRef .tc main_v108_3) : IVec S_ 32) (Shape.Idx.first h_S_))
    ∧ (after trip9 Y (Proc.devRef .tc main_while0b_v198) : Vec Ideal S100 .i32)
      = Host.dynamicUpdateSlice (Y (Proc.devRef .tc main_v108_7) : Vec Ideal S100 .i32)
          (broadcastInDim S1 ![] bcast_S_S1 (Y (Proc.devRef .tc main_while0b_v135) : Vec Ideal S_ .i32)) start updateFits_S100_S1 := by
  after_reads_simp
  refine ⟨_, ?_, rfl⟩
  rfl

theorem trip9_v198 (k i : Fin 100) (h : BitVec.toInt ((Y (Proc.devRef .tc main_v108_3) : IVec S_ 32) (Shape.Idx.first h_S_)) = (k.val : Int)) :
    (after trip9 Y (Proc.devRef .tc main_while0b_v198) : Vec Ideal S100 .i32) (ix1 i)
      = if i = k then (Y (Proc.devRef .tc main_while0b_v135) : Vec Ideal S_ .i32) ix0 else (Y (Proc.devRef .tc main_v108_7) : Vec Ideal S100 .i32) (ix1 i) := by
  obtain ⟨start, h₀, e⟩ := trip9_v198' Y
  rw [e, put1 _ _ start k i (h₀.trans h)]
  pointwise

/-- The offset box of a position, of a valuation. -/
abbrev oB (n : Fin 80000) : Fin 4 → EReal := fb (Y (Proc.devRef .tc main_v108_1)) n

section

variable (h : (Y (Proc.devRef .tc main_while0b_v109) : Vec Ideal S_ .i32) = fun _ => BitVec.ofNat 32 j.val)

include h in
theorem trip1_v114 : (after trip1 Y (Proc.devRef .tc main_while0b_v114) : Vec Ideal S_ .f32) ix0 = fv (Y (Proc.devRef .tc main_v108_4)) j := by
  have k : ∀ Z : Valuation τ sig (Elt Ideal), after trip1i (after trip1h (after trip1g (after trip1f (after trip1e (after trip1d (after trip1c Z))))))
      (Proc.devRef .tc main_while0b_v114) = Z (Proc.devRef .tc main_while0b_v114) := fun Z => by after_reads_simp
  have k' : after trip1a Y (Proc.devRef .tc main_v108_4) = Y (Proc.devRef .tc main_v108_4) := by after_reads_simp
  rw [trip1_split, k, trip1b_v114 (after trip1a Y) j (trip1a_v112 Y j h _), k']

include h in
theorem trip1_v122 (p : Fin 4) : (after trip1 Y (Proc.devRef .tc main_while0b_v122) : Vec Ideal S4 .f32) (ix1 p) = fb (Y (Proc.devRef .tc main_v108_0)) j p := by
  have k : ∀ Z : Valuation τ sig (Elt Ideal), after trip1i (after trip1h (after trip1g (after trip1f (after trip1e Z))))
      (Proc.devRef .tc main_while0b_v122) = Z (Proc.devRef .tc main_while0b_v122) := fun Z => by after_reads_simp
  have k' : after trip1c (after trip1b (after trip1a Y)) (Proc.devRef .tc main_v108_0) = Y (Proc.devRef .tc main_v108_0) := by after_reads_simp
  have k₂ : after trip1b (after trip1a Y) (Proc.devRef .tc main_while0b_v109) = Y (Proc.devRef .tc main_while0b_v109) := by after_reads_simp
  rw [trip1_split, k, trip1d_v122 (after trip1c (after trip1b (after trip1a Y))) j (trip1c_v117 _ j (k₂.trans h) _) (trip1c_v120 _ _), k']

include h in
theorem trip1f_v130_all : f4 (after trip1f (after trip1e (after trip1d (after trip1c (after trip1b (after trip1a Y))))) (Proc.devRef .tc main_while0b_v130))
    = oB Y j := by
  have k' : after trip1e (after trip1d (after trip1c (after trip1b (after trip1a Y)))) (Proc.devRef .tc main_v108_1) = Y (Proc.devRef .tc main_v108_1) := by after_reads_simp
  have k₂ : after trip1d (after trip1c (after trip1b (after trip1a Y))) (Proc.devRef .tc main_while0b_v109) = Y (Proc.devRef .tc main_while0b_v109) := by after_reads_simp
  funext p
  rw [f4, trip1f_v130 (after trip1e (after trip1d (after trip1c (after trip1b (after trip1a Y))))) j (trip1e_v125 _ j (k₂.trans h) _) (trip1e_v128 _ _), k']

include h in
theorem trip1_v130 : f4 (after trip1 Y (Proc.devRef .tc main_while0b_v130)) = oB Y j := by
  have k : ∀ Z : Valuation τ sig (Elt Ideal), after trip1i (after trip1h (after trip1g Z))
      (Proc.devRef .tc main_while0b_v130) = Z (Proc.devRef .tc main_while0b_v130) := fun Z => by after_reads_simp
  rw [trip1_split, k, trip1f_v130_all Y j h]

include h in
theorem trip1_v135 : (after trip1 Y (Proc.devRef .tc main_while0b_v135) : Vec Ideal S_ .i32) ix0 = fi (Y (Proc.devRef .tc main_v108_2)) j := by
  have k : ∀ Z : Valuation τ sig (Elt Ideal), after trip1i Z
      (Proc.devRef .tc main_while0b_v135) = Z (Proc.devRef .tc main_while0b_v135) := fun Z => by after_reads_simp
  have k' : after trip1g (after trip1f (after trip1e (after trip1d (after trip1c (after trip1b (after trip1a Y)))))) (Proc.devRef .tc main_v108_2) = Y (Proc.devRef .tc main_v108_2) := by after_reads_simp
  have k₂ : after trip1f (after trip1e (after trip1d (after trip1c (after trip1b (after trip1a Y))))) (Proc.devRef .tc main_while0b_v109) = Y (Proc.devRef .tc main_while0b_v109) := by after_reads_simp
  rw [trip1_split, k, trip1h_v135 (after trip1g (after trip1f (after trip1e (after trip1d (after trip1c (after trip1b (after trip1a Y))))))) j (trip1g_v133 _ j (k₂.trans h) _), k']

theorem k1_v108_1 : after trip1h (after trip1g (after trip1f (after trip1e (after trip1d (after trip1c (after trip1b (after trip1a Y))))))) (Proc.devRef .tc main_v108_1)
    = Y (Proc.devRef .tc main_v108_1) := by after_reads_simp

include h in
theorem k1_v130 : f4 (after trip1h (after trip1g (after trip1f (after trip1e (after trip1d (after trip1c (after trip1b (after trip1a Y))))))) (Proc.devRef .tc main_while0b_v130))
    = oB Y j := by
  have k : ∀ Z : Valuation τ sig (Elt Ideal), after trip1h (after trip1g Z)
      (Proc.devRef .tc main_while0b_v130) = Z (Proc.devRef .tc main_while0b_v130) := fun Z => by after_reads_simp
  rw [k, trip1f_v130_all Y j h]

include h in
theorem trip1_v160 (n : Fin 80000) : fv (after trip1 Y (Proc.devRef .tc main_while0b_v160)) n = min (oB Y j 2) (oB Y n 2) - max (oB Y j 0) (oB Y n 0) := by
  rw [trip1_split, trip1i_v160, k1_v130 Y j h, k1_v108_1]

include h in
theorem trip1_v159 (n : Fin 80000) : fv (after trip1 Y (Proc.devRef .tc main_while0b_v159)) n = min (oB Y j 3) (oB Y n 3) := by
  rw [trip1_split, trip1i_v159, k1_v130 Y j h, k1_v108_1]

include h in
theorem trip1_v147 (n : Fin 80000) : fv (after trip1 Y (Proc.devRef .tc main_while0b_v147)) n = max (oB Y j 1) (oB Y n 1) := by
  rw [trip1_split, trip1i_v147, k1_v130 Y j h, k1_v108_1]

theorem trip1_c45 : f0 (after trip1 Y (Proc.devRef .tc main_while0b_cst_45)) = Ideal.ofBits FTy.f32 0x00000000#32 := by
  rw [trip1_split, trip1i_c45]

include h in
theorem trip6_all (n : Fin 80000) :
    fv (after trip6 (after trip5 (after trip4 (after trip3 (after trip2 (after trip1 Y))))) (Proc.devRef .tc main_while0b_v195)) n
      = Scalar.select (BitVec.ofBool (@decide (Sp.supp (oB Y j) (oB Y n)) (Classical.dec _))) Sp.neg (fv (Y (Proc.devRef .tc main_v108_4)) n) := by
  have k₁ : ∀ Z : Valuation τ sig (Elt Ideal), after trip5 (after trip4 (after trip3 (after trip2 Z))) (Proc.devRef .tc main_v108_4) = Z (Proc.devRef .tc main_v108_4) :=
    fun Z => by after_reads_simp
  have k₂ : ∀ Z : Valuation τ sig (Elt Ideal), after trip4 (after trip3 Z) (Proc.devRef .tc main_while0b_v161) = Z (Proc.devRef .tc main_while0b_v161) :=
    fun Z => by after_reads_simp
  have k₃ : ∀ Z : Valuation τ sig (Elt Ideal), after trip4 (after trip3 (after trip2 Z)) (Proc.devRef .tc main_while0b_v130) = Z (Proc.devRef .tc main_while0b_v130) :=
    fun Z => by after_reads_simp
  have k₄ : ∀ Z : Valuation τ sig (Elt Ideal), after trip4 (after trip3 (after trip2 Z)) (Proc.devRef .tc main_v108_1) = Z (Proc.devRef .tc main_v108_1) :=
    fun Z => by after_reads_simp
  have k₅ : ∀ Z : Valuation τ sig (Elt Ideal), after trip2 Z (Proc.devRef .tc main_while0b_v159) = Z (Proc.devRef .tc main_while0b_v159) :=
    fun Z => by after_reads_simp
  have k₆ : ∀ Z : Valuation τ sig (Elt Ideal), after trip2 Z (Proc.devRef .tc main_while0b_v147) = Z (Proc.devRef .tc main_while0b_v147) :=
    fun Z => by after_reads_simp
  have k₇ : after trip1 Y (Proc.devRef .tc main_v108_4) = Y (Proc.devRef .tc main_v108_4) := after_of_writes_sub trip1 _ trip1_writes (by decide +kernel)
  have k₈ : after trip1 Y (Proc.devRef .tc main_v108_1) = Y (Proc.devRef .tc main_v108_1) := after_of_writes_sub trip1 _ trip1_writes (by decide +kernel)
  rw [trip6_v195, trip5_c49, k₁, k₇, trip5_v194, k₂, trip2_v161, trip1_c45, trip1_v160 Y j h, trip4_v163, trip3_c46, trip3_v162, k₅, k₆,
    trip1_v159 Y j h, trip1_v147 Y j h, k₃, k₄, k₈, trip1_v130 Y j h]
  congr 2
  unfold Sp.supp Sp.iou Sp.inter
  congr

end

end

end Cert.Proof.RI

end
-- ==== Proof.RefLoop.lean ====
/-
  The reference's hundred trips, over the extended reals: the results, a row per pick.
-/
module

public import proofs.«01_k».proof.Proof.RefTrip

@[expose] public section

set_option maxRecDepth 16384

noncomputable section

namespace Cert.Proof.RI

open Cert.ReferenceIdeal Cert.ReferenceIdeal.Gen

open Idealize.ShloMosaic Idealize.ShloMosaic.TcCoe
open Idealize.ShloMosaic.StableHlo
open Idealize.ShloMosaic.Pipeline

/-- What the loop body's lists leave but for the carrying one. -/
abbrev mid (X : Valuation τ sig (Elt Ideal)) : Valuation τ sig (Elt Ideal) :=
  afterL [trip0, trip1, trip2, trip3, trip4, trip5, trip6, trip7, trip8, trip9, trip10] X

section

variable (X : Valuation τ sig (Elt Ideal))

/-- The index that a trip picks. -/
theorem mid_pick : ∃ j : Fin 80000, Sp.IsArg (fv (X (Proc.devRef .tc main_v108_4))) j ∧
    (after trip0 X (Proc.devRef .tc main_while0b_v109) : Vec Ideal S_ .i32) = fun _ => BitVec.ofNat 32 j.val := by
  obtain ⟨j, hj, -⟩ := argmax_isArg (X (Proc.devRef .tc main_v108_4)) ix0
  refine ⟨j, hj, ?_⟩
  rw [trip0_v109]
  funext i
  obtain ⟨j', hj', e⟩ := argmax_isArg (X (Proc.devRef .tc main_v108_4)) i
  rw [hj.unique hj', ← e]

/-- What a trip picks, and what it writes. -/
structure Picks (j : Fin 80000) : Prop where
  score : ∀ n, fv (mid X (Proc.devRef .tc main_while0b_v195)) n = Sp.drop (fb (X (Proc.devRef .tc main_v108_1))) (fv (X (Proc.devRef .tc main_v108_4))) n
  boxes : ∀ (k i : Fin 100) (p : Fin 4), BitVec.toInt ((X (Proc.devRef .tc main_v108_3) : IVec S_ 32) (Shape.Idx.first h_S_)) = (k.val : Int) →
    (mid X (Proc.devRef .tc main_while0b_v196) : Vec Ideal S100x4 .f32) (ix2 i p)
      = if i = k then (X (Proc.devRef .tc main_v108_0) : Vec Ideal S80000x4 .f32) (ix2 j p) else (X (Proc.devRef .tc main_v108_5) : Vec Ideal S100x4 .f32) (ix2 i p)
  scores : ∀ (k i : Fin 100), BitVec.toInt ((X (Proc.devRef .tc main_v108_3) : IVec S_ 32) (Shape.Idx.first h_S_)) = (k.val : Int) →
    (mid X (Proc.devRef .tc main_while0b_v197) : Vec Ideal S100 .f32) (ix1 i)
      = if i = k then (X (Proc.devRef .tc main_v108_4) : Vec Ideal S80000 .f32) (ix1 j) else (X (Proc.devRef .tc main_v108_6) : Vec Ideal S100 .f32) (ix1 i)
  classes : ∀ (k i : Fin 100), BitVec.toInt ((X (Proc.devRef .tc main_v108_3) : IVec S_ 32) (Shape.Idx.first h_S_)) = (k.val : Int) →
    (mid X (Proc.devRef .tc main_while0b_v198) : Vec Ideal S100 .i32) (ix1 i)
      = if i = k then (X (Proc.devRef .tc main_v108_2) : Vec Ideal S80000 .i32) (ix1 j) else (X (Proc.devRef .tc main_v108_7) : Vec Ideal S100 .i32) (ix1 i)

theorem keep06 (b : Ref sig .tc) (h : b ∉ trip0_W ++ trip1_W ++ trip2_W ++ trip3_W ++ trip4_W ++ trip5_W ++ trip6_W) :
    after trip6 (after trip5 (after trip4 (after trip3 (after trip2 (after trip1 (after trip0 X)))))) (Proc.devRef .tc b) = X (Proc.devRef .tc b) := by
  simp only [List.mem_append, not_or] at h
  rw [after_of_writes_sub trip6 _ trip6_writes h.2, after_of_writes_sub trip5 _ trip5_writes h.1.2, after_of_writes_sub trip4 _ trip4_writes h.1.1.2,
    after_of_writes_sub trip3 _ trip3_writes h.1.1.1.2, after_of_writes_sub trip2 _ trip2_writes h.1.1.1.1.2, after_of_writes_sub trip1 _ trip1_writes h.1.1.1.1.1.2,
    after_of_writes_sub trip0 _ trip0_writes h.1.1.1.1.1.1]

theorem keep26 (b : Ref sig .tc) (h : b ∉ trip2_W ++ trip3_W ++ trip4_W ++ trip5_W ++ trip6_W) :
    after trip6 (after trip5 (after trip4 (after trip3 (after trip2 X)))) (Proc.devRef .tc b) = X (Proc.devRef .tc b) := by
  simp only [List.mem_append, not_or] at h
  rw [after_of_writes_sub trip6 _ trip6_writes h.2, after_of_writes_sub trip5 _ trip5_writes h.1.2, after_of_writes_sub trip4 _ trip4_writes h.1.1.2,
    after_of_writes_sub trip3 _ trip3_writes h.1.1.1.2, after_of_writes_sub trip2 _ trip2_writes h.1.1.1.1]

theorem mid_picks : ∃ j : Fin 80000, Sp.IsArg (fv (X (Proc.devRef .tc main_v108_4))) j ∧ Picks X j := by
  obtain ⟨j, hj, h⟩ := mid_pick X
  have kX : ∀ b : Ref sig .tc, b ∉ trip0_W → after trip0 X (Proc.devRef .tc b) = X (Proc.devRef .tc b) :=
    fun b hb => after_of_writes_sub trip0 _ trip0_writes hb
  classical
  refine ⟨j, hj, ?_, ?_, ?_, ?_⟩
  · intro n
    simp only [mid, afterL_cons, afterL_nil]
    rw [after_of_writes_sub trip10 _ trip10_writes (by decide +kernel), after_of_writes_sub trip9 _ trip9_writes (by decide +kernel),
      after_of_writes_sub trip8 _ trip8_writes (by decide +kernel), after_of_writes_sub trip7 _ trip7_writes (by decide +kernel),
      trip6_all _ j h, oB, oB, kX _ (by decide +kernel), kX _ (by decide +kernel)]
    unfold Sp.drop
    rw [hj.arg_eq]
    by_cases hs : Sp.supp (fb (X (Proc.devRef .tc main_v108_1)) j) (fb (X (Proc.devRef .tc main_v108_1)) n)
    · rw [if_pos hs, @decide_eq_true _ (Classical.dec _) hs]; rfl
    · rw [if_neg hs, @decide_eq_false _ (Classical.dec _) hs]; rfl
  · intro k i p hk
    simp only [mid, afterL_cons, afterL_nil]
    rw [after_of_writes_sub trip10 _ trip10_writes (by decide +kernel), after_of_writes_sub trip9 _ trip9_writes (by decide +kernel),
      after_of_writes_sub trip8 _ trip8_writes (by decide +kernel), trip7_v196 _ k i p (by rw [keep06 X _ (by decide +kernel)]; exact hk),
      keep06 X main_v108_5 (by decide +kernel), keep26 _ main_while0b_v122 (by decide +kernel), trip1_v122 _ j h, fb, kX _ (by decide +kernel)]
  · intro k i hk
    simp only [mid, afterL_cons, afterL_nil]
    rw [after_of_writes_sub trip10 _ trip10_writes (by decide +kernel), after_of_writes_sub trip9 _ trip9_writes (by decide +kernel),
      trip8_v197 _ k i (by rw [after_of_writes_sub trip7 _ trip7_writes (by decide +kernel), keep06 X _ (by decide +kernel)]; exact hk),
      after_of_writes_sub trip7 _ trip7_writes (by decide +kernel), after_of_writes_sub trip7 _ trip7_writes (by decide +kernel),
      keep06 X main_v108_6 (by decide +kernel), keep26 _ main_while0b_v114 (by decide +kernel), trip1_v114 _ j h, fv, kX _ (by decide +kernel)]
  · intro k i hk
    simp only [mid, afterL_cons, afterL_nil]
    rw [after_of_writes_sub trip10 _ trip10_writes (by decide +kernel),
      trip9_v198 _ k i (by rw [after_of_writes_sub trip8 _ trip8_writes (by decide +kernel), after_of_writes_sub trip7 _ trip7_writes (by decide +kernel), keep06 X _ (by decide +kernel)]; exact hk),
      after_of_writes_sub trip8 _ trip8_writes (by decide +kernel), after_of_writes_sub trip8 _ trip8_writes (by decide +kernel),
      after_of_writes_sub trip7 _ trip7_writes (by decide +kernel), after_of_writes_sub trip7 _ trip7_writes (by decide +kernel),
      keep06 X main_v108_7 (by decide +kernel), keep26 _ main_while0b_v135 (by decide +kernel), trip1_v135 _ j h, fi, kX _ (by decide +kernel)]

end

section

variable (m : (ℓ : Loc nD τ sig) → Buf (Elt Ideal) ℓ) (c : Dev nD)

/-- The valuation before anything runs. -/
abbrev V₀ : Valuation τ sig (Elt Ideal) := fun b => m (c, b)

set_option maxRecDepth 100000 in
theorem entry_v108_0 (V : Valuation τ sig (Elt Ideal)) : afterL preI V (Proc.devRef .tc main_v108_0) = afterL preI V (Proc.devRef .tc main_v93) := by
  simp only [afterL_cons, afterL_nil]
  after_reads_simp
  rfl
set_option maxRecDepth 100000 in
theorem entry_v108_1 (V : Valuation τ sig (Elt Ideal)) : afterL preI V (Proc.devRef .tc main_v108_1) = afterL preI V (Proc.devRef .tc main_v104) := by
  simp only [afterL_cons, afterL_nil]
  after_reads_simp
  rfl
set_option maxRecDepth 100000 in
theorem entry_v108_2 (V : Valuation τ sig (Elt Ideal)) : afterL preI V (Proc.devRef .tc main_v108_2) = afterL preI V (Proc.devRef .tc main_v98) := by
  simp only [afterL_cons, afterL_nil]
  after_reads_simp
  rfl
set_option maxRecDepth 100000 in
theorem entry_v108_4 (V : Valuation τ sig (Elt Ideal)) : afterL preI V (Proc.devRef .tc main_v108_4) = afterL preI V (Proc.devRef .tc main_v94) := by
  simp only [afterL_cons, afterL_nil]
  after_reads_simp
  rfl

/-! ### What the loop carries -/

/-- The proposals' boxes, the offset boxes and the scores that the loop starts from. -/
abbrev bxs : Fin 80000 → Fin 4 → EReal := fun n p => Sp.box (fP (V₀ m c)) (fD (V₀ m c)) (Sp.row n) (Sp.col n) p
abbrev obs : Fin 80000 → Fin 4 → EReal := Sp.ob (fP (V₀ m c)) (fD (V₀ m c))
abbrev scs : Fin 80000 → EReal := Sp.sc (fG (V₀ m c))

/-- The valuation at the start of a trip. -/
abbrev sK (k : ℕ) : Valuation τ sig (Elt Ideal) := after condOps (atK m k c)

theorem sK_v108_0 (k : ℕ) (n : Fin 80000) (p : Fin 4) : (sK m c k (Proc.devRef .tc main_v108_0) : Vec Ideal S80000x4 .f32) (ix2 n p) = bxs m c n p := by
  rw [sK, cond_keep _ _ (by decide +kernel), atK_keep m c _ (by decide +kernel) (by decide +kernel) (by decide +kernel), entryContents, entry_v108_0, pre_v93]

theorem sK_v108_1 (k : ℕ) : fb (sK m c k (Proc.devRef .tc main_v108_1)) = obs m c := by
  funext n p
  rw [sK, cond_keep _ _ (by decide +kernel), atK_keep m c _ (by decide +kernel) (by decide +kernel) (by decide +kernel), entryContents, entry_v108_1, fb, pre_v104]

theorem sK_v108_2 (k : ℕ) (n : Fin 80000) : (sK m c k (Proc.devRef .tc main_v108_2) : Vec Ideal S80000 .i32) (ix1 n) = BitVec.ofNat 32 (n.val % 80) := by
  rw [sK, cond_keep _ _ (by decide +kernel), atK_keep m c _ (by decide +kernel) (by decide +kernel) (by decide +kernel), entryContents, entry_v108_2, pre_v98]

theorem sK_v108_3 (k : Fin 100) (i : S_.Idx) : BitVec.toInt ((sK m c k.val (Proc.devRef .tc main_v108_3) : IVec S_ 32) i) = (k.val : Int) := by
  rw [sK, cond_keep _ _ (by decide +kernel), atK_ctr m c k.val]
  show (Scf.iv 0#32 1#32 k.val).toInt = _
  have : Scf.iv 0#32 1#32 k.val = BitVec.ofNat 32 k.val := by
    unfold Scf.iv
    simp
  rw [this, toInt_ofNat_of_lt (by omega)]

theorem sK_v108_4 : ∀ k : ℕ, fv (sK m c k (Proc.devRef .tc main_v108_4)) = Sp.run (obs m c) (scs m c) k
  | 0 => by
    funext n
    rw [sK, cond_keep _ _ (by decide +kernel)]
    show fv (entryContents preI m c (Proc.devRef .tc main_v108_4)) n = _
    rw [entryContents, entry_v108_4, fv, pre_v94]
    rfl
  | k + 1 => by
    funext n
    obtain ⟨j, hj, hp⟩ := mid_picks (sK m c k)
    have hs := hp.score n
    rw [sK_v108_1, sK_v108_4 k] at hs
    rw [sK, cond_keep _ _ (by decide +kernel), atK_succ]
    have hcopy : ∀ Z : Valuation τ sig (Elt Ideal), after trip11 Z (Proc.devRef .tc main_v108_4) = Z (Proc.devRef .tc main_while0b_v195) :=
      fun Z => by after_reads_simp; rfl
    rw [hcopy]
    exact hs

/-- The pick of a trip. -/
abbrev pk (k : ℕ) : Fin 80000 := Sp.arg (Sp.run (obs m c) (scs m c) k)

theorem succ_v108_5 (k i : Fin 100) (p : Fin 4) : (sK m c (k.val + 1) (Proc.devRef .tc main_v108_5) : Vec Ideal S100x4 .f32) (ix2 i p)
    = if i = k then bxs m c (pk m c k) p else (sK m c k.val (Proc.devRef .tc main_v108_5) : Vec Ideal S100x4 .f32) (ix2 i p) := by
  obtain ⟨j, hj, hp⟩ := mid_picks (sK m c k.val)
  have hs := hp.boxes k i p (sK_v108_3 m c k _)
  rw [sK_v108_0] at hs
  rw [sK_v108_4] at hj
  rw [pk, hj.arg_eq, ← hs, sK, cond_keep _ _ (by decide +kernel), atK_succ]
  have hcopy : ∀ Z : Valuation τ sig (Elt Ideal), after trip11 Z (Proc.devRef .tc main_v108_5) = Z (Proc.devRef .tc main_while0b_v196) :=
    fun Z => by after_reads_simp; rfl
  rw [hcopy]

theorem succ_v108_6 (k i : Fin 100) : (sK m c (k.val + 1) (Proc.devRef .tc main_v108_6) : Vec Ideal S100 .f32) (ix1 i)
    = if i = k then Sp.run (obs m c) (scs m c) k.val (pk m c k) else (sK m c k.val (Proc.devRef .tc main_v108_6) : Vec Ideal S100 .f32) (ix1 i) := by
  obtain ⟨j, hj, hp⟩ := mid_picks (sK m c k.val)
  have hs := hp.scores k i (sK_v108_3 m c k _)
  rw [sK_v108_4] at hj
  rw [pk, hj.arg_eq, ← sK_v108_4, ← hs, sK, cond_keep _ _ (by decide +kernel), atK_succ]
  have hcopy : ∀ Z : Valuation τ sig (Elt Ideal), after trip11 Z (Proc.devRef .tc main_v108_6) = Z (Proc.devRef .tc main_while0b_v197) :=
    fun Z => by after_reads_simp; rfl
  rw [hcopy]

theorem succ_v108_7 (k i : Fin 100) : (sK m c (k.val + 1) (Proc.devRef .tc main_v108_7) : Vec Ideal S100 .i32) (ix1 i)
    = if i = k then BitVec.ofNat 32 ((pk m c k).val % 80) else (sK m c k.val (Proc.devRef .tc main_v108_7) : Vec Ideal S100 .i32) (ix1 i) := by
  obtain ⟨j, hj, hp⟩ := mid_picks (sK m c k.val)
  have hs := hp.classes k i (sK_v108_3 m c k _)
  rw [sK_v108_2] at hs
  rw [sK_v108_4] at hj
  rw [pk, hj.arg_eq, ← hs, sK, cond_keep _ _ (by decide +kernel), atK_succ]
  have hcopy : ∀ Z : Valuation τ sig (Elt Ideal), after trip11 Z (Proc.devRef .tc main_v108_7) = Z (Proc.devRef .tc main_while0b_v198) :=
    fun Z => by after_reads_simp; rfl
  rw [hcopy]

/-- A row that has been written stays. -/
theorem rows_stay {α : Type} (f : ℕ → α) (g : ℕ → α) (i : Fin 100) (h : ∀ k : Fin 100, f (k.val + 1) = if i = k then g k else f k.val) :
    f 100 = g i := by
  have key : ∀ k : ℕ, k ≤ 100 → i.val < k → f k = g i := by
    intro k
    induction k with
    | zero => intro _ h; omega
    | succ k ih =>
      intro hk hi
      rw [h ⟨k, by omega⟩]
      by_cases hik : i.val = k
      · exact (if_pos (Fin.ext hik)).trans (congrArg g hik.symm)
      · rw [if_neg (fun e => hik (congrArg Fin.val e)), ih (by omega) (by omega)]
  exact key 100 le_rfl i.isLt

/-- The reference's boxes: a row per pick. -/
theorem end_boxes (i : Fin 100) (p : Fin 4) : (endV m c (Proc.devRef .tc main_v108_5) : Vec Ideal S100x4 .f32) (ix2 i p) = bxs m c (pk m c i) p :=
  rows_stay (fun k => (sK m c k (Proc.devRef .tc main_v108_5) : Vec Ideal S100x4 .f32) (ix2 i p)) (fun k => bxs m c (pk m c k) p) i
    (fun k => succ_v108_5 m c k i p)

/-- The reference's scores: one per pick. -/
theorem end_scores (i : Fin 100) : (endV m c (Proc.devRef .tc main_v108_6) : Vec Ideal S100 .f32) (ix1 i) = Sp.run (obs m c) (scs m c) i.val (pk m c i) :=
  rows_stay (fun k => (sK m c k (Proc.devRef .tc main_v108_6) : Vec Ideal S100 .f32) (ix1 i)) (fun k => Sp.run (obs m c) (scs m c) k (pk m c k)) i
    (fun k => succ_v108_6 m c k i)

/-- The reference's classes: one per pick. -/
theorem end_classes (i : Fin 100) : (endV m c (Proc.devRef .tc main_v108_7) : Vec Ideal S100 .i32) (ix1 i) = BitVec.ofNat 32 ((pk m c i).val % 80) :=
  rows_stay (fun k => (sK m c k (Proc.devRef .tc main_v108_7) : Vec Ideal S100 .i32) (ix1 i)) (fun k => BitVec.ofNat 32 ((pk m c k).val % 80)) i
    (fun k => succ_v108_7 m c k i)

end

end Cert.Proof.RI

end
-- ==== Proof.Fold.lean ====
/-
  A sum, and a greatest element, over all of a block of rows and lanes, made of a reduction of the rows and rotations of the
  lanes: what every lane then holds.
-/
module

public import proofs.«01_k».proof.Proof.Bodies
public import Idealize.ShloMosaic.PureOps.Ideal
public import Idealize.ShloMosaic.PureOps.Ideal.Laws
public import Idealize.ShloMosaic.Lib.Pointwise
public import Idealize.ShloMosaic.Lib.IdealHost

@[expose] public section

set_option maxRecDepth 16384

noncomputable section

namespace Cert.Proof.KI

open Cert.KernelIdeal Cert.KernelIdeal.Gen

open Idealize.ShloMosaic

/-- The lanes turned by `n`. -/
abbrev turn (n : BitVec 32) (x : FVec Ideal S1x128 .f32) : FVec Ideal S1x128 .f32 := dynamicRotate 1 n none x rotates_S1x128_d1

/-- The sum of the lanes, in every lane. -/
def rollSum (x : FVec Ideal S1x128 .f32) : FVec Ideal S1x128 .f32 :=
  let a := addf x (turn 1#32 x)
  let b := addf a (turn 2#32 a)
  let c := addf b (turn 4#32 b)
  let d := addf c (turn 8#32 c)
  let e := addf d (turn 16#32 d)
  let f := addf e (turn 32#32 e)
  addf f (turn 64#32 f)

/-- The greatest of the lanes, in every lane. -/
def rollMax (x : FVec Ideal S1x128 .f32) : FVec Ideal S1x128 .f32 :=
  let a := maximumf x (turn 1#32 x)
  let b := maximumf a (turn 2#32 a)
  let c := maximumf b (turn 4#32 b)
  let d := maximumf c (turn 8#32 c)
  let e := maximumf d (turn 16#32 d)
  let f := maximumf e (turn 32#32 e)
  maximumf f (turn 64#32 f)

/-- The rows summed, lane by lane. -/
def rowSum (x : FVec Ideal S32x128 .f32) : FVec Ideal S1x128 .f32 :=
  shapeCast S1x128 (multiReduction .add [0] S128 x 0x00000000#32 reduces_S32x128_S128 (.inl rfl) rfl) shapeCasts_S128_S1x128
/-- The greatest of the rows, lane by lane. -/
def rowMax (x : FVec Ideal S32x128 .f32) : FVec Ideal S1x128 .f32 :=
  shapeCast S1x128 (multiReduction .maximumf [0] S128 x 0xFF800000#32 reduces_S32x128_S128 (.inl rfl) rfl) shapeCasts_S128_S1x128
/-- The elements of a block where a mask is set, and zero elsewhere. -/
def pickV (h : IVec S32x128 1) (v : FVec Ideal S32x128 .f32) : FVec Ideal S32x128 .f32 := select h v (broadcast S32x128 (Scalar.ofBits .f32 0x00000000#32))

theorem nms_pay7 (v a3 : FVec Ideal S32x128 .f32) (a4 : FVec Ideal S1x128 .f32) : k2_pay7 v a3 a4 = rollSum (rowSum (pickV (k2_pay6 a3 a4) v)) := rfl
theorem nms_pay8 (v a3 : FVec Ideal S32x128 .f32) (a4 : FVec Ideal S1x128 .f32) : k2_pay8 v a3 a4 = rollSum (rowSum (pickV (k2_pay6 a3 a4) v)) := rfl
theorem nms_pay9 (v : FVec Ideal S32x128 .f32) (h : IVec S32x128 1) : k2_pay9 v h = rollSum (rowSum (pickV h v)) := rfl
theorem nms_pay10 (v : FVec Ideal S32x128 .f32) (h : IVec S32x128 1) : k2_pay10 v h = rollSum (rowSum (pickV h v)) := rfl
theorem nms_pay11 (v : FVec Ideal S32x128 .f32) (h : IVec S32x128 1) : k2_pay11 v h = rowSum (pickV h v) := rfl
theorem nms_pay43 (v : FVec Ideal S32x128 .f32) : k2_pay43 v = rollMax (rowMax v) := rfl
theorem nms_pay36 (v : Vec Ideal S1x32x128 .f32) : k2_pay36 (k2_pay34 v) (k2_pay35 v) = rollSum (rowSum (pickV k2_pay33 (k2_pay27 v))) := rfl
theorem nms_pay37 (v : FVec Ideal S32x128 .f32) (h : IVec S32x128 1) : k2_pay37 v h = rollSum (rowSum (pickV h v)) := rfl
theorem nms_pay40 (v : FVec Ideal S32x128 .f32) (h : IVec S32x128 1) : k2_pay40 (k2_pay38 v h) (k2_pay39 v h) = rollSum (rowSum (pickV h v)) := rfl
theorem nms_pay41 (v : FVec Ideal S32x128 .f32) (h : IVec S32x128 1) : k2_pay41 v h = rollSum (rowSum (pickV h v)) := rfl
theorem nms_pay21 (v5 v7 v9 v14 a3 : FVec Ideal S32x128 .f32) (b1 b2 b3 ar : FVec Ideal S1x128 .f32) (ix : FVec Ideal S32x128 .f32) :
    k2_pay21 v5 v7 v9 v14 a3 b1 b2 b3 ar ix = rollMax (rowMax (k2_pay20 v5 v7 v9 v14 a3 b1 b2 b3 ar ix)) := rfl

/-- A lane of a row, from a number. -/
abbrev rl (l : ℕ) : S1x128.Idx := ix2 (0 : Fin 1) (⟨l % 128, Nat.mod_lt _ (by decide)⟩ : Fin 128)

theorem rl_fin (l : ℕ) (j : Fin 128) (h : l % 128 = j.val) : rl l = ix2 0 j := by
  have e : (⟨l % 128, Nat.mod_lt _ (by decide)⟩ : Fin 128) = j := Fin.ext h
  show ix2 0 (⟨l % 128, Nat.mod_lt _ (by decide)⟩ : Fin 128) = _
  rw [e]

theorem rl_congr {l k : ℕ} (h : l % 128 = k % 128) : rl l = rl k := rl_fin l ⟨k % 128, Nat.mod_lt _ (by decide)⟩ h

theorem turn_at (n : ℕ) (hn : n < 128) (x : FVec Ideal S1x128 .f32) (l : ℕ) : turn (BitVec.ofNat 32 n) x (rl l) = x (rl (l % 128 + 128 - n)) := by
  show x _ = x _
  congr 1
  funext a
  have e : (BitVec.ofNat 32 n).toNat = n := by rw [BitVec.toNat_ofNat]; omega
  match a with
  | ⟨0, _⟩ => exact Fin.ext rfl
  | ⟨1, _⟩ =>
    apply Fin.ext
    show (l % 128 + 128 - ((BitVec.ofNat 32 n).toNat + 0) % 128) % 128 = _
    rw [e]
    show _ = (l % 128 + 128 - n) % 128
    omega

/-- One more turn doubles the number of lanes summed. -/
theorem sum_step (r x : FVec Ideal S1x128 .f32) (n : ℕ) (hn : n < 128) (h : ∀ l, (x (rl l) : EReal) = ∑ i ∈ Finset.range n, (r (rl (l % 128 + 128 - i)) : EReal)) (hn2 : 2 * n ≤ 128) (l : ℕ) :
    (addf x (turn (BitVec.ofNat 32 n) x) (rl l) : EReal) = ∑ i ∈ Finset.range (2 * n), (r (rl (l % 128 + 128 - i)) : EReal) := by
  show (x (rl l) + turn (BitVec.ofNat 32 n) x (rl l) : EReal) = _
  rw [turn_at n hn, h, h, Nat.two_mul, Finset.sum_range_add]
  congr 1
  refine Finset.sum_congr rfl fun i hi => ?_
  have hi := Finset.mem_range.mp hi
  rw [rl_congr (show ((l % 128 + 128 - n) % 128 + 128 - i) % 128 = (l % 128 + 128 - (n + i)) % 128 by omega)]

theorem rollSum_at (r : FVec Ideal S1x128 .f32) (l : ℕ) : (rollSum r (rl l) : EReal) = ∑ j : Fin 128, (r (ix2 0 j) : EReal) := by
  have h0 : ∀ l, (r (rl l) : EReal) = ∑ i ∈ Finset.range 1, (r (rl (l % 128 + 128 - i)) : EReal) := fun l => by
    rw [Finset.sum_range_one]
    rw [rl_congr (show (l % 128 + 128 - 0) % 128 = l % 128 by omega)]
  have h7 := sum_step r _ 64 (by omega) (sum_step r _ 32 (by omega) (sum_step r _ 16 (by omega) (sum_step r _ 8 (by omega) (sum_step r _ 4 (by omega)
    (sum_step r _ 2 (by omega) (sum_step r r 1 (by omega) h0 (by omega)) (by omega)) (by omega)) (by omega)) (by omega)) (by omega)) (by omega) l
  refine Eq.trans h7 ?_
  rw [Finset.sum_range]
  refine Finset.sum_nbij' (fun i : Fin 128 => (⟨(l % 128 + 128 - i.val) % 128, Nat.mod_lt _ (by decide)⟩ : Fin 128)) (fun i : Fin 128 => (⟨(l % 128 + 128 - i.val) % 128, Nat.mod_lt _ (by decide)⟩ : Fin 128))
    (fun _ _ => Finset.mem_univ _) (fun _ _ => Finset.mem_univ _) ?_ ?_ ?_
  · intro i _; apply Fin.ext; show (l % 128 + 128 - (l % 128 + 128 - i.val) % 128) % 128 = i.val; omega
  · intro i _; apply Fin.ext; show (l % 128 + 128 - (l % 128 + 128 - i.val) % 128) % 128 = i.val; omega
  · intro i _; rfl

/-- One more turn doubles the number of lanes compared. -/
theorem max_step (r x : FVec Ideal S1x128 .f32) (n : ℕ) (hn : n < 128) (h : ∀ l (v : EReal), (x (rl l) : EReal) ≤ v ↔ ∀ i < n, (r (rl (l % 128 + 128 - i)) : EReal) ≤ v) (hn2 : 2 * n ≤ 128) (l : ℕ) (v : EReal) :
    (maximumf x (turn (BitVec.ofNat 32 n) x) (rl l) : EReal) ≤ v ↔ ∀ i < 2 * n, (r (rl (l % 128 + 128 - i)) : EReal) ≤ v := by
  show (max (x (rl l)) (turn (BitVec.ofNat 32 n) x (rl l)) : EReal) ≤ v ↔ _
  rw [turn_at n hn, max_le_iff, h, h]
  have e : ∀ i, i < n → rl ((l % 128 + 128 - n) % 128 + 128 - i) = rl (l % 128 + 128 - (n + i)) := fun i hi => rl_congr (by omega)
  constructor
  · rintro ⟨h1, h2⟩ i hi
    by_cases hl : i < n
    · exact h1 i hl
    · have := h2 (i - n) (by omega)
      rw [e _ (by omega), show n + (i - n) = i by omega] at this
      exact this
  · intro h1
    exact ⟨fun i hi => h1 i (by omega), fun i hi => by rw [e i hi]; exact h1 _ (by omega)⟩

theorem rollMax_at (r : FVec Ideal S1x128 .f32) (l : ℕ) (v : EReal) : (rollMax r (rl l) : EReal) ≤ v ↔ ∀ j : Fin 128, (r (ix2 0 j) : EReal) ≤ v := by
  have h0 : ∀ l (v : EReal), (r (rl l) : EReal) ≤ v ↔ ∀ i < 1, (r (rl (l % 128 + 128 - i)) : EReal) ≤ v := fun l v => by
    have e : rl (l % 128 + 128 - 0) = rl l := rl_congr (by omega)
    constructor
    · intro h i hi
      obtain rfl : i = 0 := by omega
      rw [e]; exact h
    · intro h
      rw [← e]; exact h 0 (by omega)
  have h7 := max_step r _ 64 (by omega) (max_step r _ 32 (by omega) (max_step r _ 16 (by omega) (max_step r _ 8 (by omega) (max_step r _ 4 (by omega)
    (max_step r _ 2 (by omega) (max_step r r 1 (by omega) h0 (by omega)) (by omega)) (by omega)) (by omega)) (by omega)) (by omega)) (by omega) l v
  refine Iff.trans h7 ?_
  constructor
  · intro h j
    have := h ((l % 128 + 128 - j.val) % 128) (by omega)
    rw [show rl (l % 128 + 128 - (l % 128 + 128 - j.val) % 128) = ix2 0 j from rl_fin _ _ (by omega)] at this
    exact this
  · intro h i hi
    exact h _

theorem rowSum_at (x : FVec Ideal S32x128 .f32) (j : Fin 128) : (rowSum x (ix2 0 j) : EReal) = ∑ i : Fin 32, (x (ix2 i j) : EReal) := by
  unfold rowSum
  pointwise

theorem rowMax_at (x : FVec Ideal S32x128 .f32) (j : Fin 128) (v : EReal) : (rowMax x (ix2 0 j) : EReal) ≤ v ↔ ∀ i : Fin 32, (x (ix2 i j) : EReal) ≤ v := by
  unfold rowMax
  pointwise
  rw [Finset.fold_max_le]
  have hb : Ideal.ofBits FTy.f32 0xFF800000#32 = ⊥ := by simp [Ideal.ofBits, Ideal.ieee]
  constructor
  · rintro ⟨_, h⟩ i
    exact h i (Finset.mem_univ _)
  · intro h
    exact ⟨by rw [hb]; exact bot_le, fun i _ => h i⟩

end Cert.Proof.KI
end
-- ==== Proof.NmsVal.lean ====
/-
  One step of the suppression stage over the extended reals.
-/
module

public import proofs.«01_k».proof.Proof.Fold
public import proofs.«01_k».proof.Proof.Spec
public import Idealize.ShloMosaic.Lib.Routing.Words

@[expose] public section

set_option maxRecDepth 16384

noncomputable section

namespace Cert.Proof.KI

open Cert.KernelIdeal Cert.KernelIdeal.Gen

open Idealize.ShloMosaic

/-! ## The class of a flat position -/

/-- The remainder as the program computes it. -/
def remW (x : BitVec 32) : BitVec 32 :=
  let r := IntOp.remsi .vector x 80#32
  Scalar.select (IntOp.andi (IntOp.xori (IntOp.cmpi .slt r 0#32) 0#1) (IntOp.cmpi .ne r 0#32)) (r + 80#32) r

theorem remW_ofNat (n : ℕ) (hn : n < 80000) : remW (BitVec.ofNat 32 n) = BitVec.ofNat 32 (n % 80) := by
  have hr : IntOp.remsi .vector (BitVec.ofNat 32 n) 80#32 = BitVec.ofNat 32 (n % 80) := Routing.remsi_word .vector (by omega) (by decide) (by decide)
  have hs : ∀ k, k < 80 → (BitVec.ofNat 32 k).slt 0#32 = false := by decide +kernel
  have h80 : n % 80 < 80 := Nat.mod_lt _ (by decide)
  unfold remW
  rw [hr]
  show Scalar.select ((BitVec.ofBool ((BitVec.ofNat 32 (n % 80)).slt 0#32) ^^^ 0#1) &&& _) _ _ = _
  rw [hs _ h80]
  show Scalar.select (0#1 &&& _) _ _ = _
  rw [BitVec.zero_and]
  rfl

theorem fptosi_nat (n : ℕ) (hn : n < 80000) : FloatOps.fptosi (F := Ideal) (φ := .f32) 32 (((n : ℝ) : EReal)) = BitVec.ofNat 32 n := by
  show Ideal.fptosi 32 ((n : ℝ) : EReal) = _
  rw [Ideal.fptosi, Ideal.toIntClamped_coe, if_pos (Nat.cast_nonneg n), Int.floor_natCast, min_eq_right, max_eq_right, BitVec.ofInt_natCast]
  · push_cast; omega
  · push_cast; omega

theorem class_at (m : IVec S1x128 1) (g : FVec Ideal S1x128 .f32) (l : ℕ) :
    k2_pay16 m g (rl l) = remW (FloatOps.fptosi (F := Ideal) (φ := .f32) 32 (Scalar.select (m (rl l)) (Scalar.ofBits (F := Ideal) .f32 0x00000000#32) (rollSum g (rl l)))) := rfl

theorem off_at (m : IVec S1x128 1) (g : FVec Ideal S1x128 .f32) (l n : ℕ) (h : k2_pay16 m g (rl l) = BitVec.ofNat 32 n) : k2_pay17 m g (rl l) = Sp.off n := by
  show (FloatOps.sitofp (F := Ideal) FTy.f32 (k2_pay16 m g (rl l)) * _ : EReal) = _
  rw [h]; rfl

/-! ## The pick -/

/-- The sum over a block of the elements where a mask is set. -/
def pickSum (h : IVec S32x128 1) (v : FVec Ideal S32x128 .f32) : FVec Ideal S1x128 .f32 := rollSum (rowSum (pickV h v))

/-- When the mask is set at one element only, the sum is that element. -/
theorem pickSum_one (h : IVec S32x128 1) (v : FVec Ideal S32x128 .f32) (i : Fin 32) (j : Fin 128) (h1 : h (ix2 i j) = 1)
    (h2 : ∀ i' j', h (ix2 i' j') = 1 → i' = i ∧ j' = j) (l : ℕ) : (pickSum h v (rl l) : EReal) = v (ix2 i j) := by
  have hz : Ideal.ofBits FTy.f32 0x00000000#32 = 0 := by simp [Ideal.ofBits, Ideal.ieee]
  have e : ∀ i' j', ¬ (i' = i ∧ j' = j) → (pickV h v (ix2 i' j') : EReal) = 0 := fun i' j' hn => by
    show (if h (ix2 i' j') = 1 then (v (ix2 i' j') : EReal) else Ideal.ofBits FTy.f32 0x00000000#32) = 0
    rw [if_neg fun e => hn (h2 _ _ e), hz]
  unfold pickSum
  rw [rollSum_at, Finset.sum_eq_single j, rowSum_at, Finset.sum_eq_single i]
  · show (if h (ix2 i j) = 1 then (v (ix2 i j) : EReal) else Ideal.ofBits FTy.f32 0x00000000#32) = _
    rw [if_pos h1]
  · intro i' _ hi; exact e _ _ fun h => hi h.1
  · intro hn; exact absurd (Finset.mem_univ _) hn
  · intro j' _ hj
    rw [rowSum_at]
    exact Finset.sum_eq_zero fun i' _ => e _ _ fun h => hj h.2
  · intro hn; exact absurd (Finset.mem_univ _) hn

/-- The mask of the first slot. -/
theorem first_mask (i : Fin 32) (j : Fin 128) : k2_pay33 (ix2 i j) = 1 ↔ i = 0 ∧ j = 0 := by
  revert i j
  decide +kernel

theorem best_mask (a4 : FVec Ideal S1x128 .f32) (l : ℕ) : k2_pay5 a4 (rl l) = 1 ↔ (a4 (rl l) : EReal) = Sp.neg := by
  show (FloatOps.cmpf (F := Ideal) (φ := .f32) .oeq (a4 (rl l)) Sp.neg : BitVec 1) = 1 ↔ _
  generalize a4 (rl l) = e
  rw [Ideal.cmpf_def]
  by_cases h : e = Sp.neg <;> simp [Ideal.cmp, h]

theorem hit_mask (a3 : FVec Ideal S32x128 .f32) (a4 : FVec Ideal S1x128 .f32) (i : Fin 32) (j : Fin 128) :
    k2_pay6 a3 a4 (ix2 i j) = 1 ↔ (a3 (ix2 i j) : EReal) = a4 (ix2 0 j) := by
  have e : k2_pay6 a3 a4 (ix2 i j) = FloatOps.cmpf (F := Ideal) (φ := .f32) .oeq (a3 (ix2 i j)) (a4 (ix2 0 j)) := by
    unfold k2_pay6
    pointwise
  rw [e, Ideal.cmpf_def]
  by_cases h : (a3 (ix2 i j) : EReal) = a4 (ix2 0 j) <;> simp [Ideal.cmp, h]

/-! ## The suppression -/

theorem supp_at (v3 v5 v7 v9 v14 a3 : FVec Ideal S32x128 .f32) (v40 v58 v76 v94 : FVec Ideal S1x128 .f32) (m : IVec S1x128 1) (x1 y1 x2 y2 : FVec Ideal S1x128 .f32) (B E : Fin 4 → EReal)
    (i : Fin 32) (j : Fin 128) (h3 : v3 (ix2 i j) = E 0) (h5 : v5 (ix2 i j) = E 1) (h7 : v7 (ix2 i j) = E 2) (h9 : v9 (ix2 i j) = E 3)
    (h14 : v14 (ix2 i j) = Sp.area E) (b0 : k2_pay12 v40 m x1 (ix2 0 j) = B 0) (b1 : k2_pay13 v58 m y1 (ix2 0 j) = B 1) (b2 : k2_pay14 v76 m x2 (ix2 0 j) = B 2)
    (b3 : k2_pay15 v94 m y2 (ix2 0 j) = B 3) :
    (k2_pay20 v5 v7 v9 v14 a3 (k2_pay13 v58 m y1) (k2_pay14 v76 m x2) (k2_pay15 v94 m y2) (k2_pay18 v40 v58 v76 v94 m x1 y1 x2 y2) (k2_pay19 v3 v40 m x1) (ix2 i j) : EReal)
      = @ite _ (Sp.supp B E) (Classical.propDecidable _) Sp.neg (a3 (ix2 i j)) := by
  generalize hq0 : k2_pay12 v40 m x1 = q0 at *
  generalize hq1 : k2_pay13 v58 m y1 = q1 at *
  generalize hq2 : k2_pay14 v76 m x2 = q2 at *
  generalize hq3 : k2_pay15 v94 m y2 = q3 at *
  unfold k2_pay20 k2_pay18 k2_pay19
  rw [hq0, hq1, hq2, hq3]
  pointwise
  rw [h3, h5, h7, h9, h14, b0, b1, b2, b3]
  have hz : Ideal.ofBits FTy.f32 0x00000000#32 = 0 := by simp [Ideal.ofBits, Ideal.ieee]
  have e : Sp.supp B E ↔ Ideal.ofBits FTy.f32 0x3F000000#32 <
      Ideal.div (max (min (B 2) (E 2) - max (B 0) (E 0)) 0 * max (min (B 3) (E 3) - max (B 1) (E 1)) 0)
        ((B 2 - B 0) * (B 3 - B 1) + Sp.area E - max (min (B 2) (E 2) - max (B 0) (E 0)) 0 * max (min (B 3) (E 3) - max (B 1) (E 1)) 0
          + Ideal.ofBits FTy.f32 0x3089705F#32) := by
    unfold Sp.supp Sp.iou Sp.inter
    rw [hz, max_comm 0, max_comm 0]
    rfl
  by_cases hs : Sp.supp B E
  · rw [if_pos hs, if_pos (e.mp hs)]; rfl
  · rw [if_neg hs, if_neg fun h => hs (e.mpr h)]

end Cert.Proof.KI
end
-- ==== Proof.NmsLoop.lean ====
/-
  The suppression stage over the extended reals, from a table that lists the elements above the threshold: its picks, their
  scores and their boxes are those of the specification's run.
-/
module

public import proofs.«01_k».proof.Proof.NmsVal

@[expose] public section

set_option maxRecDepth 16384

noncomputable section

namespace Cert.Proof.KI

open Cert.KernelIdeal Cert.KernelIdeal.Gen

open Idealize.ShloMosaic

/-! ## The specification's run -/

theorem neg_lt_thr : Sp.neg < Sp.thr := by
  have h1 : Sp.neg = ((-1000000000 : ℝ) : EReal) := by
    unfold Sp.neg; simp [Ideal.ofBits, Ideal.ieee]; exact_mod_cast (by norm_num : (15625000 * 2 ^ 6 : ℝ) = 1000000000)
  have h2 : (0 : EReal) < Sp.thr := by
    unfold Sp.thr; simp [Ideal.ofBits, Ideal.ieee]
    exact_mod_cast (by positivity : (0 : ℝ) < 13421773 * (2 ^ 28)⁻¹)
  refine lt_trans ?_ h2
  rw [h1]
  exact_mod_cast (by norm_num : (-1000000000 : ℝ) < 0)

theorem exists_isArg (x : Fin 80000 → EReal) : ∃ j, Sp.IsArg x j := by
  obtain ⟨a, -, ha⟩ := Finset.exists_max_image (Finset.univ : Finset (Fin 80000)) x ⟨0, Finset.mem_univ _⟩
  have hne : (Finset.univ.filter fun n => x n = x a).Nonempty := ⟨a, by simp⟩
  obtain ⟨j, hj, hmin⟩ := Finset.exists_min_image _ (fun n : Fin 80000 => n) hne
  have hjx : x j = x a := (Finset.mem_filter.mp hj).2
  refine ⟨j, fun n => by rw [hjx]; exact ha n (Finset.mem_univ _), fun n hn => ?_⟩
  refine lt_of_le_of_ne (by rw [hjx]; exact ha n (Finset.mem_univ _)) fun e => ?_
  exact absurd (hmin n (Finset.mem_filter.mpr ⟨Finset.mem_univ _, e.trans hjx⟩)) (not_le.mpr hn)

theorem isArg_arg (x : Fin 80000 → EReal) : Sp.IsArg x (Sp.arg x) := by
  obtain ⟨j, hj⟩ := exists_isArg x
  rw [hj.arg_eq]; exact hj

variable (O : Fin 80000 → Fin 4 → EReal) (S : Fin 80000 → EReal)

/-- What the precondition and the definition of the scores say of them. -/
structure Scores : Prop where
  val : ∀ n, Sp.thr < S n ∨ S n = Sp.neg
  inj : ∀ n n', Sp.thr < S n → S n = S n' → n = n'

theorem run_cases : ∀ k n, Sp.run O S k n = S n ∨ Sp.run O S k n = Sp.neg
  | 0, n => Or.inl rfl
  | k + 1, n => by
    show Sp.drop O (Sp.run O S k) n = S n ∨ Sp.drop O (Sp.run O S k) n = Sp.neg
    unfold Sp.drop
    split
    · exact Or.inr rfl
    · exact run_cases k n

theorem run_ge (hS : Scores S) (k : ℕ) (n : Fin 80000) : Sp.neg ≤ Sp.run O S k n := by
  rcases run_cases O S k n with h | h
  · rw [h]
    rcases hS.val n with h1 | h1
    · exact (neg_lt_thr.trans h1).le
    · exact h1.ge
  · exact h.ge

theorem run_above (hS : Scores S) (k : ℕ) (n : Fin 80000) (h : Sp.run O S k n ≠ Sp.neg) : Sp.thr < S n ∧ Sp.run O S k n = S n := by
  rcases run_cases O S k n with h1 | h1
  · exact ⟨(hS.val n).resolve_right fun e => h (h1.trans e), h1⟩
  · exact absurd h1 h

/-! ## The table -/

variable (t : Vec Ideal S6x32x128 .f32) (slot : Fin 80000 → Fin 32 × Fin 128)

/-- Row `p` of the table at a slot. -/
def tv (p : ℕ) (i : Fin 32) (j : Fin 128) : EReal := t (ix6 p i.val j.val)

/-- The table lists the elements above the threshold, and keeps the first slot for the first element's box. -/
structure Tab : Prop where
  score : ∀ n, Sp.thr < S n → tv t 0 (slot n).1 (slot n).2 = S n
  coord : ∀ n, Sp.thr < S n → ∀ p : Fin 4, tv t (p.val + 1) (slot n).1 (slot n).2 = O n p
  gid : ∀ n, Sp.thr < S n → tv t 5 (slot n).1 (slot n).2 = ((n.val : ℝ) : EReal)
  rest : ∀ i j, tv t 0 i j = Sp.neg ∨ ∃ n, Sp.thr < S n ∧ slot n = (i, j)
  zero : tv t 0 0 0 = Sp.neg
  zeroc : ∀ p : Fin 4, tv t (p.val + 1) 0 0 = O 0 p

theorem blk26 (i : Fin 32) (j : Fin 128) : k2_pay26 (tabPl t 0) (ix2 i j) = tv t 0 i j := by
  unfold k2_pay26; pointwise; rfl
theorem blk27 (i : Fin 32) (j : Fin 128) : k2_pay27 (tabPl t 1) (ix2 i j) = tv t 1 i j := by
  unfold k2_pay27; pointwise; rfl
theorem blk28 (i : Fin 32) (j : Fin 128) : k2_pay28 (tabPl t 2) (ix2 i j) = tv t 2 i j := by
  unfold k2_pay28; pointwise; rfl
theorem blk29 (i : Fin 32) (j : Fin 128) : k2_pay29 (tabPl t 3) (ix2 i j) = tv t 3 i j := by
  unfold k2_pay29; pointwise; rfl
theorem blk30 (i : Fin 32) (j : Fin 128) : k2_pay30 (tabPl t 4) (ix2 i j) = tv t 4 i j := by
  unfold k2_pay30; pointwise; rfl
theorem blk31 (i : Fin 32) (j : Fin 128) : k2_pay31 (tabPl t 5) (ix2 i j) = tv t 5 i j := by
  unfold k2_pay31; pointwise; rfl
theorem blk32 (i : Fin 32) (j : Fin 128) : (k2_pay32 (tabPl t 1) (tabPl t 2) (tabPl t 3) (tabPl t 4) (ix2 i j) : EReal) = Sp.area fun p => tv t (p.val + 1) i j := by
  unfold k2_pay32
  show (k2_pay29 (tabPl t 3) (ix2 i j) - k2_pay27 (tabPl t 1) (ix2 i j) : EReal) * (k2_pay30 (tabPl t 4) (ix2 i j) - k2_pay28 (tabPl t 2) (ix2 i j) : EReal) = _
  rw [blk27, blk28, blk29, blk30]
  rfl

/-! ## The invariant -/

/-- What the scores and the greatest of them are before step `k`. -/
structure Inv (k : ℕ) (a3 : FVec Ideal S32x128 .f32) (a4 : FVec Ideal S1x128 .f32) : Prop where
  used : ∀ n, Sp.thr < S n → (a3 (ix2 (slot n).1 (slot n).2) : EReal) = Sp.run O S k n
  rest : ∀ i j, (a3 (ix2 i j) : EReal) = Sp.neg ∨ ∃ n, Sp.thr < S n ∧ slot n = (i, j)
  best : ∀ l (v : EReal), (a4 (rl l) : EReal) ≤ v ↔ ∀ (i : Fin 32) (j : Fin 128), (a3 (ix2 i j) : EReal) ≤ v

variable {O S t slot}

theorem slot_ne (hT : Tab O S t slot) (n : Fin 80000) (hn : Sp.thr < S n) : slot n ≠ (0, 0) := fun e => by
  have h := hT.score n hn
  rw [e, hT.zero] at h
  exact absurd hn (not_lt.mpr (h ▸ neg_lt_thr.le))

theorem best_eq (hS : Scores S) (hT : Tab O S t slot) {k : ℕ} {a3 : FVec Ideal S32x128 .f32} {a4 : FVec Ideal S1x128 .f32} (h : Inv O S slot k a3 a4) (l : ℕ) :
    (a4 (rl l) : EReal) = Sp.run O S k (Sp.arg (Sp.run O S k)) := by
  have ha := isArg_arg (Sp.run O S k)
  apply le_antisymm
  · rw [h.best]
    intro i j
    rcases h.rest i j with e | ⟨n, hn, e⟩
    · rw [e]; exact run_ge O S hS k _
    · have := h.used n hn
      rw [e] at this
      rw [this]; exact ha.1 n
  · have hall := (h.best l _).mp le_rfl
    by_cases hn : Sp.run O S k (Sp.arg (Sp.run O S k)) = Sp.neg
    · have h0 : (a3 (ix2 0 0) : EReal) = Sp.neg := (h.rest 0 0).resolve_right fun ⟨n, hn, e⟩ => slot_ne hT n hn e
      rw [hn, ← h0]; exact hall 0 0
    · have hab := (run_above O S hS k _ hn).1
      rw [← h.used _ hab]; exact hall _ _

/-- What a step picks: the first element when no score is left, and the element of the greatest score otherwise. -/
theorem picked (hS : Scores S) (hT : Tab O S t slot) {k : ℕ} {a3 : FVec Ideal S32x128 .f32} {a4 : FVec Ideal S1x128 .f32} (h : Inv O S slot k a3 a4) (l : ℕ) :
    (Sp.arg (Sp.run O S k) = 0 ∧ k2_pay5 a4 (rl l) = 1)
      ∨ (Sp.thr < S (Sp.arg (Sp.run O S k)) ∧ k2_pay5 a4 (rl l) ≠ 1
        ∧ ∀ V, (pickSum (k2_pay6 a3 a4) V (rl l) : EReal) = V (ix2 (slot (Sp.arg (Sp.run O S k))).1 (slot (Sp.arg (Sp.run O S k))).2)) := by
  have hb := fun l => best_eq hS hT h l
  have ha := isArg_arg (Sp.run O S k)
  by_cases hn : Sp.run O S k (Sp.arg (Sp.run O S k)) = Sp.neg
  · left
    refine ⟨Sp.IsArg.arg_eq ⟨fun n => ?_, fun n hn => absurd hn (Fin.not_lt_zero n)⟩, (best_mask a4 l).mpr ((hb l).trans hn)⟩
    exact le_trans (ha.1 n) (hn.le.trans (run_ge O S hS k 0))
  · right
    have hab := run_above O S hS k _ hn
    refine ⟨hab.1, fun e => hn ((hb l).symm.trans ((best_mask a4 l).mp e)), fun V => ?_⟩
    have e0 : ∀ j : Fin 128, (a4 (ix2 0 j) : EReal) = Sp.run O S k (Sp.arg (Sp.run O S k)) := fun j => by
      rw [← rl_fin j.val j (Nat.mod_eq_of_lt j.isLt)]; exact hb _
    refine pickSum_one _ V _ _ ?_ ?_ l
    · rw [hit_mask, e0]; exact h.used _ hab.1
    · intro i j hij
      rw [hit_mask, e0] at hij
      rcases h.rest i j with e | ⟨n, hn', e⟩
      · exact absurd (hij.symm.trans e) hn
      · have hu := h.used n hn'
        rw [e] at hu
        have hr : Sp.run O S k n = Sp.run O S k (Sp.arg (Sp.run O S k)) := hu.symm.trans hij
        have h2 := run_above O S hS k n (by rw [hr]; exact hn)
        have : n = Sp.arg (Sp.run O S k) := hS.inj n _ h2.1 (by rw [← h2.2, hr, hab.2])
        rw [← this, e]
        exact ⟨rfl, rfl⟩

/-- A coordinate of the picked box. -/
theorem coord_at (hS : Scores S) (hT : Tab O S t slot) {k : ℕ} {a3 : FVec Ideal S32x128 .f32} {a4 : FVec Ideal S1x128 .f32} (h : Inv O S slot k a3 a4) (l : ℕ)
    (p : Fin 4) (V : FVec Ideal S32x128 .f32) (hV : ∀ i j, V (ix2 i j) = tv t (p.val + 1) i j) :
    (Scalar.select (k2_pay5 a4 (rl l)) (pickSum k2_pay33 V (rl l)) (pickSum (k2_pay6 a3 a4) V (rl l)) : EReal) = O (Sp.arg (Sp.run O S k)) p := by
  show (if k2_pay5 a4 (rl l) = 1 then (pickSum k2_pay33 V (rl l) : EReal) else (pickSum (k2_pay6 a3 a4) V (rl l) : EReal)) = _
  rcases picked hS hT h l with ⟨h1, h2⟩ | ⟨h1, h2, h3⟩
  · rw [if_pos h2, h1, ← hT.zeroc p, ← hV]
    exact pickSum_one _ V 0 0 ((first_mask 0 0).mpr ⟨rfl, rfl⟩) (fun i j hij => (first_mask i j).mp hij) l
  · rw [if_neg h2, h3, hV, hT.coord _ h1]

/-- The class of the pick. -/
theorem class_eq (hS : Scores S) (hT : Tab O S t slot) {k : ℕ} {a3 : FVec Ideal S32x128 .f32} {a4 : FVec Ideal S1x128 .f32} (h : Inv O S slot k a3 a4) (l : ℕ) :
    k2_pay16 (k2_pay5 a4) (k2_pay11 (k2_pay31 (tabPl t 5)) (k2_pay6 a3 a4)) (rl l) = BitVec.ofNat 32 ((Sp.arg (Sp.run O S k)).val % 80) := by
  rw [class_at]
  have key : (Scalar.select (k2_pay5 a4 (rl l)) (Scalar.ofBits (F := Ideal) .f32 0x00000000#32) (rollSum (k2_pay11 (k2_pay31 (tabPl t 5)) (k2_pay6 a3 a4)) (rl l)) : EReal)
      = (((Sp.arg (Sp.run O S k)).val : ℝ) : EReal) := by
    show (if k2_pay5 a4 (rl l) = 1 then (Ideal.ofBits FTy.f32 0x00000000#32 : EReal) else (pickSum (k2_pay6 a3 a4) (k2_pay31 (tabPl t 5)) (rl l) : EReal)) = _
    rcases picked hS hT h l with ⟨h1, h2⟩ | ⟨h1, h2, h3⟩
    · rw [if_pos h2, h1]
      simp [Ideal.ofBits, Ideal.ieee]
    · rw [if_neg h2, h3, blk31, hT.gid _ h1]
  rw [show (Scalar.select (k2_pay5 a4 (rl l)) (Scalar.ofBits (F := Ideal) .f32 0x00000000#32) (rollSum (k2_pay11 (k2_pay31 (tabPl t 5)) (k2_pay6 a3 a4)) (rl l)))
      = (((Sp.arg (Sp.run O S k)).val : ℝ) : EReal) from key, fptosi_nat _ (Sp.arg (Sp.run O S k)).isLt, remW_ofNat _ (Sp.arg (Sp.run O S k)).isLt]

/-! ## One step -/

theorem box_off (x : EReal) (c : ℕ) : x + Sp.off c - Sp.off c = x := by
  have h : ∃ r : ℝ, Sp.off c = (r : EReal) := by
    refine ⟨((BitVec.ofNat 32 c).toInt : ℝ) * 4096, ?_⟩
    unfold Sp.off
    rw [EReal.coe_mul]
    congr 1
    simp [Ideal.ofBits, Ideal.ieee]
    exact_mod_cast (by norm_num : (8388608 * (2 ^ 11)⁻¹ : ℝ) = 4096)
  obtain ⟨r, hr⟩ := h
  rw [hr, EReal.add_sub_cancel_right]

/-- A row after step `k`: lane `k` is new and the others stay. -/
theorem lane_mask (k : ℕ) (hk : k < 100) (l : ℕ) (hl : l < 128) : k2_pay22 laneI (BitVec.ofNat 32 k) (rl l) = 1 ↔ l = k := by
  have e : k2_pay22 laneI (BitVec.ofNat 32 k) (rl l) = 1 ↔ BitVec.ofNat 32 (l % 128) = BitVec.ofNat 32 k := by
    unfold k2_pay22 laneI
    pointwise
    by_cases h : BitVec.ofNat 32 (l % 128) = BitVec.ofNat 32 k
    · simp [h, IntOp.cmpi]
    · have e : (BitVec.ofNat 32 (l % 128) == BitVec.ofNat 32 k) = false := beq_eq_false_iff_ne.mpr h
      refine iff_of_false ?_ h
      show ¬ BitVec.ofBool (BitVec.ofNat 32 (l % 128) == BitVec.ofNat 32 k) = 1
      rw [e]
      decide
  rw [e]
  constructor
  · intro h
    have := congrArg BitVec.toNat h
    rw [BitVec.toNat_ofNat, BitVec.toNat_ofNat] at this
    omega
  · rintro rfl
    rw [Nat.mod_eq_of_lt hl]

/-- The rows before step `k`. -/
structure Rws (O : Fin 80000 → Fin 4 → EReal) (S : Fin 80000 → EReal) (k : ℕ) (r : Fin 4 → FVec Ideal S1x128 .f32) (rs rc : FVec Ideal S1x128 .f32) : Prop where
  box : ∀ i < k, ∀ p, (r p (rl i) : EReal) = O (Sp.arg (Sp.run O S i)) p - Sp.off ((Sp.arg (Sp.run O S i)).val % 80)
  score : ∀ i < k, (rs (rl i) : EReal) = Sp.run O S i (Sp.arg (Sp.run O S i))
  cls : ∀ i < k, (rc (rl i) : EReal) = FloatOps.sitofp (F := Ideal) .f32 (BitVec.ofNat 32 ((Sp.arg (Sp.run O S i)).val % 80))

def bRow (st : NSt Ideal) : Fin 4 → FVec Ideal S1x128 .f32 := ![st.2.2.1, st.2.2.2.1, st.2.2.2.2.1, st.2.2.2.2.2.1]

theorem step_inv (hS : Scores S) (hT : Tab O S t slot) (k : ℕ) (hk : k < 100) (st : NSt Ideal)
    (h : Inv O S slot k st.1 st.2.1) (hr : Rws O S k (bRow st) st.2.2.2.2.2.2.1 st.2.2.2.2.2.2.2) :
    Inv O S slot (k + 1) (nmsStep t (BitVec.ofNat 32 k) st).1 (nmsStep t (BitVec.ofNat 32 k) st).2.1
      ∧ Rws O S (k + 1) (bRow (nmsStep t (BitVec.ofNat 32 k) st)) (nmsStep t (BitVec.ofNat 32 k) st).2.2.2.2.2.2.1 (nmsStep t (BitVec.ofNat 32 k) st).2.2.2.2.2.2.2 := by
  obtain ⟨a3, a4, a5, a6, a7, a8, a9, a10⟩ := st
  have c0 : ∀ l, (k2_pay12 (k2_pay36 (k2_pay34 (tabPl t 1)) (k2_pay35 (tabPl t 1))) (k2_pay5 a4) (k2_pay7 (k2_pay27 (tabPl t 1)) a3 a4) (rl l) : EReal) = O (Sp.arg (Sp.run O S k)) 0 := fun l => by
    rw [nms_pay36, nms_pay7]
    exact coord_at hS hT h l 0 (k2_pay27 (tabPl t 1)) (blk27 t)
  have c1 : ∀ l, (k2_pay13 (k2_pay37 (k2_pay28 (tabPl t 2)) k2_pay33) (k2_pay5 a4) (k2_pay8 (k2_pay28 (tabPl t 2)) a3 a4) (rl l) : EReal) = O (Sp.arg (Sp.run O S k)) 1 := fun l => by
    rw [nms_pay37, nms_pay8]
    exact coord_at hS hT h l 1 (k2_pay28 (tabPl t 2)) (blk28 t)
  have c2 : ∀ l, (k2_pay14 (k2_pay40 (k2_pay38 (k2_pay29 (tabPl t 3)) k2_pay33) (k2_pay39 (k2_pay29 (tabPl t 3)) k2_pay33)) (k2_pay5 a4) (k2_pay9 (k2_pay29 (tabPl t 3)) (k2_pay6 a3 a4)) (rl l) : EReal) = O (Sp.arg (Sp.run O S k)) 2 := fun l => by
    rw [nms_pay40, nms_pay9]
    exact coord_at hS hT h l 2 (k2_pay29 (tabPl t 3)) (blk29 t)
  have c3 : ∀ l, (k2_pay15 (k2_pay41 (k2_pay30 (tabPl t 4)) k2_pay33) (k2_pay5 a4) (k2_pay10 (k2_pay30 (tabPl t 4)) (k2_pay6 a3 a4)) (rl l) : EReal) = O (Sp.arg (Sp.run O S k)) 3 := fun l => by
    rw [nms_pay41, nms_pay10]
    exact coord_at hS hT h l 3 (k2_pay30 (tabPl t 4)) (blk30 t)
  have hj : ∀ j : Fin 128, rl j.val = ix2 0 j := fun j => rl_fin j.val j (Nat.mod_eq_of_lt j.isLt)
  have hc : ∀ l, k2_pay16 (k2_pay5 a4) (k2_pay11 (k2_pay31 (tabPl t 5)) (k2_pay6 a3 a4)) (rl l) = BitVec.ofNat 32 ((Sp.arg (Sp.run O S k)).val % 80) := fun l => class_eq hS hT h l
  have ho := fun l => off_at _ _ l _ (hc l)
  have hn3 : ∀ (i : Fin 32) (j : Fin 128), ((nmsStep t (BitVec.ofNat 32 k) (a3, a4, a5, a6, a7, a8, a9, a10)).1 (ix2 i j) : EReal)
      = @ite _ (Sp.supp (O (Sp.arg (Sp.run O S k))) (fun p : Fin 4 => tv t (p.val + 1) i j)) (Classical.propDecidable _) Sp.neg (a3 (ix2 i j)) := fun i j =>
    supp_at _ _ _ _ _ a3 _ _ _ _ _ _ _ _ _ (O (Sp.arg (Sp.run O S k))) (fun p : Fin 4 => tv t (p.val + 1) i j) i j (blk27 t i j) (blk28 t i j) (blk29 t i j) (blk30 t i j)
      (blk32 t i j) (by rw [← hj]; exact c0 _) (by rw [← hj]; exact c1 _) (by rw [← hj]; exact c2 _) (by rw [← hj]; exact c3 _)
  have hlast : ∀ l (p : Fin 4) (x y z : EReal), x = O (Sp.arg (Sp.run O S k)) p → y = Sp.off ((Sp.arg (Sp.run O S k)).val % 80) → l < k + 1
      → (l < k → z = O (Sp.arg (Sp.run O S l)) p - Sp.off ((Sp.arg (Sp.run O S l)).val % 80))
      → (if k2_pay22 laneI (BitVec.ofNat 32 k) (rl l) = 1 then x - y else z) = O (Sp.arg (Sp.run O S l)) p - Sp.off ((Sp.arg (Sp.run O S l)).val % 80) := by
    intro l p x y z hx hy hl hz
    by_cases e : l = k
    · rw [if_pos ((lane_mask k hk l (by omega)).mpr e), hx, hy, e]
    · rw [if_neg (fun h => e ((lane_mask k hk l (by omega)).mp h))]
      exact hz (by omega)
  refine ⟨⟨?_, ?_, ?_⟩, ⟨?_, ?_, ?_⟩⟩
  · intro n hn
    rw [hn3, show (fun p : Fin 4 => tv t (p.val + 1) (slot n).1 (slot n).2) = O n from funext fun p => hT.coord n hn p,
      show (a3 (ix2 (slot n).1 (slot n).2) : EReal) = Sp.run O S k n from h.used n hn]
    rfl
  · intro i j
    rw [hn3]
    split
    · exact Or.inl rfl
    · exact h.rest i j
  · intro l v
    have e : (nmsStep t (BitVec.ofNat 32 k) (a3, a4, a5, a6, a7, a8, a9, a10)).2.1
        = rollMax (rowMax (nmsStep t (BitVec.ofNat 32 k) (a3, a4, a5, a6, a7, a8, a9, a10)).1) := nms_pay21 _ _ _ _ _ _ _ _ _ _
    rw [e, rollMax_at]
    constructor
    · intro h1 i j; exact (rowMax_at _ j v).mp (h1 j) i
    · intro h1 j; exact (rowMax_at _ j v).mpr fun i => h1 i j
  · intro l hl p
    match p with
    | 0 => exact hlast l 0 _ _ _ (c0 l) (ho l) hl fun h' => hr.box l h' 0
    | 1 => exact hlast l 1 _ _ _ (c1 l) (ho l) hl fun h' => hr.box l h' 1
    | 2 => exact hlast l 2 _ _ _ (c2 l) (ho l) hl fun h' => hr.box l h' 2
    | 3 => exact hlast l 3 _ _ _ (c3 l) (ho l) hl fun h' => hr.box l h' 3
  · intro l hl
    show (if k2_pay22 laneI (BitVec.ofNat 32 k) (rl l) = 1 then (a4 (rl l) : EReal) else (a9 (rl l) : EReal)) = _
    by_cases e : l = k
    · rw [if_pos ((lane_mask k hk l (by omega)).mpr e), e]
      exact best_eq hS hT h k
    · rw [if_neg (fun h => e ((lane_mask k hk l (by omega)).mp h))]
      exact hr.score l (by omega)
  · intro l hl
    show (if k2_pay22 laneI (BitVec.ofNat 32 k) (rl l) = 1
      then (FloatOps.sitofp (F := Ideal) .f32 (k2_pay16 (k2_pay5 a4) (k2_pay11 (k2_pay31 (tabPl t 5)) (k2_pay6 a3 a4)) (rl l)) : EReal) else (a10 (rl l) : EReal)) = _
    by_cases e : l = k
    · rw [if_pos ((lane_mask k hk l (by omega)).mpr e), hc, e]
    · rw [if_neg (fun h => e ((lane_mask k hk l (by omega)).mp h))]
      exact hr.cls l (by omega)

/-- The state before every step. -/
theorem at_inv (hS : Scores S) (hT : Tab O S t slot) : ∀ k ≤ 100, Inv O S slot k (nmsAt t k).1 (nmsAt t k).2.1
    ∧ Rws O S k (bRow (nmsAt t k)) (nmsAt t k).2.2.2.2.2.2.1 (nmsAt t k).2.2.2.2.2.2.2
  | 0, _ => by
    refine ⟨⟨?_, ?_, ?_⟩, ⟨fun i hi => absurd hi (by omega), fun i hi => absurd hi (by omega), fun i hi => absurd hi (by omega)⟩⟩
    · intro n hn
      show (k2_pay26 (tabPl t 0) (ix2 (slot n).1 (slot n).2) : EReal) = _
      rw [blk26, hT.score n hn]
      rfl
    · intro i j
      show (k2_pay26 (tabPl t 0) (ix2 i j) : EReal) = _ ∨ _
      rw [blk26]
      exact hT.rest i j
    · intro l v
      show (k2_pay43 (k2_pay26 (tabPl t 0)) (rl l) : EReal) ≤ v ↔ ∀ (i : Fin 32) (j : Fin 128), (k2_pay26 (tabPl t 0) (ix2 i j) : EReal) ≤ v
      rw [nms_pay43, rollMax_at]
      constructor
      · intro h1 i j; exact (rowMax_at _ j v).mp (h1 j) i
      · intro h1 j; exact (rowMax_at _ j v).mpr fun i => h1 i j
  | k + 1, hk => by
    obtain ⟨h1, h2⟩ := at_inv hS hT k (by omega)
    exact step_inv hS hT k (by omega) (nmsAt t k) h1 h2

/-! ## The rows written back -/

theorem nmsV_box (hS : Scores S) (hT : Tab O S t slot) (i : Fin 100) (p : Fin 4) :
    (nmsV t (ix2 (⟨p.val, by omega⟩ : Fin 6) (⟨i.val, by omega⟩ : Fin 128)) : EReal)
      = O (Sp.arg (Sp.run O S i.val)) p - Sp.off ((Sp.arg (Sp.run O S i.val)).val % 80) := by
  have h := (at_inv hS hT 100 le_rfl).2.box i.val i.isLt p
  rw [rl_fin i.val ⟨i.val, by omega⟩ (Nat.mod_eq_of_lt (by omega))] at h
  unfold nmsV
  generalize nmsAt t 100 = st at *
  rw [← h]
  obtain ⟨a3, a4, a5, a6, a7, a8, a9, a10⟩ := st
  unfold rowsOf k2_pay4
  fin_cases p <;> pointwise <;> rfl

theorem nmsV_score (hS : Scores S) (hT : Tab O S t slot) (i : Fin 100) :
    (nmsV t (ix2 (4 : Fin 6) (⟨i.val, by omega⟩ : Fin 128)) : EReal) = Sp.run O S i.val (Sp.arg (Sp.run O S i.val)) := by
  have h := (at_inv hS hT 100 le_rfl).2.score i.val i.isLt
  rw [rl_fin i.val ⟨i.val, by omega⟩ (Nat.mod_eq_of_lt (by omega))] at h
  unfold nmsV
  generalize nmsAt t 100 = st at *
  rw [← h]
  obtain ⟨a3, a4, a5, a6, a7, a8, a9, a10⟩ := st
  unfold rowsOf k2_pay4
  pointwise

theorem nmsV_class (hS : Scores S) (hT : Tab O S t slot) (i : Fin 100) :
    (nmsV t (ix2 (5 : Fin 6) (⟨i.val, by omega⟩ : Fin 128)) : EReal)
      = FloatOps.sitofp (F := Ideal) .f32 (BitVec.ofNat 32 ((Sp.arg (Sp.run O S i.val)).val % 80)) := by
  have h := (at_inv hS hT 100 le_rfl).2.cls i.val i.isLt
  rw [rl_fin i.val ⟨i.val, by omega⟩ (Nat.mod_eq_of_lt (by omega))] at h
  unfold nmsV
  generalize nmsAt t 100 = st at *
  rw [← h]
  obtain ⟨a3, a4, a5, a6, a7, a8, a9, a10⟩ := st
  unfold rowsOf k2_pay4
  pointwise

end Cert.Proof.KI
end
-- ==== Proof.Pack.lean ====
/-
  What the compaction of a chunk leaves, over the extended reals: the elements above the threshold in order, one to a slot.
-/
module

public import proofs.«01_k».proof.Proof.Rows
public import proofs.«01_k».proof.Proof.Spec
public import Idealize.ShloMosaic.PureOps.Ideal
public import Idealize.ShloMosaic.PureOps.Ideal.Laws
public import Mathlib.Data.Nat.Count

@[expose] public section

set_option maxRecDepth 16384

noncomputable section

namespace Cert.Proof.KI

open Cert.KernelIdeal Cert.KernelIdeal.Gen

open Idealize.ShloMosaic

/-! ## A scatter of sixteen lanes -/

/-- An element no stored lane names is kept. -/
theorem storeIdx_keep (f : Vec Ideal S128 .i32) (ix : Fin 1 → IVec S16 32) (v : IVec S16 32) (m : IVec S16 1)
    (h : ∀ a x, (ix a x).toNat < S128.size a) (y : S128.Idx) (hy : ∀ x, m x = 1 → (ix 0 x).toNat ≠ (y 0).val) :
    storeIdx (F := Ideal) (e := .i32) f ix v m false h y = f y := by
  unfold storeIdx
  generalize List.finRange _ = l
  induction l generalizing f with
  | nil => rfl
  | cons k l ih =>
    rw [List.foldl_cons, ih]
    dsimp only
    split
    · rename_i hm
      beta_reduce
      exact if_neg fun e => hy _ hm (e 0).symm
    · rfl

/-- An element that a stored lane names holds that lane's value, when every stored lane that names it has the same. -/
theorem storeIdx_put (f : Vec Ideal S128 .i32) (ix : Fin 1 → IVec S16 32) (v : IVec S16 32) (m : IVec S16 1)
    (h : ∀ a x, (ix a x).toNat < S128.size a) (y : S128.Idx) (w : BitVec 32) (x0 : S16.Idx) (h0 : m x0 = 1) (h1 : (ix 0 x0).toNat = (y 0).val)
    (hv : ∀ x, m x = 1 → (ix 0 x).toNat = (y 0).val → v x = w) :
    storeIdx (F := Ideal) (e := .i32) f ix v m false h y = w := by
  unfold storeIdx
  have hf : f y = w ∨ x0 0 ∈ List.finRange _ := Or.inr (List.mem_finRange (x0 0))
  revert hf
  generalize List.finRange _ = l
  intro hf
  induction l generalizing f with
  | nil => exact hf.resolve_right List.not_mem_nil
  | cons k l ih =>
    rw [List.foldl_cons]
    apply ih
    by_cases hm : m (Shape.ofLane k) = 1 ∧ (ix 0 (Shape.ofLane k)).toNat = (y 0).val
    · left
      dsimp only
      rw [if_pos hm.1]
      beta_reduce
      simp only [Bool.false_eq_true, if_false]
      refine (if_pos fun a => ?_).trans (hv _ hm.1 hm.2)
      obtain rfl : a = (0 : Fin 1) := Subsingleton.elim (α := Fin 1) _ _
      exact hm.2.symm
    · rcases hf with hf | hf
      · left
        dsimp only
        split
        · rename_i hm1
          beta_reduce
          exact (if_neg fun e => hm ⟨hm1, (e 0).symm⟩).trans hf
        · exact hf
      · rcases List.mem_cons.mp hf with e | hf
        · have e' : Shape.ofLane k = x0 := by
            funext a
            obtain rfl : a = (0 : Fin 1) := Subsingleton.elim (α := Fin 1) _ _
            exact e.symm
          exact absurd ⟨by rw [e']; exact h0, by rw [e']; exact h1⟩ hm
        · exact Or.inr hf

/-! ## The running count of a vector -/

/-- A lane from a number. -/
abbrev lane (n : ℕ) : S16.Idx := ixL n

/-- A running sum from its first term. -/
def cum (a : ℕ → BitVec 32) : ℕ → BitVec 32
  | 0 => a 0
  | n + 1 => cum a n + a (n + 1)

theorem scan_cum (v : IVec S16 32) (j : ℕ) (hj : j < 16) : scan .sum v (lane j) = cum (fun k => v (lane k)) j := by
  have e : ∀ k : Fin 16, v (Shape.ofLane k) = v (lane k.val) := fun k => congrArg v (by
    funext a
    obtain rfl : a = (0 : Fin 1) := Subsingleton.elim (α := Fin 1) _ _
    exact Fin.ext (Nat.mod_eq_of_lt k.isLt).symm)
  have e2 : scan .sum v (lane j) = ((List.finRange 16).filter fun k => decide (0 < k.val ∧ k.val ≤ j)).foldl (fun r k => r + v (lane k.val)) (v (lane 0)) := by
    show ((List.finRange 16).filter fun k => decide (0 < k.val ∧ k.val ≤ j % 16)).foldl (fun r k => r + v (Shape.ofLane k)) (v (Shape.ofLane _)) = _
    rw [Nat.mod_eq_of_lt hj]
    rw [show v (Shape.ofLane ⟨0, _⟩) = v (lane 0) from e 0]
    congr 1
    funext r k
    exact congrArg (r + ·) (e k)
  rw [e2]
  interval_cases j <;> rfl

theorem cum_count (B : ℕ → Prop) [DecidablePred B] (a : ℕ → BitVec 32) (ha : ∀ k, k < 16 → a k = if B k then 1#32 else 0#32) :
    ∀ n, n < 16 → cum a n = BitVec.ofNat 32 (Nat.count B (n + 1))
  | 0, _ => by
    show a 0 = _
    rw [ha 0 (by omega), Nat.count_succ]
    by_cases h : B 0 <;> simp [h]
  | n + 1, hn => by
    show cum a n + a (n + 1) = _
    rw [cum_count B a ha n (by omega), ha _ hn, Nat.count_succ B (n + 1), BitVec.ofNat_add]
    by_cases h : B (n + 1) <;> simp [h]

/-! ## One vector -/

/-- Element `n` of a chunk is above the threshold. -/
def Abv (f : Vec Ideal S2560 .f32) (n : ℕ) : Prop := Sp.thr < (f (ixC n) : EReal)

open Classical in
/-- How many of the first `n` elements of a chunk are above the threshold. -/
def nab (f : Vec Ideal S2560 .f32) (n : ℕ) : ℕ := Nat.count (Abv f) n

theorem nab_succ_pos (f : Vec Ideal S2560 .f32) (n : ℕ) (h : Abv f n) : nab f (n + 1) = nab f n + 1 := by
  unfold nab; rw [Nat.count_succ, if_pos h]
theorem nab_succ_neg (f : Vec Ideal S2560 .f32) (n : ℕ) (h : ¬ Abv f n) : nab f (n + 1) = nab f n := by
  unfold nab; rw [Nat.count_succ, if_neg h, Nat.add_zero]
theorem nab_mono (f : Vec Ideal S2560 .f32) {a b : ℕ} (h : a ≤ b) : nab f a ≤ nab f b := by
  classical
  exact Nat.count_monotone _ h

theorem above_iff (f : Vec Ideal S2560 .f32) (n : ℕ) (x : S16.Idx) : aboveV (laneV f n) x = 1 ↔ Abv f (16 * n + (x 0).val) := by
  show (FloatOps.cmpf (F := Ideal) (φ := .f32) .ogt (f (ixC (16 * n + (x 0).val))) Sp.thr : BitVec 1) = 1 ↔ Sp.thr < f (ixC (16 * n + (x 0).val))
  generalize f (ixC (16 * n + (x 0).val)) = e
  rw [Ideal.cmpf_def]
  by_cases h : Sp.thr < e <;> simp [Ideal.cmp, h]

theorem extract15 (v : IVec S16 32) : extractAt ![15] v inpos_S16_p15 = v (lane 15) := congrArg v (by
  funext a
  obtain rfl : a = (0 : Fin 1) := Subsingleton.elim (α := Fin 1) _ _
  exact Fin.ext rfl)

theorem cntV_at (cnt : IVec S16 32) (v : Vec Ideal S16 .f32) (x : S16.Idx) :
    cntV cnt v x = cnt x + extractAt ![15] (scan .sum (ones (keepV cnt v))) inpos_S16_p15 := by
  unfold cntV
  generalize extractAt _ _ _ = e
  rfl

theorem bit_cases (b : BitVec 1) : b = 1 ∨ b = 0 := by
  revert b; decide

open Classical in
theorem ones_lane (f : Vec Ideal S2560 .f32) (n : ℕ) (k : ℕ) (hk : k < 16) :
    ones (aboveV (laneV f n)) (lane k) = if Abv f (16 * n + k) then 1#32 else 0#32 := by
  have e : ((lane k) 0).val = k := Nat.mod_eq_of_lt hk
  have h := above_iff f n (lane k)
  rw [e] at h
  show Scalar.select (aboveV (laneV f n) (lane k)) 1#32 0#32 = _
  by_cases ha : Abv f (16 * n + k)
  · rw [if_pos ha, h.mpr ha]; rfl
  · rw [if_neg ha]
    rcases bit_cases (aboveV (laneV f n) (lane k)) with hb | hb
    · exact absurd (h.mp hb) ha
    · rw [hb]; rfl

theorem lane_eta (x : S16.Idx) : lane (x 0).val = x := by
  funext a
  obtain rfl : a = (0 : Fin 1) := Subsingleton.elim (α := Fin 1) _ _
  exact Fin.ext (Nat.mod_eq_of_lt (x 0).isLt)

theorem scan_above (f : Vec Ideal S2560 .f32) (n k : ℕ) (hk : k < 16) :
    scan .sum (ones (aboveV (laneV f n))) (lane k) = BitVec.ofNat 32 (nab f (16 * n + k + 1) - nab f (16 * n)) := by
  classical
  rw [scan_cum _ k hk, cum_count (fun k => Abv f (16 * n + k)) _ (fun k hk => ones_lane f n k hk) k hk]
  congr 1
  have := Nat.count_add (Abv f) (16 * n) (k + 1)
  show _ = Nat.count (Abv f) (16 * n + (k + 1)) - Nat.count (Abv f) (16 * n)
  omega

section

variable (f : Vec Ideal S2560 .f32) (n s : ℕ) (cnt : IVec S16 32) (hc : ∀ x, cnt x = BitVec.ofNat 32 (s + nab f (16 * n)))
  (hs : s + nab f (16 * n + 16) ≤ 128)

include hc in
theorem dst_above (x : S16.Idx) (ha : Abv f (16 * n + (x 0).val)) : dstV cnt (laneV f n) x = BitVec.ofNat 32 (s + nab f (16 * n + (x 0).val)) := by
  show cnt x + scan .sum (ones (aboveV (laneV f n))) x - 1#32 = _
  have hx : (x 0).val < 16 := (x 0).isLt
  have e := scan_above f n (x 0).val hx
  rw [lane_eta] at e
  rw [e, hc, nab_succ_pos f _ ha, ← BitVec.ofNat_add]
  have h1 := nab_mono f (show 16 * n ≤ 16 * n + (x 0).val by omega)
  rw [show s + nab f (16 * n) + (nab f (16 * n + (x 0).val) + 1 - nab f (16 * n)) = s + nab f (16 * n + (x 0).val) + 1 by omega, BitVec.ofNat_add]
  exact BitVec.add_sub_cancel _ _

include hs in
theorem dst_lt (x : S16.Idx) (ha : Abv f (16 * n + (x 0).val)) : s + nab f (16 * n + (x 0).val) < 128 := by
  have hx : (x 0).val < 16 := (x 0).isLt
  have h1 := nab_succ_pos f _ ha
  have h2 := nab_mono f (show 16 * n + (x 0).val + 1 ≤ 16 * n + 16 by omega)
  omega

theorem slt_ofNat (a : ℕ) (h : a < 128) : (BitVec.ofNat 32 a).slt 128#32 = true := by
  interval_cases a <;> rfl
theorem clip_ofNat (a : ℕ) (h : a < 128) : (IntOp.minsi 127#32 (IntOp.maxsi 0#32 (BitVec.ofNat 32 a))).toNat = a := by
  interval_cases a <;> rfl

include hc hs in
theorem keep_eq : keepV cnt (laneV f n) = aboveV (laneV f n) := by
  funext x
  show aboveV (laneV f n) x &&& BitVec.ofBool ((dstV cnt (laneV f n) x).slt 128#32) = _
  rcases bit_cases (aboveV (laneV f n) x) with hb | hb
  · have ha := (above_iff f n x).mp hb
    rw [dst_above f n s cnt hc x ha, slt_ofNat _ (dst_lt f n s hs x ha), hb]; rfl
  · rw [hb]; exact BitVec.zero_and

include hc hs in
theorem cnt_next (x : S16.Idx) : cntV cnt (laneV f n) x = BitVec.ofNat 32 (s + nab f (16 * (n + 1))) := by
  rw [cntV_at, keep_eq f n s cnt hc hs, hc, extract15, scan_above f n 15 (by omega), ← BitVec.ofNat_add]
  have h1 := nab_mono f (show 16 * n ≤ 16 * n + 15 + 1 by omega)
  congr 1
  rw [show 16 * (n + 1) = 16 * n + 15 + 1 by omega]
  omega

include hc hs in
theorem scat_keep (g : Vec Ideal S128 .i32) (j : ℕ) (hj : j < s + nab f (16 * n)) (hj' : j < 128) : scatV g cnt (laneV f n) (posV n) (ixS j) = g (ixS j) := by
  refine storeIdx_keep _ _ _ _ _ _ fun x hx => ?_
  rw [keep_eq f n s cnt hc hs] at hx
  have ha := (above_iff f n x).mp hx
  show (IntOp.minsi 127#32 (IntOp.maxsi 0#32 (dstV cnt (laneV f n) x))).toNat ≠ j % 128
  rw [dst_above f n s cnt hc x ha, clip_ofNat _ (dst_lt f n s hs x ha), Nat.mod_eq_of_lt hj']
  have h1 := nab_mono f (show 16 * n ≤ 16 * n + (x 0).val by omega)
  omega

include hc hs in
theorem scat_put (g : Vec Ideal S128 .i32) (k : ℕ) (hk : k < 16) (ha : Abv f (16 * n + k)) :
    scatV g cnt (laneV f n) (posV n) (ixS (s + nab f (16 * n + k))) = BitVec.ofNat 32 (16 * n + k) := by
  have e : ((lane k) 0).val = k := Nat.mod_eq_of_lt hk
  have haL : Abv f (16 * n + ((lane k) 0).val) := by rw [e]; exact ha
  have hlt := dst_lt f n s hs (lane k) haL
  rw [e] at hlt
  refine storeIdx_put _ _ _ _ _ _ _ (lane k) ?_ ?_ ?_
  · rw [keep_eq f n s cnt hc hs]; exact (above_iff f n _).mpr haL
  · show (IntOp.minsi 127#32 (IntOp.maxsi 0#32 (dstV cnt (laneV f n) (lane k)))).toNat = (s + nab f (16 * n + k)) % 128
    rw [dst_above f n s cnt hc _ haL, e, clip_ofNat _ hlt, Nat.mod_eq_of_lt hlt]
  · intro x hx hxe
    rw [keep_eq f n s cnt hc hs] at hx
    have hax := (above_iff f n x).mp hx
    change (IntOp.minsi 127#32 (IntOp.maxsi 0#32 (dstV cnt (laneV f n) x))).toNat = (s + nab f (16 * n + k)) % 128 at hxe
    rw [dst_above f n s cnt hc x hax, clip_ofNat _ (dst_lt f n s hs x hax), Nat.mod_eq_of_lt hlt] at hxe
    show BitVec.ofNat 32 (16 * n + (x 0).val) = _
    congr 1
    rcases Nat.lt_trichotomy (x 0).val k with h | h | h
    · have h1 := nab_succ_pos f _ hax
      have h2 := nab_mono f (show 16 * n + (x 0).val + 1 ≤ 16 * n + k by omega)
      omega
    · rw [h]
    · have h1 := nab_succ_pos f _ ha
      have h2 := nab_mono f (show 16 * n + k + 1 ≤ 16 * n + (x 0).val by omega)
      omega

end

/-! ## A chunk -/

/-- The compaction after `n` vectors, begun with the first `s` slots left at zero. -/
theorem vstate_spec (f : Vec Ideal S2560 .f32) (s : ℕ) (st : CSt Ideal) (h1 : ∀ y, st.1 y = 0#32) (h2 : ∀ x, st.2 x = BitVec.ofNat 32 s)
    (hs : s + nab f 2560 ≤ 128) : ∀ n, n ≤ 160 →
      (∀ x, (vstate f st n).2 x = BitVec.ofNat 32 (s + nab f (16 * n)))
      ∧ (∀ k, k < 16 * n → Abv f k → (vstate f st n).1 (ixS (s + nab f k)) = BitVec.ofNat 32 k)
      ∧ (∀ j, j < s → (vstate f st n).1 (ixS j) = 0#32)
  | 0, _ => ⟨fun x => by
      show st.2 x = _
      rw [h2]; simp [nab], fun k hk => absurd hk (by omega), fun j _ => h1 _⟩
  | n + 1, hn => by
    obtain ⟨hc, hp, hz⟩ := vstate_spec f s st h1 h2 hs n (by omega)
    have hm := nab_mono f (show 16 * n + 16 ≤ 2560 by omega)
    have hs' : s + nab f (16 * n + 16) ≤ 128 := by omega
    have hm0 := nab_mono f (show 16 * n ≤ 2560 by omega)
    refine ⟨fun x => cnt_next f n s _ hc hs' x, fun k hk ha => ?_, fun j hj => ?_⟩
    · by_cases hlt : k < 16 * n
      · have h3 := nab_succ_pos f k ha
        have h4 := nab_mono f (show k + 1 ≤ 16 * n by omega)
        exact (scat_keep f n s _ hc hs' _ _ (by omega) (by omega)).trans (hp k hlt ha)
      · obtain ⟨i, rfl⟩ : ∃ i, k = 16 * n + i := ⟨k - 16 * n, by omega⟩
        exact scat_put f n s _ hc hs' _ i (by omega) ha
    · exact (scat_keep f n s _ hc hs' _ j (by omega) (by omega)).trans (hz j hj)

/-- Every count below the number of elements above the threshold is reached at one of them. -/
theorem nab_surj (f : Vec Ideal S2560 .f32) : ∀ n i, i < nab f n → ∃ k, k < n ∧ Abv f k ∧ nab f k = i
  | 0, i, h => absurd h (by simp [nab])
  | n + 1, i, h => by
    by_cases ha : Abv f n
    · rw [nab_succ_pos f n ha] at h
      rcases Nat.lt_or_ge i (nab f n) with hl | hl
      · obtain ⟨k, h1, h2, h3⟩ := nab_surj f n i hl
        exact ⟨k, by omega, h2, h3⟩
      · exact ⟨n, by omega, ha, by omega⟩
    · rw [nab_succ_neg f n ha] at h
      obtain ⟨k, h1, h2, h3⟩ := nab_surj f n i h
      exact ⟨k, by omega, h2, h3⟩

end Cert.Proof.KI

end
-- ==== Proof.KerVal.lean ====
/-
  The dense stage over the extended reals: its planes are the specification's scores and offset boxes.
-/
module

public import proofs.«01_k».proof.Proof.Bodies
public import proofs.«01_k».proof.Proof.Spec
public import Idealize.ShloMosaic.PureOps.Ideal
public import Idealize.ShloMosaic.PureOps.Ideal.Laws
public import Idealize.ShloMosaic.Lib.Pointwise
public import Idealize.ShloMosaic.Lib.IdealHost

@[expose] public section

set_option maxRecDepth 16384

noncomputable section

namespace Cert.Proof.KI

open Cert.KernelIdeal Cert.KernelIdeal.Gen

open Idealize.ShloMosaic Idealize.ShloMosaic.TcCoe

/-- Proposals' boxes and logits as plain functions. -/
abbrev pP (P : Vec Ideal S1000x4 .f32) : Fin 1000 → Fin 4 → EReal := fun r k => P (ix2 r k)
abbrev pG (G : Vec Ideal S1000x81 .f32) : Fin 1000 → Fin 81 → EReal := fun r k => G (ix2 r k)

/-- The column of coordinate `k` of class `c`'s regression. -/
def dcol (c : Fin 80) (k : Fin 4) : Fin 320 := ⟨c.val * 4 + k.val, by omega⟩

theorem plane0 (G : Vec Ideal S1000x81 .f32) (r : Fin 1000) (c : Fin 80) :
    k0_pay2 G (ix3 0 r c) = Sp.score (pG G) r ⟨c.val, by omega⟩ := by
  unfold k0_pay2
  pointwise
  rfl

theorem pad0 (i : S1x24x80.Idx) : k0_pay3 (F := Ideal) i = Sp.neg := rfl

section

variable (P : Vec Ideal S1000x4 .f32) (dx dy dw dh : Vec Ideal S1000x80 .f32) (D : Fin 1000 → Fin 320 → EReal)
  (hx : ∀ r c, dx (ix2 r c) = D r (dcol c 0)) (hy : ∀ r c, dy (ix2 r c) = D r (dcol c 1))
  (hw : ∀ r c, dw (ix2 r c) = D r (dcol c 2)) (hh : ∀ r c, dh (ix2 r c) = D r (dcol c 3))
  (r : Fin 1000) (c : Fin 80)

include hx hw in
theorem plane1 : k0_pay16 (k0_pay15 (k0_pay4 P) (k0_pay6 P) (k0_pay8 dx) dw) (ix3 0 r c) = (Sp.box (pP P) D r c 0 + Sp.off c.val : EReal) := by
  unfold k0_pay16 k0_pay15 k0_pay9 k0_pay11 k0_pay13 k0_pay4 k0_pay6 k0_pay8
  pointwise
  unfold k0_pay4
  pointwise
  rw [hx, hw]
  rfl

include hy hh in
theorem plane2 : k0_pay18 (k0_pay10 (k0_pay5 P) (k0_pay7 P) dy) (k0_pay12 (k0_pay5 P) dh) (k0_pay13 (F := Ideal)) (ix3 0 r c) = (Sp.box (pP P) D r c 1 + Sp.off c.val : EReal) := by
  unfold k0_pay18 k0_pay10 k0_pay12 k0_pay13 k0_pay5 k0_pay7
  pointwise
  unfold k0_pay5
  pointwise
  rw [hy, hh]
  rfl

include hx hw in
theorem plane3 : k0_pay20 (k0_pay9 (k0_pay4 P) (k0_pay6 P) (k0_pay8 dx)) (k0_pay11 (k0_pay4 P) dw) (k0_pay13 (F := Ideal)) (ix3 0 r c) = (Sp.box (pP P) D r c 2 + Sp.off c.val : EReal) := by
  unfold k0_pay20 k0_pay9 k0_pay11 k0_pay13 k0_pay4 k0_pay6 k0_pay8
  pointwise
  unfold k0_pay4
  pointwise
  rw [hx, hw]
  rfl

include hy hh in
theorem plane4 : k0_pay22 (k0_pay10 (k0_pay5 P) (k0_pay7 P) dy) (k0_pay12 (k0_pay5 P) dh) (k0_pay13 (F := Ideal)) (ix3 0 r c) = (Sp.box (pP P) D r c 3 + Sp.off c.val : EReal) := by
  unfold k0_pay22 k0_pay10 k0_pay12 k0_pay13 k0_pay5 k0_pay7
  pointwise
  unfold k0_pay5
  pointwise
  rw [hy, hh]
  rfl

include hx hy hw hh in
theorem plane_coord (G : Vec Ideal S1000x81 .f32) (p : Fin 4) :
    densePl P G dx dy dw dh (p.val + 1) (ix3 0 r c) = (Sp.box (pP P) D r c p + Sp.off c.val : EReal) := by
  match p with
  | 0 => exact plane1 P dx dw D hx hw r c
  | 1 => exact plane2 P dy dh D hy hh r c
  | 2 => exact plane3 P dx dw D hx hw r c
  | 3 => exact plane4 P dy dh D hy hh r c

end

end Cert.Proof.KI
end
-- ==== Proof.KerPlanes.lean ====
/-
  What the tiles read and what the last host operations make, over the extended reals.
-/
module

public import proofs.«01_k».proof.Proof.KerVal
public import proofs.«01_k».proof.Proof.Launch
public import Idealize.ShloMosaic.Lib.StableHlo.RunRead

@[expose] public section

set_option maxRecDepth 16384

noncomputable section

namespace Cert.Proof.KI

open Cert.KernelIdeal Cert.KernelIdeal.Gen

open Idealize.ShloMosaic Idealize.ShloMosaic.TcCoe
open Idealize.ShloMosaic.StableHlo

/-- The arguments as plain functions. -/
abbrev gP (V : Valuation τ sig (Elt Ideal)) : Fin 1000 → Fin 4 → EReal := fun r k => (V (Proc.devRef .tc main_arg0) : Vec Ideal S1000x4 .f32) (ix2 r k)
abbrev gG (V : Valuation τ sig (Elt Ideal)) : Fin 1000 → Fin 81 → EReal := fun r k => (V (Proc.devRef .tc main_arg1) : Vec Ideal S1000x81 .f32) (ix2 r k)
abbrev gD (V : Valuation τ sig (Elt Ideal)) : Fin 1000 → Fin 320 → EReal := fun r k => (V (Proc.devRef .tc main_arg2) : Vec Ideal S1000x320 .f32) (ix2 r k)

section

variable (V : Valuation τ sig (Elt Ideal)) (r : Fin 1000) (c : Fin 80)

theorem ops1_arg0 : after ops1 V (Proc.devRef .tc main_arg0) = V (Proc.devRef .tc main_arg0) := by after_reads_simp
theorem ops1_arg1 : after ops1 V (Proc.devRef .tc main_arg1) = V (Proc.devRef .tc main_arg1) := by after_reads_simp

theorem ops1_v2 : (after ops1 V (Proc.devRef .tc main_v2) : Vec Ideal S1000x80 .f32) (ix2 r c) = gD V r (dcol c 0) := by
  after_reads_simp
  pointwise
  rfl
theorem ops1_v4 : (after ops1 V (Proc.devRef .tc main_v4) : Vec Ideal S1000x80 .f32) (ix2 r c) = gD V r (dcol c 1) := by
  after_reads_simp
  pointwise
  rfl
theorem ops1_v6 : (after ops1 V (Proc.devRef .tc main_v6) : Vec Ideal S1000x80 .f32) (ix2 r c) = gD V r (dcol c 2) := by
  after_reads_simp
  pointwise
  rfl
theorem ops1_v8 : (after ops1 V (Proc.devRef .tc main_v8) : Vec Ideal S1000x80 .f32) (ix2 r c) = gD V r (dcol c 3) := by
  after_reads_simp
  pointwise
  rfl

theorem opsR_v10 : (after opsR V (Proc.devRef .tc main_v10) : Vec Ideal S409600 .f32)
    = shapeCast S409600 (V (Proc.devRef .tc main_v9) : Vec Ideal S5x1024x80 .f32) shapeCasts_S5x1024x80_S409600 := by
  after_reads_simp
  rfl

/-- Row `q` of the suppression stage's output. -/
theorem ops2_boxes (i : Fin 100) (p : Fin 4) :
    (after ops2 V (Proc.devRef .tc main_v25) : Vec Ideal S100x4 .f32) (ix2 i p)
      = (V (Proc.devRef .tc main_v12) : Vec Ideal S6x128 .f32) (ix2 ⟨p.val, by omega⟩ ⟨i.val, by omega⟩) := by
  after_reads_simp
  fin_cases p <;> pointwise <;> after_reads_simp <;> pointwise <;> rfl
theorem ops2_scores (i : Fin 100) :
    (after ops2 V (Proc.devRef .tc main_v27) : Vec Ideal S100 .f32) (ix1 i)
      = (V (Proc.devRef .tc main_v12) : Vec Ideal S6x128 .f32) (ix2 4 ⟨i.val, by omega⟩) := by
  after_reads_simp
  pointwise
theorem ops2_classes (i : Fin 100) :
    (after ops2 V (Proc.devRef .tc main_v30) : Vec Ideal S100 .i32) (ix1 i)
      = FloatOps.fptosi (F := Ideal) (φ := .f32) 32 ((V (Proc.devRef .tc main_v12) : Vec Ideal S6x128 .f32) (ix2 5 ⟨i.val, by omega⟩)) := by
  after_reads_simp
  pointwise

end

/-- The index of plane `p`, row `r`, column `c`. -/
def ixD (p r c : ℕ) : S5x1024x80.Idx := fun a => match a with
  | ⟨0, _⟩ => ⟨p % 5, Nat.mod_lt _ (by decide)⟩ | ⟨1, _⟩ => ⟨r % 1024, Nat.mod_lt _ (by decide)⟩ | ⟨2, _⟩ => ⟨c % 80, Nat.mod_lt _ (by decide)⟩

theorem flat_at (x : Vec Ideal S5x1024x80 .f32) (p r c : ℕ) (hp : p < 5) (hr : r < 1024) (hc : c < 80) :
    shapeCast S409600 x shapeCasts_S5x1024x80_S409600 (ixP (81920 * p + (80 * r + c))) = x (ixD p r c) := by
  refine shapeCast_apply x _ _ _ ?_
  rw [Shape.rowMajor_val_one]
  refine (rowMajor_val3 _ 81920 80 rfl rfl).trans ?_
  show p % 5 * 81920 + r % 1024 * 80 + c % 80 = (81920 * p + (80 * r + c)) % 409600
  rw [Nat.mod_eq_of_lt hp, Nat.mod_eq_of_lt hr, Nat.mod_eq_of_lt hc, Nat.mod_eq_of_lt (by omega)]
  omega

theorem ixB_eq (r : Fin 1000) (c : Fin 80) : ixB r.val c.val = ix3 0 r c := by
  funext a
  match a with
  | ⟨0, _⟩ => rfl
  | ⟨1, _⟩ => exact Fin.ext (Nat.mod_eq_of_lt r.isLt)
  | ⟨2, _⟩ => exact Fin.ext (Nat.mod_eq_of_lt c.isLt)

variable (m : (ℓ : Loc nD τ sig) → ℓ.ty.Contents (Elt Ideal)) (d : Dev nD)

theorem planes_at (p r c : ℕ) (hp : p < 5) (hr : r < 1024) (hc : c < 80) :
    planes m d (ixP (81920 * p + (80 * r + c))) = dense0 (toVT (V1 m)) d (ixD p r c) := by
  unfold planes V2
  rw [opsR_v10, show V1' m d (Proc.devRef .tc main_v9) = dense0 (toVT (V1 m)) d from V1'_out m d]
  exact flat_at _ p r c hp hr hc

theorem planes_row (p : ℕ) (hp : p < 5) (r : Fin 1000) (c : Fin 80) :
    planes m d (ixP (81920 * p + (80 * r.val + c.val)))
      = densePl (V0 m d (Proc.devRef .tc main_arg0) : Vec Ideal S1000x4 .f32) (V0 m d (Proc.devRef .tc main_arg1) : Vec Ideal S1000x81 .f32)
          (V1 m d (Proc.devRef .tc main_v2)) (V1 m d (Proc.devRef .tc main_v4)) (V1 m d (Proc.devRef .tc main_v6)) (V1 m d (Proc.devRef .tc main_v8)) p (ix3 0 r c) := by
  have hr := r.isLt
  have hc := c.isLt
  rw [planes_at m d p r.val c.val hp (by omega) hc]
  unfold dense0 denseV
  have e0 : (ixD p r.val c.val 0).val = p := Nat.mod_eq_of_lt hp
  have e1 : (ixD p r.val c.val 1).val = r.val := Nat.mod_eq_of_lt (by omega)
  have e2 : (ixD p r.val c.val 2).val = c.val := Nat.mod_eq_of_lt hc
  rw [e0, e1, e2, if_pos hr, ixB_eq]
  rw [show toVT (V1 m) d main_arg0 = V0 m d (Proc.devRef .tc main_arg0) from ops1_arg0 _,
    show toVT (V1 m) d main_arg1 = V0 m d (Proc.devRef .tc main_arg1) from ops1_arg1 _]

/-- The arguments at the launch, as plain functions. -/
abbrev kO : Fin 80000 → Fin 4 → EReal := Sp.ob (gP (V0 m d)) (gD (V0 m d))
abbrev kS : Fin 80000 → EReal := Sp.sc (gG (V0 m d))

theorem planes_score (n : Fin 80000) : planes m d (ixP n.val) = kS m d n := by
  have h := planes_row m d 0 (by omega) (Sp.row n) (Sp.col n)
  have e : 81920 * 0 + (80 * (Sp.row n).val + (Sp.col n).val) = n.val := by
    show 81920 * 0 + (80 * (n.val / 80) + n.val % 80) = n.val
    omega
  rw [e] at h
  rw [h]
  exact plane0 _ _ _

theorem denseV_pad0 (P : Vec Ideal S1000x4 .f32) (G : Vec Ideal S1000x81 .f32) (dx dy dw dh : Vec Ideal S1000x80 .f32) (x : S5x1024x80.Idx)
    (h0 : (x 0).val = 0) (h1 : ¬ (x 1).val < 1000) : denseV P G dx dy dw dh x = Sp.neg := by
  unfold denseV
  rw [if_neg h1, h0]
  rfl

theorem planes_pad (n : ℕ) (h1 : 80000 ≤ n) (h2 : n < 81920) : planes m d (ixP n) = Sp.neg := by
  have h := planes_at m d 0 (n / 80) (n % 80) (by omega) (by omega) (by omega)
  rw [show 81920 * 0 + (80 * (n / 80) + n % 80) = n by omega] at h
  rw [h]
  have e0 : (ixD 0 (n / 80) (n % 80) 0).val = 0 := rfl
  have e1 : (ixD 0 (n / 80) (n % 80) 1).val = n / 80 := Nat.mod_eq_of_lt (by omega)
  have e2 : ¬ (ixD 0 (n / 80) (n % 80) 1).val < 1000 := by rw [e1]; omega
  unfold dense0
  generalize ixD 0 (n / 80) (n % 80) = x at e0 e2 ⊢
  exact denseV_pad0 _ _ _ _ _ _ _ e0 e2

theorem planes_coord (n : Fin 80000) (p : Fin 4) : planes m d (ixP (81920 * (p.val + 1) + n.val)) = kO m d n p := by
  have h := planes_row m d (p.val + 1) (by omega) (Sp.row n) (Sp.col n)
  have e : 80 * (Sp.row n).val + (Sp.col n).val = n.val := by
    show 80 * (n.val / 80) + n.val % 80 = n.val
    omega
  rw [e] at h
  rw [h]
  have hx := fun r c => ops1_v2 (V0 m d) r c
  have hy := fun r c => ops1_v4 (V0 m d) r c
  have hw := fun r c => ops1_v6 (V0 m d) r c
  have hh := fun r c => ops1_v8 (V0 m d) r c
  exact plane_coord _ _ _ _ _ (gD (V0 m d)) hx hy hw hh _ _ _ p

end Cert.Proof.KI
end
-- ==== Proof.Table.lean ====
/-
  The array the tiles make of the planes lists the elements above the threshold, when no tile has more of them than slots.
-/
module

public import proofs.«01_k».proof.Proof.NmsLoop
public import proofs.«01_k».proof.Proof.Pack
public import proofs.«01_k».proof.Proof.KerPlanes

@[expose] public section

set_option maxRecDepth 16384

noncomputable section

namespace Cert.Proof.KI

open Cert.KernelIdeal Cert.KernelIdeal.Gen

open Idealize.ShloMosaic

/-! ## Small words -/

theorem toInt_small (a : ℕ) (h : a < 90000) : (BitVec.ofNat 32 a).toInt = (a : ℤ) := by
  have e : (BitVec.ofNat 32 a).toNat = a := by rw [BitVec.toNat_ofNat]; omega
  rw [BitVec.toInt_eq_toNat_of_lt (by rw [e]; omega), e]

theorem slt_small (a b : ℕ) (ha : a < 90000) (hb : b < 90000) : (BitVec.ofNat 32 a).slt (BitVec.ofNat 32 b) = true ↔ a < b := by
  rw [BitVec.slt_iff_toInt_lt, toInt_small a ha, toInt_small b hb]
  omega

theorem zero_small (a : ℕ) (h : a < 90000) : BitVec.ofNat 32 a = 0#32 ↔ a = 0 := by
  constructor
  · intro e
    have := congrArg BitVec.toNat e
    rw [BitVec.toNat_ofNat, BitVec.toNat_ofNat] at this
    omega
  · rintro rfl; rfl

theorem sitofp_small (a : ℕ) (h : a < 90000) : (FloatOps.sitofp (F := Ideal) .f32 (BitVec.ofNat 32 a) : EReal) = ((a : ℝ) : EReal) := by
  show (((BitVec.ofNat 32 a).toInt : ℝ) : EReal) = _
  rw [toInt_small a h]
  norm_cast

/-! ## One tile -/

/-- How many slots a tile keeps free. -/
def kept (w : ℕ) : ℕ := if w = 0 then 1 else 0

variable (P : Vec Ideal S409600 .f32)

theorem chunk_at (w p k : ℕ) (hk : k < 2560) : chunkP P w p (ixC k) = P (ixP (81920 * p + 2560 * w + k)) := by
  show P (ixP (81920 * p + 2560 * w + k % 2560)) = _
  rw [Nat.mod_eq_of_lt hk]

theorem tile_spec (w : ℕ) (hw : w < 32) (h : kept w + nab (chunkP P w 0) 2560 ≤ 128) :
    (∀ x, (tileSt P w).2 x = BitVec.ofNat 32 (kept w + nab (chunkP P w 0) 2560))
      ∧ (∀ k < 2560, Abv (chunkP P w 0) k → (tileSt P w).1 (ixS (kept w + nab (chunkP P w 0) k)) = BitVec.ofNat 32 k)
      ∧ (∀ j < kept w, (tileSt P w).1 (ixS j) = 0#32) := by
  refine vstate_spec (chunkP P w 0) (kept w) (tileSt0 Ideal w) (fun _ => rfl) (fun x => ?_) h 160 le_rfl
  show k1_pay29 (BitVec.ofNat 32 w) x = _
  unfold kept
  interval_cases w <;> rfl

theorem tv_out (p : ℕ) (hp : p < 6) (i : Fin 32) (j : Fin 128) : tv (outF P) p i j = tileRow P i.val p (ixS j.val) := by
  show tileRow P (i.val % 32) (p % 6) (ixS (j.val % 128)) = _
  rw [Nat.mod_eq_of_lt i.isLt, Nat.mod_eq_of_lt hp, Nat.mod_eq_of_lt j.isLt]

/-- The slot of an element. -/
def slotOf (n : Fin 80000) : Fin 32 × Fin 128 :=
  (⟨n.val / 2560, by omega⟩, ⟨(kept (n.val / 2560) + nab (chunkP P (n.val / 2560) 0) (n.val % 2560)) % 128, Nat.mod_lt _ (by decide)⟩)

theorem table {O : Fin 80000 → Fin 4 → EReal} {S : Fin 80000 → EReal} (hs : ∀ n : Fin 80000, P (ixP n.val) = S n)
    (hp : ∀ n, 80000 ≤ n → n < 81920 → P (ixP n) = Sp.neg) (hc : ∀ (n : Fin 80000) (p : Fin 4), P (ixP (81920 * (p.val + 1) + n.val)) = O n p)
    (hk : ∀ w < 32, kept w + nab (chunkP P w 0) 2560 ≤ 128) : Tab O S (outF P) (slotOf P) := by
  have habv : ∀ w k, k < 2560 → (Abv (chunkP P w 0) k ↔ Sp.thr < P (ixP (2560 * w + k))) := fun w k hk => by
    show Sp.thr < chunkP P w 0 (ixC k) ↔ _
    rw [chunk_at P w 0 k hk, show 81920 * 0 + 2560 * w + k = 2560 * w + k by omega]
  have hn : ∀ n : Fin 80000, 2560 * (n.val / 2560) + n.val % 2560 = n.val := fun n => by omega
  have hab : ∀ n : Fin 80000, Sp.thr < S n → Abv (chunkP P (n.val / 2560) 0) (n.val % 2560) := fun n h => by
    rw [habv _ _ (by omega), hn, hs]; exact h
  have hlt : ∀ n : Fin 80000, Sp.thr < S n → kept (n.val / 2560) + nab (chunkP P (n.val / 2560) 0) (n.val % 2560) < kept (n.val / 2560) + nab (chunkP P (n.val / 2560) 0) 2560 := fun n h => by
    have h1 := nab_succ_pos _ _ (hab n h)
    have h2 := nab_mono (chunkP P (n.val / 2560) 0) (show n.val % 2560 + 1 ≤ 2560 by omega)
    omega
  have hj : ∀ n : Fin 80000, Sp.thr < S n → (slotOf P n).2.val = kept (n.val / 2560) + nab (chunkP P (n.val / 2560) 0) (n.val % 2560) := fun n h => by
    have h1 := hlt n h
    have h2 := hk (n.val / 2560) (by omega)
    exact Nat.mod_eq_of_lt (by omega)
  have hix : ∀ n : Fin 80000, Sp.thr < S n → (tileSt P (n.val / 2560)).1 (ixS (slotOf P n).2.val) = BitVec.ofNat 32 (n.val % 2560) := fun n h => by
    rw [hj n h]
    exact (tile_spec P _ (by omega) (hk _ (by omega))).2.1 _ (by omega) (hab n h)
  have hg : ∀ (n : Fin 80000) (p : ℕ), Sp.thr < S n → gathRow (chunkP P (n.val / 2560) p) (tileSt P (n.val / 2560)).1 (ixS (slotOf P n).2.val) = P (ixP (81920 * p + n.val)) := fun n p h => by
    show chunkP P (n.val / 2560) p (ixC ((tileSt P (n.val / 2560)).1 (ixS (slotOf P n).2.val) : BitVec 32).toNat) = _
    have e : (BitVec.ofNat 32 (n.val % 2560)).toNat = n.val % 2560 := by rw [BitVec.toNat_ofNat]; omega
    rw [hix n h, e, chunk_at P _ p _ (by omega), show 81920 * p + 2560 * (n.val / 2560) + n.val % 2560 = 81920 * p + n.val by omega]
  refine ⟨?_, ?_, ?_, ?_, ?_, ?_⟩
  · intro n h
    rw [tv_out P 0 (by omega)]
    have h1 := hlt n h
    have h2 := hk (n.val / 2560) (by omega)
    show scoreAt (BitVec.ofNat 32 (n.val / 2560)) (tileSt P (n.val / 2560)).2 ((slotOf P n).2.val % 128) (gathRow (chunkP P (n.val / 2560) 0) (tileSt P (n.val / 2560)).1 (ixS (slotOf P n).2.val)) = S n
    rw [hg n 0 h, show 81920 * 0 + n.val = n.val by omega, hs, Nat.mod_eq_of_lt (slotOf P n).2.isLt, hj n h]
    unfold scoreAt
    rw [if_neg, if_pos]
    · rw [(tile_spec P _ (by omega) (hk _ (by omega))).1, slt_small _ _ (by omega) (by omega)]
      exact h1
    · rintro ⟨h3, h4⟩
      rw [zero_small _ (by omega)] at h3
      rw [h3] at h4
      have : kept 0 = 1 := rfl
      omega
  · intro n h p
    rw [tv_out P _ (by omega)]
    unfold tileRow
    rw [if_neg (by omega), if_neg (by omega)]
    exact (hg n _ h).trans (hc n p)
  · intro n h
    rw [tv_out P 5 (by omega)]
    show (FloatOps.sitofp (F := Ideal) .f32 ((tileSt P (n.val / 2560)).1 (ixS (slotOf P n).2.val) + BitVec.ofNat 32 (2560 * (n.val / 2560)) : BitVec 32) : EReal) = _
    rw [hix n h, ← BitVec.ofNat_add, show n.val % 2560 + 2560 * (n.val / 2560) = n.val by omega]
    exact sitofp_small _ (by omega)
  · intro i j
    have hi := i.isLt
    have h2 := hk i.val hi
    have hT := tile_spec P i.val hi h2
    rw [tv_out P 0 (by omega)]
    show scoreAt (BitVec.ofNat 32 i.val) (tileSt P i.val).2 (j.val % 128) (gathRow (chunkP P i.val 0) (tileSt P i.val).1 (ixS j.val)) = Sp.neg ∨ _
    rw [Nat.mod_eq_of_lt j.isLt]
    unfold scoreAt
    by_cases h0 : BitVec.ofNat 32 i.val = 0#32 ∧ j.val = 0
    · rw [if_pos h0]; exact Or.inl rfl
    rw [if_neg h0]
    by_cases h1 : (BitVec.ofNat 32 j.val).slt ((tileSt P i.val).2 (ixL j.val)) = true
    · right
      rw [hT.1, slt_small _ _ (by omega) (by omega)] at h1
      have hkj : kept i.val ≤ j.val := by
        unfold kept
        split
        · rename_i e
          rcases Nat.eq_zero_or_pos j.val with e2 | e2
          · exact absurd ⟨(zero_small _ (by omega)).mpr e, e2⟩ h0
          · exact e2
        · omega
      obtain ⟨k, hk1, hk2, hk3⟩ := nab_surj (chunkP P i.val 0) 2560 (j.val - kept i.val) (by omega)
      have hk4 := (habv _ _ hk1).mp hk2
      have hlt : 2560 * i.val + k < 80000 := by
        by_contra hcon
        rw [hp _ (by omega) (by omega)] at hk4
        exact absurd hk4 (not_lt.mpr neg_lt_thr.le)
      have e1 : (2560 * i.val + k) / 2560 = i.val := by omega
      have e2 : (2560 * i.val + k) % 2560 = k := by omega
      refine ⟨⟨2560 * i.val + k, hlt⟩, by rw [← hs]; exact hk4, ?_⟩
      unfold slotOf
      apply Prod.ext
      · exact Fin.ext e1
      · apply Fin.ext
        show (kept ((2560 * i.val + k) / 2560) + nab (chunkP P ((2560 * i.val + k) / 2560) 0) ((2560 * i.val + k) % 2560)) % 128 = j.val
        rw [e1, e2, hk3, show kept i.val + (j.val - kept i.val) = j.val by omega, Nat.mod_eq_of_lt j.isLt]
    · rw [if_neg h1]; exact Or.inl rfl
  · rw [tv_out P 0 (by omega)]
    show scoreAt 0#32 (tileSt P 0).2 0 (gathRow (chunkP P 0 0) (tileSt P 0).1 (ixS 0)) = Sp.neg
    unfold scoreAt
    rw [if_pos (And.intro rfl rfl)]
    rfl
  · intro p
    rw [tv_out P _ (by omega)]
    have h0 : (tileSt P 0).1 (ixS 0) = 0#32 := (tile_spec P 0 (by omega) (hk 0 (by omega))).2.2 0 (by unfold kept; simp)
    unfold tileRow
    rw [if_neg (by omega), if_neg (by omega)]
    show chunkP P 0 (p.val + 1) (ixC ((tileSt P 0).1 (ixS 0) : BitVec 32).toNat) = O 0 p
    rw [h0, ← hc]
    exact chunk_at P 0 (p.val + 1) 0 (by omega)

end Cert.Proof.KI
end
-- ==== Proof.Few.lean ====
/-
  What the precondition says: no tile has more elements above the threshold than slots, and the scores above the threshold
  are pairwise distinct.
-/
module

public import proofs.«01_k».proof.Pre_distinct_and_few
public import proofs.«01_k».proof.Proof.Spec
public import Idealize.ShloMosaic.Lib.Pointwise
public import Idealize.ShloMosaic.Lib.ReduceAll
public import Idealize.ShloMosaic.Lib.IndicatorCount
public import Idealize.ShloMosaic.Lib.KernelVsHost

@[expose] public section

set_option maxRecDepth 16384

noncomputable section

namespace Cert.Proof.Few

open Cert.Pre_distinct_and_few Cert.Pre_distinct_and_few.Facts

open Idealize.ShloMosaic

theorem facts : Cert.Pre_distinct_and_few.Facts := by constructor <;> decide

variable [Cert.Pre_distinct_and_few.Facts]

/-- The probabilities in order of flat position. -/
def pr (G : Fin 1000 → Fin 81 → EReal) (n : Fin 80000) : EReal := Sp.prob G (Sp.row n) ⟨(Sp.col n).val, by omega⟩

theorem part1_spec (v12 : FVec Ideal S80000 .f32) (v14 : IVec S80000 1) (v17 : IVec S32x2560 32) (h : fn_part1 (F := Ideal) v12 v14 v17 (constantI S_ 32 0#32) = fun _ => 1#1) :
    (∀ w : Fin 32, IntOp.cmpi .sle (Finset.univ.fold IntOp.addi 0#32 fun k : Fin 2560 => v17 (ix2 w k)) 128#32 = 1#1)
    ∧ IntOp.cmpi .sle (Finset.univ.fold IntOp.addi 0#32 fun k : Fin 2560 => v17 (ix2 0 k)) 127#32 = 1#1
    ∧ ∀ n : Fin 80000, v14 (ix1 n) = 1#1 → IntOp.cmpi .sle (Finset.univ.fold IntOp.addi 0#32 fun k : Fin 80000 => (FloatOps.cmpf (F := Ideal) (φ := .f32) .oeq (v12 (ix1 n)) (v12 (ix1 k))).setWidth 32) 1#32 = 1#1 := by
  have h0 := congrFun h ix0
  unfold fn_part1 fn_part2 at h0
  have hand : ∀ a b : BitVec 1, a &&& b = 1#1 → a = 1#1 ∧ b = 1#1 := by decide
  have hor : ∀ a b : BitVec 1, a ||| ~~~ b = 1#1 → b = 1#1 → a = 1#1 := by decide
  obtain ⟨h1, h3⟩ := hand _ _ h0
  obtain ⟨h1, h2⟩ := hand _ _ h1
  haveI : Subsingleton S_.Idx := ⟨fun a b => funext fun x => x.elim0⟩
  refine ⟨fun w => ?_, ?_, fun n hn => ?_⟩
  · have := Host.reduce_andi_all _ _ _ _ _ h1 (ix1 w)
    pointwise at this
    exact this
  · pointwise at h2
    exact h2
  · have := hor _ _ (Host.reduce_andi_all _ _ _ _ _ h3 (ix1 n)) hn
    pointwise at this
    exact this

theorem small_le (c b : ℕ) (hc : c < 90000) (hb : b < 90000) (h : IntOp.cmpi .sle (BitVec.ofNat 32 c) (BitVec.ofNat 32 b) = 1#1) : c ≤ b := by
  have t : ∀ a : ℕ, a < 90000 → (BitVec.ofNat 32 a).toInt = (a : ℤ) := fun a ha => by
    have e : (BitVec.ofNat 32 a).toNat = a := by rw [BitVec.toNat_ofNat]; omega
    rw [BitVec.toInt_eq_toNat_of_lt (by rw [e]; omega), e]
  have h1 : (BitVec.ofNat 32 c).sle (BitVec.ofNat 32 b) = true := by
    by_contra hcon
    rw [Bool.not_eq_true] at hcon
    have : IntOp.cmpi .sle (BitVec.ofNat 32 c) (BitVec.ofNat 32 b) = BitVec.ofBool false := congrArg BitVec.ofBool hcon
    rw [this] at h
    exact absurd h (by decide)
  rw [BitVec.sle_iff_toInt_le, t c hc, t b hb] at h1
  omega

/-- The bit of an element of a tile's chunk: whether its score is above the threshold, and none for the padding. -/
def bit (v14 : IVec S80000 1) (w : Fin 32) (k : Fin 2560) : BitVec 1 := if h : 2560 * w.val + k.val < 80000 then v14 (ix1 ⟨2560 * w.val + k.val, h⟩) else 0#1

theorem chunks (v14 : IVec S80000 1) (w : Fin 32) (k : Fin 2560) :
    (shapeCast S32x2560 (fn_pad (F := Ideal) (extui 32 v14 natLt_1_32) (constantI S_ 32 0#32)) shapeCasts_S81920_S32x2560) (ix2 w k) = (bit v14 w k).setWidth 32 := by
  have hb : 2560 * w.val + k.val < 81920 := by omega
  rw [shapeCast_apply _ _ (ix2 w k) (ix1 (⟨2560 * w.val + k.val, hb⟩ : Fin 81920)) (by rw [Shape.rowMajor_val_one, Shape.rowMajor_val_two]; show 2560 * w.val + k.val = w.val * 2560 + k.val; omega)]
  unfold fn_pad bit
  split
  · rename_i h
    refine Eq.trans (pad_apply_of_inside _ _ _ _ _ _ _ _ (ix1 (⟨2560 * w.val + k.val, h⟩ : Fin 80000)) (fun a => ?_)) rfl
    obtain rfl : a = (0 : Fin 1) := Subsingleton.elim (α := Fin 1) _ _
    show 2560 * w.val + k.val = 0 + (2560 * w.val + k.val) * 1
    omega
  · rename_i h
    refine Eq.trans (pad_apply_of_not_inside _ _ _ _ _ _ _ _ (0 : Fin 1) (fun hh => h ?_)) rfl
    have := hh.2.2
    change (2560 * w.val + k.val - 0) / 1 < 80000 at this
    omega

/-- The row sums of the exponentials and the probabilities, as the precondition computes them. -/
def expV (G : FVec Ideal S1000x81 .f32) : FVec Ideal S1000x81 .f32 :=
  Host.exp (subf G (broadcastInDim S1000x81 ![0, 1] bcast_S1000x1_S1000x81_0_1 (broadcastInDim S1000x1 ![0] bcast_S1000_S1000x1_0
    (maximumf (broadcastInDim S1000 ![] bcast_S_S1000 (constant S_ .f32 0xFF800000#32))
      (Host.reduce FloatOps.maximumf G (constant S_ .f32 0xFF800000#32) reducesTo_S1000x81_S1000_d1 h_S_)))))

def probV (G : FVec Ideal S1000x81 .f32) : FVec Ideal S80000 .f32 :=
  shapeCast S80000 (extractStridedSlice S1000x80 ![0, 0] (Host.divf (expV G) (broadcastInDim S1000x81 ![0, 1] bcast_S1000x1_S1000x81_0_1
    (broadcastInDim S1000x1 ![0] bcast_S1000_S1000x1_0 (Host.reduceAdd (expV G) (constant S_ .f32 0x00000000#32) reducesTo_S1000x81_S1000_d1 h_S_))))
      slices_S1000x81_S1000x80_0_0) shapeCasts_S1000x80_S80000

theorem probV_at (G : FVec Ideal S1000x81 .f32) (n : Fin 80000) : (probV G (ix1 n) : EReal) = pr (fun r c => G (ix2 r c)) n := by
  unfold probV
  rw [shapeCast_apply _ _ (ix1 n) (ix2 (Sp.row n) (Sp.col n)) (by rw [Shape.rowMajor_val_one, Shape.rowMajor_val_two]; show n.val / 80 * 80 + n.val % 80 = n.val; omega)]
  unfold expV
  pointwise
  have hm : ∀ x : EReal, max (Ideal.ofBits FTy.f32 4286578688#32) x = x := fun x => by
    have : Ideal.ofBits FTy.f32 4286578688#32 = ⊥ := by simp [Ideal.ofBits, Ideal.ieee]
    rw [this]; exact max_eq_right bot_le
  simp only [hm]
  rfl

theorem pre_spec (P : FVec Ideal S1000x4 .f32) (G : FVec Ideal S1000x81 .f32) (D : FVec Ideal S1000x320 .f32) (h : fn (F := Ideal) P G D = fun _ => 1#1) :
    (∀ w : Fin 32, (Finset.univ.filter fun k : Fin 2560 => ∃ h : 2560 * w.val + k.val < 80000, Sp.thr < pr (fun r c => G (ix2 r c)) ⟨2560 * w.val + k.val, h⟩).card ≤ if w = 0 then 127 else 128)
    ∧ ∀ n n' : Fin 80000, Sp.thr < pr (fun r c => G (ix2 r c)) n → pr (fun r c => G (ix2 r c)) n = pr (fun r c => G (ix2 r c)) n' → n = n' := by
  obtain ⟨h1, h2, h3⟩ := part1_spec (probV G) (cmpf .ogt (probV G) (broadcastInDim S80000 ![] bcast_S_S80000 (constant S_ .f32 0x3D4CCCCD#32)))
    (shapeCast S32x2560 (fn_pad (F := Ideal) (extui 32 (cmpf .ogt (probV G) (broadcastInDim S80000 ![] bcast_S_S80000 (constant S_ .f32 0x3D4CCCCD#32))) natLt_1_32) (constantI S_ 32 0#32)) shapeCasts_S81920_S32x2560) h
  have hb : ∀ n, (cmpf .ogt (probV G) (broadcastInDim S80000 ![] bcast_S_S80000 (constant S_ .f32 0x3D4CCCCD#32)) : IVec S80000 1) (ix1 n) = 1#1
      ↔ Sp.thr < pr (fun r c => G (ix2 r c)) n := fun n => by
    rw [← probV_at]
    show (FloatOps.cmpf (F := Ideal) (φ := .f32) .ogt (probV G (ix1 n)) Sp.thr : BitVec 1) = 1#1 ↔ _
    rw [Ideal.cmpf_def]
    by_cases h : Sp.thr < probV G (ix1 n) <;> simp [Ideal.cmp, h]
  generalize (cmpf .ogt (probV G) (broadcastInDim S80000 ![] bcast_S_S80000 (constant S_ .f32 0x3D4CCCCD#32)) : IVec S80000 1) = v14 at *
  have hbit : ∀ (w : Fin 32) (k : Fin 2560), bit v14 w k = 1#1 ↔ ∃ h : 2560 * w.val + k.val < 80000, Sp.thr < pr (fun r c => G (ix2 r c)) ⟨2560 * w.val + k.val, h⟩ := fun w k => by
    unfold bit
    split
    · rename_i h'
      rw [hb]
      exact ⟨fun h => ⟨h', h⟩, fun ⟨_, h⟩ => h⟩
    · rename_i h'
      exact ⟨fun h => absurd h (by decide), fun ⟨h, _⟩ => absurd h h'⟩
  have hcard : ∀ (w : Fin 32) (b : ℕ), b < 90000 → IntOp.cmpi .sle (Finset.univ.fold IntOp.addi 0#32 fun k : Fin 2560 => (bit v14 w k).setWidth 32) (BitVec.ofNat 32 b) = 1#1
      → (Finset.univ.filter fun k : Fin 2560 => ∃ h : 2560 * w.val + k.val < 80000, Sp.thr < pr (fun r c => G (ix2 r c)) ⟨2560 * w.val + k.val, h⟩).card ≤ b := fun w b hb' he => by
    rw [IndicatorCount.fold_addi_setWidth_eq_card] at he
    have hle := Finset.card_le_univ (Finset.univ.filter fun k : Fin 2560 => bit v14 w k = 1#1)
    rw [Fintype.card_fin] at hle
    have h5 := small_le _ b (by omega) hb' he
    rw [Finset.filter_congr (fun k _ => hbit w k)] at h5
    exact h5
  have hv : ∀ (w : Fin 32), (fun k : Fin 2560 => (shapeCast S32x2560 (fn_pad (F := Ideal) (extui 32 v14 natLt_1_32) (constantI S_ 32 0#32)) shapeCasts_S81920_S32x2560) (ix2 w k))
      = fun k => (bit v14 w k).setWidth 32 := fun w => funext fun k => chunks v14 w k
  refine ⟨fun w => ?_, fun n n' hn he => ?_⟩
  · split
    · rename_i hw
      subst hw
      refine hcard 0 127 (by omega) ?_
      rw [← hv]
      exact h2
    · refine hcard w 128 (by omega) ?_
      rw [← hv]
      exact h1 w
  · have h4 := h3 n ((hb n).mpr hn)
    rw [IndicatorCount.fold_addi_setWidth_eq_card] at h4
    have hle := Finset.card_le_univ (Finset.univ.filter fun k : Fin 80000 => (FloatOps.cmpf (F := Ideal) (φ := .f32) .oeq (probV G (ix1 n)) (probV G (ix1 k))) = 1#1)
    rw [Fintype.card_fin] at hle
    have h5 := small_le _ 1 (by omega) (by omega) h4
    have hmem : ∀ k, probV G (ix1 n) = probV G (ix1 k) → k ∈ Finset.univ.filter fun k : Fin 80000 => (FloatOps.cmpf (F := Ideal) (φ := .f32) .oeq (probV G (ix1 n)) (probV G (ix1 k))) = 1#1 := fun k hk => by
      rw [Finset.mem_filter]
      refine ⟨Finset.mem_univ _, ?_⟩
      rw [← hk, Ideal.cmpf_def]
      simp [Ideal.cmp]
    rw [← probV_at, ← probV_at] at he
    exact Finset.card_le_one.mp h5 n (hmem n rfl) n' (hmem n' he)

end Cert.Proof.Few
end
-- ==== Proof.KerEnd.lean ====
/-
  What the kernel ends in, under the precondition: the specification's picks, their boxes, scores and classes.
-/
module

public import proofs.«01_k».proof.Proof.Table
public import proofs.«01_k».proof.Proof.Few

@[expose] public section

set_option maxRecDepth 16384

noncomputable section

namespace Cert.Proof.KI

open Cert.KernelIdeal Cert.KernelIdeal.Gen

open Idealize.ShloMosaic Idealize.ShloMosaic.TcCoe
open Idealize.ShloMosaic.StableHlo

variable [Cert.Pre_distinct_and_few.Facts] (m : (ℓ : Loc nD τ sig) → Buf (Elt Ideal) ℓ) (d : Dev nD)

/-- The precondition, on a device. -/
abbrev PreAt : Prop := Cert.Pre_distinct_and_few.fn (F := Ideal) (V0 m d (Proc.devRef .tc main_arg0)) (V0 m d (Proc.devRef .tc main_arg1)) (V0 m d (Proc.devRef .tc main_arg2)) = fun _ => 1#1

theorem score_of (n : Fin 80000) : kS m d n = if Sp.thr < Few.pr (gG (V0 m d)) n then Few.pr (gG (V0 m d)) n else Sp.neg := rfl

theorem score_above (n : Fin 80000) : Sp.thr < kS m d n ↔ Sp.thr < Few.pr (gG (V0 m d)) n := by
  rw [score_of]
  split
  · rfl
  · rename_i h
    exact iff_of_false (not_lt.mpr neg_lt_thr.le) h

theorem score_pr (n : Fin 80000) (h : Sp.thr < kS m d n) : kS m d n = Few.pr (gG (V0 m d)) n := by
  rw [score_of, if_pos ((score_above m d n).mp h)]

variable (hpre : PreAt m d)
include hpre

theorem scores : Scores (kS m d) := by
  obtain ⟨-, h2⟩ := Few.pre_spec _ _ _ hpre
  refine ⟨fun n => ?_, fun n n' hn he => ?_⟩
  · rw [score_of]
    split
    · rename_i h; exact Or.inl h
    · exact Or.inr rfl
  · refine h2 n n' ((score_above m d n).mp hn) ?_
    have h1 := score_pr m d n hn
    have h3 := score_pr m d n' (he ▸ hn)
    exact h1.symm.trans (he.trans h3)

theorem counts (w : ℕ) (hw : w < 32) : kept w + nab (chunkP (planes m d) w 0) 2560 ≤ 128 := by
  classical
  obtain ⟨h1, -⟩ := Few.pre_spec _ _ _ hpre
  have h := h1 ⟨w, hw⟩
  have hle : nab (chunkP (planes m d) w 0) 2560
      ≤ (Finset.univ.filter fun k : Fin 2560 => ∃ h : 2560 * w + k.val < 80000, Sp.thr < Few.pr (gG (V0 m d)) ⟨2560 * w + k.val, h⟩).card := by
    unfold nab
    rw [Nat.count_eq_card_filter_range]
    refine le_trans (Finset.card_le_card (t := (Finset.univ.filter fun k : Fin 2560 => ∃ h : 2560 * w + k.val < 80000, Sp.thr < Few.pr (gG (V0 m d)) ⟨2560 * w + k.val, h⟩).image Fin.val) ?_) Finset.card_image_le
    intro k hk
    obtain ⟨hk1, hk2⟩ := Finset.mem_filter.mp hk
    have hk1 := Finset.mem_range.mp hk1
    have hk3 : Sp.thr < planes m d (ixP (2560 * w + k)) := by
      have e := chunk_at (planes m d) w 0 k hk1
      rw [show 81920 * 0 + 2560 * w + k = 2560 * w + k by omega] at e
      rw [← e]; exact hk2
    refine Finset.mem_image.mpr ⟨⟨k, hk1⟩, Finset.mem_filter.mpr ⟨Finset.mem_univ _, ?_⟩, rfl⟩
    have hlt : 2560 * w + k < 80000 := by
      by_contra hcon
      rw [planes_pad m d _ (by omega) (by omega)] at hk3
      exact absurd hk3 (not_lt.mpr neg_lt_thr.le)
    refine ⟨hlt, (score_above m d ⟨2560 * w + k, hlt⟩).mp ?_⟩
    rw [← planes_score]
    exact hk3
  refine le_trans (Nat.add_le_add_left (hle.trans h) _) ?_
  unfold kept
  by_cases e : w = 0
  · subst e; exact le_rfl
  · rw [if_neg e, if_neg (fun h => e (congrArg Fin.val h))]

theorem tab : Tab (kO m d) (kS m d) (outF (planes m d)) (slotOf (planes m d)) :=
  table _ (planes_score m d) (planes_pad m d) (planes_coord m d) fun w hw => counts m d hpre w hw

omit hpre in
theorem V3_tab : (V3 m d (Proc.devRef .tc main_v12) : Vec Ideal S6x128 .f32) = nmsV (outF (planes m d)) :=
  (V3_out m d).trans (congrArg nmsV (V2'_out m d))

theorem end_boxes (i : Fin 100) (p : Fin 4) : (V4 m d (Proc.devRef .tc main_v25) : Vec Ideal S100x4 .f32) (ix2 i p)
    = Sp.box (gP (V0 m d)) (gD (V0 m d)) (Sp.row (Sp.arg (Sp.run (kO m d) (kS m d) i.val))) (Sp.col (Sp.arg (Sp.run (kO m d) (kS m d) i.val))) p := by
  have h := nmsV_box (scores m d hpre) (tab m d hpre) i p
  refine (ops2_boxes (V3 m d) i p).trans ?_
  rw [V3_tab]
  exact h.trans (box_off _ _)

theorem end_scores (i : Fin 100) : (V4 m d (Proc.devRef .tc main_v27) : Vec Ideal S100 .f32) (ix1 i)
    = Sp.run (kO m d) (kS m d) i.val (Sp.arg (Sp.run (kO m d) (kS m d) i.val)) := by
  have h := nmsV_score (scores m d hpre) (tab m d hpre) i
  refine (ops2_scores (V3 m d) i).trans ?_
  rw [V3_tab]
  exact h

theorem end_classes (i : Fin 100) : (V4 m d (Proc.devRef .tc main_v30) : Vec Ideal S100 .i32) (ix1 i)
    = BitVec.ofNat 32 ((Sp.arg (Sp.run (kO m d) (kS m d) i.val)).val % 80) := by
  have h := nmsV_class (scores m d hpre) (tab m d hpre) i
  refine (ops2_classes (V3 m d) i).trans ?_
  rw [V3_tab, h]
  refine (congrArg _ (sitofp_small _ (by omega))).trans (fptosi_nat _ (by omega))

end Cert.Proof.KI
end
-- ==== Proof.lean ====
/- The proof of the claim: the frames of the kernel and of its idealized form from one run, the reference's run, and the
   equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefLoop
public import proofs.«01_k».proof.Proof.KerEnd
public import Idealize.ShloMosaic.Adequacy
public import Idealize.ShloMosaic.Init

@[expose] public section

set_option maxRecDepth 16384

noncomputable section

namespace Cert.Proof

open Idealize.ShloMosaic Idealize.ShloMosaic.TcCoe Idealize.SL.Sem

section

variable {F : FTy → Type} [FloatOps F]

local instance : Cert.Kernel.Facts := Cert.Kernel.Gen.facts
local instance : Cert.KernelIdeal.Facts := Cert.KernelIdeal.Gen.facts

/-- The kernel's bodies and those of its idealized form are the same. -/
theorem bodies_eq : (Cert.Kernel.defs₀ (F := F)) = (Cert.KernelIdeal.defs₀ (F := F)) := by
  funext π ℓ a
  obtain ⟨ℓ, hℓ⟩ := ℓ
  rcases ℓ with _ | _ | _ | ℓ
  · cases π <;> rfl
  · cases π <;> rfl
  · cases π <;> rfl
  · exact absurd hℓ (by omega)

theorem defs_eq : (Cert.Kernel.defs (F := F)) = (Cert.KernelIdeal.defs (F := F)) := by
  unfold Cert.Kernel.defs Cert.KernelIdeal.defs
  rw [bodies_eq]
  rfl

theorem threads_eq : (Cert.Kernel.threads (F := F)) = (Cert.KernelIdeal.threads (F := F)) := rfl

end

theorem kernel_frame : Cert.quiescent_Kernel (hKernel := Cert.Kernel.Gen.facts) := by
  intro m ρ _
  rw [defs_eq, threads_eq]
  exact (θ_run Cert.KernelIdeal.defs _ _).mono (fun _ h => h) (KI.run_frame (F := Bits) m ρ)

theorem ideal_frame : Cert.quiescent_KernelIdeal := fun m ρ _ =>
  (θ_run Cert.KernelIdeal.defs _ _).mono (fun _ h => h) (KI.run_frame (F := Ideal) m ρ)

theorem ideal_frame_pre : Cert.quiescent_KernelIdeal_pre_distinct_and_few (hPre_distinct_and_few := Few.facts) := fun m ρ _ =>
  (θ_run Cert.KernelIdeal.defs _ _).mono (fun _ h => h) (KI.run_frame (F := Ideal) m ρ)

theorem ref_frame : Cert.quiescent_ReferenceIdeal := fun m ρ _ => RI.ref_frame (F := Ideal) m ρ

theorem ref_frame_pre : Cert.quiescent_ReferenceIdeal_pre_distinct_and_few (hPre_distinct_and_few := Few.facts) := fun m ρ _ => RI.ref_frame (F := Ideal) m ρ

section

local instance : Cert.Pre_distinct_and_few.Facts := Few.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hpre : KI.PreAt m c)
  (hO : RI.obs m' c = KI.kO m c) (hS : RI.scs m' c = KI.kS m c)

include hpre hO hS

omit hpre in
theorem picks_eq (k : ℕ) : RI.pk m' c k = Sp.arg (Sp.run (KI.kO m c) (KI.kS m c) k) := by
  rw [← hO, ← hS]

theorem box_eq (hB : RI.bxs m' c = fun n p => Sp.box (KI.gP (KI.V0 m c)) (KI.gD (KI.V0 m c)) (Sp.row n) (Sp.col n) p) (i : Fin 100) (p : Fin 4) :
    (RI.endV m' c (Proc.devRef .tc Cert.ReferenceIdeal.main_v108_5) : Vec Ideal Cert.ReferenceIdeal.S100x4 .f32) (ix2 i p)
      = (KI.V4 m c (Proc.devRef .tc Cert.KernelIdeal.main_v25) : Vec Ideal Cert.KernelIdeal.S100x4 .f32) (ix2 i p) := by
  rw [RI.end_boxes, KI.end_boxes m c hpre, hB, picks_eq m m' c hO hS]

theorem score_eq (i : Fin 100) : (RI.endV m' c (Proc.devRef .tc Cert.ReferenceIdeal.main_v108_6) : Vec Ideal Cert.ReferenceIdeal.S100 .f32) (ix1 i)
      = (KI.V4 m c (Proc.devRef .tc Cert.KernelIdeal.main_v27) : Vec Ideal Cert.KernelIdeal.S100 .f32) (ix1 i) := by
  rw [RI.end_scores, KI.end_scores m c hpre, picks_eq m m' c hO hS, hO, hS]

theorem class_eq (i : Fin 100) : (RI.endV m' c (Proc.devRef .tc Cert.ReferenceIdeal.main_v108_7) : Vec Ideal Cert.ReferenceIdeal.S100 .i32) (ix1 i)
      = (KI.V4 m c (Proc.devRef .tc Cert.KernelIdeal.main_v30) : Vec Ideal Cert.KernelIdeal.S100 .i32) (ix1 i) := by
  rw [RI.end_classes, KI.end_classes m c hpre, picks_eq m m' c hO hS]

theorem boxes_eq (hB : RI.bxs m' c = fun n p => Sp.box (KI.gP (KI.V0 m c)) (KI.gD (KI.V0 m c)) (Sp.row n) (Sp.col n) p) :
    (RI.endV m' c (Proc.devRef .tc Cert.ReferenceIdeal.main_v108_5) : Vec Ideal Cert.ReferenceIdeal.S100x4 .f32)
      = (KI.V4 m c (Proc.devRef .tc Cert.KernelIdeal.main_v25) : Vec Ideal Cert.KernelIdeal.S100x4 .f32) := by
  funext x
  rw [show x = ix2 (x 0) (x 1) from eq_ix2 x]
  exact box_eq m m' c hpre hO hS hB (x 0) (x 1)

theorem scores_eq : (RI.endV m' c (Proc.devRef .tc Cert.ReferenceIdeal.main_v108_6) : Vec Ideal Cert.ReferenceIdeal.S100 .f32)
      = (KI.V4 m c (Proc.devRef .tc Cert.KernelIdeal.main_v27) : Vec Ideal Cert.KernelIdeal.S100 .f32) := by
  funext x
  rw [show x = ix1 (x 0) from eq_ix1 x]
  exact score_eq m m' c hpre hO hS (x 0)

theorem classes_eq : (RI.endV m' c (Proc.devRef .tc Cert.ReferenceIdeal.main_v108_7) : Vec Ideal Cert.ReferenceIdeal.S100 .i32)
      = (KI.V4 m c (Proc.devRef .tc Cert.KernelIdeal.main_v30) : Vec Ideal Cert.KernelIdeal.S100 .i32) := by
  funext x
  rw [show x = ix1 (x 0) from eq_ix1 x]
  exact class_eq m m' c hpre hO hS (x 0)

end

theorem values : Cert.algebraic_KernelIdeal_ReferenceIdeal_pre_distinct_and_few (hPre_distinct_and_few := Few.facts) := by
  intro m g m' g' hpre hargs
  have hP : ∀ c, RI.fP (RI.V₀ m' c) = KI.gP (KI.V0 m c) := fun c => funext fun r => funext fun k => congrFun (hargs c).1 (ix2 r k)
  have hG : ∀ c, RI.fG (RI.V₀ m' c) = KI.gG (KI.V0 m c) := fun c => funext fun r => funext fun k => congrFun (hargs c).2.1 (ix2 r k)
  have hD : ∀ c, RI.fD (RI.V₀ m' c) = KI.gD (KI.V0 m c) := fun c => funext fun r => funext fun k => congrFun (hargs c).2.2 (ix2 r k)
  have hO : ∀ c, RI.obs m' c = KI.kO m c := fun c => by unfold RI.obs KI.kO; rw [hP, hD]
  have hS : ∀ c, RI.scs m' c = KI.kS m c := fun c => by unfold RI.scs KI.kS; rw [hG]
  have hB : ∀ c, RI.bxs m' c = fun n p => Sp.box (KI.gP (KI.V0 m c)) (KI.gD (KI.V0 m c)) (Sp.row n) (Sp.col n) p := fun c => by unfold RI.bxs; rw [hP, hD]
  refine ⟨fun c => KI.V4 m c (Proc.devRef .tc Cert.KernelIdeal.main_v25), fun c => KI.V4 m c (Proc.devRef .tc Cert.KernelIdeal.main_v27),
    fun c => KI.V4 m c (Proc.devRef .tc Cert.KernelIdeal.main_v30), ?_, ?_⟩
  · exact (θ_run Cert.KernelIdeal.defs _ _).mono (fun _ h c =>
      ⟨h.1 c Cert.KernelIdeal.main_v25 rfl, h.1 c Cert.KernelIdeal.main_v27 rfl, h.1 c Cert.KernelIdeal.main_v30 rfl,
        (h.1 c Cert.KernelIdeal.main_arg0 rfl).trans (KI.V4_kept m c (by decide)), (h.1 c Cert.KernelIdeal.main_arg1 rfl).trans (KI.V4_kept m c (by decide)),
        (h.1 c Cert.KernelIdeal.main_arg2 rfl).trans (KI.V4_kept m c (by decide))⟩) (KI.run_main m g)
  · exact (θ_run Cert.ReferenceIdeal.defs _ _).mono (fun _ h c =>
      ⟨(h c Cert.ReferenceIdeal.main_v108_5 rfl).trans (boxes_eq m m' c (hpre c) (hO c) (hS c) (hB c)),
        (h c Cert.ReferenceIdeal.main_v108_6 rfl).trans (scores_eq m m' c (hpre c) (hO c) (hS c)),
        (h c Cert.ReferenceIdeal.main_v108_7 rfl).trans (classes_eq m m' c (hpre c) (hO c) (hS c)),
        (h c Cert.ReferenceIdeal.main_arg0 rfl).trans (RI.arg_kept m' c _ (by decide +kernel) (by decide +kernel) (by decide +kernel) (by decide +kernel)),
        (h c Cert.ReferenceIdeal.main_arg1 rfl).trans (RI.arg_kept m' c _ (by decide +kernel) (by decide +kernel) (by decide +kernel) (by decide +kernel)),
        (h c Cert.ReferenceIdeal.main_arg2 rfl).trans (RI.arg_kept m' c _ (by decide +kernel) (by decide +kernel) (by decide +kernel) (by decide +kernel))⟩) (RI.run_ref m' g')

theorem claim : Cert.Claim :=
  ⟨Cert.Kernel.Gen.facts, Cert.KernelIdeal.Gen.facts, Cert.ReferenceIdeal.Gen.facts, Few.facts,
    kernel_frame, ideal_frame, ideal_frame_pre, ref_frame, ref_frame_pre, trivial, values⟩

end Cert.Proof

end
